-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v28_1)) (v1 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28_1) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S100000 : Shape := ⟨1, ![100000]⟩
abbrev S143x128 : Shape := ⟨2, ![143, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S143x128 : S_.BroadcastsInDim S143x128 (![] : Fin 0 → Fin S143x128.rank)
  reducesTo_S143x128_S_d0_1 : S143x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg1 : IVec S100000 32) (main_v28 : IVec S_ 1) (main_v33 : IVec S100000 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg1 main_v34
  let main_v36 : IVec S100000 1 := andi main_v33 main_v35
  let main_c_13 : IVec S_ 32 := constantI S_ 32 512#32
  let main_v37 : IVec S100000 32 := broadcastInDim S100000 ![] bcast_S_S100000 main_c_13
  let main_v38 : IVec S100000 1 := cmpi .slt main_arg1 main_v37
  let main_v39 : IVec S100000 1 := andi main_v36 main_v38
  let main_c_14 : IVec S_ 1 := constantI S_ 1 1#1
  let main_v40 : IVec S_ 1 := (fun x v => Host.reduce IntOp.andi x v reducesTo_S100000_S_d0 h_S_) main_v39 main_c_14
  let main_v41 : IVec S_ 1 := andi main_v40 main_v28
  main_v41

def fn_part1 {F : FTy → Type} [FloatOps F] (main_arg0 : IVec S100000 32) (main_arg1 : IVec S100000 32) (main_arg9 : FVec F S256x256 .f32) (main_arg11 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg9
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_c_10 : IVec S_ 32 := constantI S_ 32 0#32
  let main_v29 : IVec S100000 32 := broadcastInDim S100000 ![] bcast_S_S100000 main_c_10
  let main_v30 : IVec S100000 1 := cmpi .sge main_arg0 main_v29
  let main_c_11 : IVec S_ 32 := constantI S_ 32 143#32
  let main_v31 : IVec S100000 32 := broadcastInDim S100000 ![] bcast_S_S100000 main_c_11
  let main_v32 : IVec S100000 1 := cmpi .slt main_arg0 main_v31
  let main_v33 : IVec S100000 1 := andi main_v30 main_v32
  fn_part2 (F := F) main_arg1 main_v28 main_v33

def fn {F : FTy → Type} [FloatOps F] (main_arg0 : IVec S100000 32) (main_arg1 : IVec S100000 32) (main_arg2 : FVec F S143x128 .f32) (main_arg3 : FVec F S128x128 .f32) (main_arg4 : FVec F S128 .f32) (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) : IVec S_ 1 :=
  let main_v0 : FVec F S143x128 .f32 := Host.absf main_arg2
  let main_cst : FVec F S_ .f32 := constant S_ .f32 0x7F800000#32
  let main_v1 : FVec F S143x128 .f32 := broadcastInDim S143x128 ![] bcast_S_S143x128 main_cst
  let main_v2 : IVec S143x128 1 := cmpf .olt main_v0 main_v1
  let main_c : IVec S_ 1 := constantI S_ 1 1#1
  let main_v3 : IVec S_ 1 := (fun x v => Host.reduce IntOp.andi x v reducesTo_S143x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg1 main_arg9 main_arg11 main_v13 main_v16
-- ==== Pre_in_range.lean ====
abbrev S100000 : Shape := ⟨1, ![100000]⟩
abbrev S143x128 : Shape := ⟨2, ![143, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : IVec S100000 32) (main_arg1 : IVec S100000 32) (main_arg2 : FVec F S143x128 .f32) (main_arg3 : FVec F S128x128 .f32) (main_arg4 : FVec F S128 .f32) (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) : IVec S100000 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 32 := constantI S_ 32 143#32
  let main_v2 : IVec S100000 32 := broadcastInDim S100000 ![] bcast_S_S100000 main_c_0
  let main_v3 : IVec S100000 1 := cmpi .slt main_arg0 main_v2
  let main_v4 : IVec S100000 1 := andi main_v1 main_v3
  let main_c_1 : IVec S_ 32 := constantI S_ 32 0#32
  let main_v5 : IVec S100000 32 := broadcastInDim S100000 ![] bcast_S_S100000 main_c_1
  let main_v6 : IVec S100000 1 := cmpi .sge main_arg1 main_v5
  let main_v7 : IVec S100000 1 := andi main_v4 main_v6
  let main_c_2 : IVec S_ 32 := constantI S_ 32 512#32
  let main_v8 : IVec S100000 32 := broadcastInDim S100000 ![] bcast_S_S100000 main_c_2
  let main_v9 : IVec S100000 1 := cmpi .slt main_arg1 main_v8
  let main_v10 : IVec S100000 1 := andi main_v7 main_v9
  main_v10
-- ==== Kernel.lean ====
abbrev S100000 : Shape := ⟨1, ![100000]⟩
abbrev S143x128 : Shape := ⟨2, ![143, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩
abbrev S102400 : Shape := ⟨1, ![102400]⟩
abbrev S25x1x4096 : Shape := ⟨3, ![25, 1, 4096]⟩
abbrev S144x128 : Shape := ⟨2, ![144, 128]⟩
abbrev S73728 : Shape := ⟨1, ![73728]⟩
abbrev S2359296 : Shape := ⟨1, ![2359296]⟩
abbrev S3200 : Shape := ⟨1, ![3200]⟩
abbrev S16 : Shape := ⟨1, ![16]⟩
abbrev S16384x144 : Shape := ⟨2, ![16384, 144]⟩
abbrev S512x144 : Shape := ⟨2, ![512, 144]⟩
abbrev S1x128 : Shape := ⟨2, ![1, 128]⟩
abbrev S1x256 : Shape := ⟨2, ![1, 256]⟩
abbrev S102400x256 : Shape := ⟨2, ![102400, 256]⟩
abbrev S512x128 : Shape := ⟨2, ![512, 128]⟩
abbrev S1x1x4096 : Shape := ⟨3, ![1, 1, 4096]⟩
abbrev S4096x256 : Shape := ⟨2, ![4096, 256]⟩
abbrev S512 : Shape := ⟨1, ![512]⟩
abbrev S512x1 : Shape := ⟨2, ![512, 1]⟩
abbrev S4096 : Shape := ⟨1, ![4096]⟩
abbrev S4096x1 : Shape := ⟨2, ![4096, 1]⟩
abbrev S1x144 : Shape := ⟨2, ![1, 144]⟩
abbrev S4096x144 : Shape := ⟨2, ![4096, 144]⟩
abbrev S1x512 : Shape := ⟨2, ![1, 512]⟩
abbrev S4096x512 : Shape := ⟨2, ![4096, 512]⟩
abbrev S4096x128 : Shape := ⟨2, ![4096, 128]⟩
abbrev S1x4096 : Shape := ⟨2, ![1, 4096]⟩
abbrev S512x4096 : Shape := ⟨2, ![512, 4096]⟩
abbrev S512x256 : Shape := ⟨2, ![512, 256]⟩
abbrev S100000x256 : Shape := ⟨2, ![100000, 256]⟩

abbrev nBuf : Table → Nat
  | .hbm => 54
  | .local .tc .vmem => 50
  | .local .scVector .vmem => 3
  | _ => 0

abbrev bufTy : (tb : Table) → Fin (nBuf tb) → BufTy
  | .hbm, ⟨0, _⟩ => ⟨S100000, .i32⟩
  | .hbm, ⟨1, _⟩ => ⟨S100000, .i32⟩
  | .hbm, ⟨2, _⟩ => ⟨S143x128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S_, .i32⟩
  | .hbm, ⟨16, _⟩ => ⟨S_, .i32⟩
  | .hbm, ⟨17, _⟩ => ⟨S102400, .i32⟩
  | .hbm, ⟨18, _⟩ => ⟨S_, .i32⟩
  | .hbm, ⟨19, _⟩ => ⟨S_, .i32⟩
  | .hbm, ⟨20, _⟩ => ⟨S102400, .i32⟩
  | .hbm, ⟨21, _⟩ => ⟨S25x1x4096, .i32⟩
  | .hbm, ⟨22, _⟩ => ⟨S25x1x4096, .i32⟩
  | .hbm, ⟨23, _⟩ => ⟨S_, .i32⟩
  | .hbm, ⟨24, _⟩ => ⟨S_, .f32⟩
  | .hbm, ⟨25, _⟩ => ⟨S144x128, .f32⟩
  | .hbm, ⟨26, _⟩ => ⟨S144x128, .bf16⟩
  | .hbm, ⟨27, _⟩ => ⟨S_, .f32⟩
  | .hbm, ⟨28, _⟩ => ⟨S73728, .f32⟩
  | .hbm, ⟨29, _⟩ => ⟨S2359296, .f32⟩
  | .hbm, ⟨30, _⟩ => ⟨S16384x144, .f32⟩
  | .hbm, ⟨31, _⟩ => ⟨S512x144, .f32⟩
  | .hbm, ⟨32, _⟩ => ⟨S128x128, .bf16⟩
  | .hbm, ⟨33, _⟩ => ⟨S1x128, .f32⟩
  | .hbm, ⟨34, _⟩ => ⟨S128x256, .bf16⟩
  | .hbm, ⟨35, _⟩ => ⟨S1x256, .f32⟩
  | .hbm, ⟨36, _⟩ => ⟨S102400x256, .bf16⟩
  | .hbm, ⟨37, _⟩ => ⟨S512x128, .f32⟩
  | .hbm, ⟨38, _⟩ => ⟨S128x256, .bf16⟩
  | .hbm, ⟨39, _⟩ => ⟨S1x256, .f32⟩
  | .hbm, ⟨40, _⟩ => ⟨S256x256, .bf16⟩
  | .hbm, ⟨41, _⟩ => ⟨S1x256, .f32⟩
  | .hbm, ⟨42, _⟩ => ⟨S256x256, .bf16⟩
  | .hbm, ⟨43, _⟩ => ⟨S1x256, .f32⟩
  | .hbm, ⟨44, _⟩ => ⟨S102400x256, .bf16⟩
  | .hbm, ⟨45, _⟩ => ⟨S512x256, .f32⟩
  | .hbm, ⟨46, _⟩ => ⟨S256x256, .bf16⟩
  | .hbm, ⟨47, _⟩ => ⟨S1x256, .f32⟩
  | .hbm, ⟨48, _⟩ => ⟨S256x256, .bf16⟩
  | .hbm, ⟨49, _⟩ => ⟨S1x256, .f32⟩
  | .hbm, ⟨50, _⟩ => ⟨S256x256, .bf16⟩
  | .hbm, ⟨51, _⟩ => ⟨S1x256, .f32⟩
  | .hbm, ⟨52, _⟩ => ⟨S100000x256, .f32⟩
  | .hbm, ⟨53, _⟩ => ⟨S512x256, .f32⟩
  | .local .tc .vmem, ⟨0, _⟩ => ⟨S512x144, .f32⟩
  | .local .tc .vmem, ⟨1, _⟩ => ⟨S512x144, .f32⟩
  | .local .tc .vmem, ⟨2, _⟩ => ⟨S512x144, .f32⟩
  | .local .tc .vmem, ⟨3, _⟩ => ⟨S1x1x4096, .i32⟩
  | .local .tc .vmem, ⟨4, _⟩ => ⟨S1x1x4096, .i32⟩
  | .local .tc .vmem, ⟨5, _⟩ => ⟨S1x1x4096, .i32⟩
  | .local .tc .vmem, ⟨6, _⟩ => ⟨S1x1x4096, .i32⟩
  | .local .tc .vmem, ⟨7, _⟩ => ⟨S512x144, .f32⟩
  | .local .tc .vmem, ⟨8, _⟩ => ⟨S144x128, .bf16⟩
  | .local .tc .vmem, ⟨9, _⟩ => ⟨S128x128, .bf16⟩
  | .local .tc .vmem, ⟨10, _⟩ => ⟨S1x128, .f32⟩
  | .local .tc .vmem, ⟨11, _⟩ => ⟨S128x256, .bf16⟩
  | .local .tc .vmem, ⟨12, _⟩ => ⟨S1x256, .f32⟩
  | .local .tc .vmem, ⟨13, _⟩ => ⟨S4096x256, .bf16⟩
  | .local .tc .vmem, ⟨14, _⟩ => ⟨S4096x256, .bf16⟩
  | .local .tc .vmem, ⟨15, _⟩ => ⟨S512x128, .f32⟩
  | .local .tc .vmem, ⟨16, _⟩ => ⟨S512x128, .bf16⟩
  | .local .tc .vmem, ⟨17, _⟩ => ⟨S144x128, .bf16⟩
  | .local .tc .vmem, ⟨18, _⟩ => ⟨S4096x256, .bf16⟩
  | .local .tc .vmem, ⟨19, _⟩ => ⟨S4096x256, .bf16⟩
  | .local .tc .vmem, ⟨20, _⟩ => ⟨S1x1x4096, .i32⟩
  | .local .tc .vmem, ⟨21, _⟩ => ⟨S1x1x4096, .i32⟩
  | .local .tc .vmem, ⟨22, _⟩ => ⟨S512x144, .f32⟩
  | .local .tc .vmem, ⟨23, _⟩ => ⟨S512x128, .f32⟩
  | .local .tc .vmem, ⟨24, _⟩ => ⟨S128x256, .bf16⟩
  | .local .tc .vmem, ⟨25, _⟩ => ⟨S1x256, .f32⟩
  | .local .tc .vmem, ⟨26, _⟩ => ⟨S256x256, .bf16⟩
  | .local .tc .vmem, ⟨27, _⟩ => ⟨S1x256, .f32⟩
  | .local .tc .vmem, ⟨28, _⟩ => ⟨S256x256, .bf16⟩
  | .local .tc .vmem, ⟨29, _⟩ => ⟨S1x256, .f32⟩
  | .local .tc .vmem, ⟨30, _⟩ => ⟨S4096x256, .bf16⟩
  | .local .tc .vmem, ⟨31, _⟩ => ⟨S4096x256, .bf16⟩
  | .local .tc .vmem, ⟨32, _⟩ => ⟨S512x256, .f32⟩
  | .local .tc .vmem, ⟨33, _⟩ => ⟨S512x256, .bf16⟩
  | .local .tc .vmem, ⟨34, _⟩ => ⟨S4096x256, .bf16⟩
  | .local .tc .vmem, ⟨35, _⟩ => ⟨S4096x256, .bf16⟩
  | .local .tc .vmem, ⟨36, _⟩ => ⟨S1x1x4096, .i32⟩
  | .local .tc .vmem, ⟨37, _⟩ => ⟨S1x1x4096, .i32⟩
  | .local .tc .vmem, ⟨38, _⟩ => ⟨S512x144, .f32⟩
  | .local .tc .vmem, ⟨39, _⟩ => ⟨S512x256, .f32⟩
  | .local .tc .vmem, ⟨40, _⟩ => ⟨S256x256, .bf16⟩
  | .local .tc .vmem, ⟨41, _⟩ => ⟨S1x256, .f32⟩
  | .local .tc .vmem, ⟨42, _⟩ => ⟨S256x256, .bf16⟩
  | .local .tc .vmem, ⟨43, _⟩ => ⟨S1x256, .f32⟩
  | .local .tc .vmem, ⟨44, _⟩ => ⟨S256x256, .bf16⟩
  | .local .tc .vmem, ⟨45, _⟩ => ⟨S1x256, .f32⟩
  | .local .tc .vmem, ⟨46, _⟩ => ⟨S4096x256, .f32⟩
  | .local .tc .vmem, ⟨47, _⟩ => ⟨S4096x256, .f32⟩
  | .local .tc .vmem, ⟨48, _⟩ => ⟨S512x256, .f32⟩
  | .local .tc .vmem, ⟨49, _⟩ => ⟨S512x256, .bf16⟩
  | .local .scVector .vmem, ⟨0, _⟩ => ⟨S3200, .i32⟩
  | .local .scVector .vmem, ⟨1, _⟩ => ⟨S3200, .i32⟩
  | .local .scVector .vmem, ⟨2, _⟩ => ⟨S73728, .f32⟩
  | _, _ => ⟨S100000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 50 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTables nBuf rfl bufTy 4 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_c_0 : Ref sig .tc := ⟨.hbm, 18, rfl⟩
abbrev main_call1_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_1 : Ref sig .tc := ⟨.hbm, 23, rfl⟩
abbrev main_call2_v0 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v0_scv : Ref sig .scVector := ⟨.hbm, 17, rfl⟩
abbrev main_v1_scv : Ref sig .scVector := ⟨.hbm, 20, rfl⟩
abbrev main_v6_scv : Ref sig .scVector := ⟨.hbm, 28, rfl⟩
abbrev main_v7_scv : Ref sig .scVector := ⟨.hbm, 29, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc2_stg8_1 : Ref sig .tc := ⟨.vmem, 14, rfl⟩
abbrev cc2_stg9_0 : Ref sig .tc := ⟨.vmem, 15, rfl⟩
abbrev cc2_scratch0 : Ref sig .tc := ⟨.vmem, 16, rfl⟩
abbrev cc2_scratch1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc3_stg9_0 : Ref sig .tc := ⟨.vmem, 29, rfl⟩
abbrev cc3_stg10_0 : Ref sig .tc := ⟨.vmem, 30, rfl⟩
abbrev cc3_stg10_1 : Ref sig .tc := ⟨.vmem, 31, rfl⟩
abbrev cc3_stg11_0 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg10_0 : Ref sig .tc := ⟨.vmem, 46, rfl⟩
abbrev cc4_stg10_1 : Ref sig .tc := ⟨.vmem, 47, rfl⟩
abbrev cc4_stg11_0 : Ref sig .tc := ⟨.vmem, 48, rfl⟩
abbrev cc4_scratch0 : Ref sig .tc := ⟨.vmem, 49, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem8_0 : DmaSem sig := 17
abbrev cc2_sem8_1 : DmaSem sig := 18
abbrev cc2_sem9_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem10_0 : DmaSem sig := 32
abbrev cc3_sem10_1 : DmaSem sig := 33
abbrev cc3_sem11_0 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem8_0 : DmaSem sig := 45
abbrev cc4_sem9_0 : DmaSem sig := 46
abbrev cc4_sem10_0 : DmaSem sig := 47
abbrev cc4_sem10_1 : DmaSem sig := 48
abbrev cc4_sem11_0 : DmaSem sig := 49
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  ![v2.toNat]
@[reducible] def k0_t1_loop : Scf.Loop 32 :=
  let c0_i32_0 : BitVec 32 := 0#32
  let c200_i32 : BitVec 32 := 200#32
  let v4 : BitVec 32 := Scalar.addi c0_i32_0 c200_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32 : BitVec 32 := 16#32
  let v8 : BitVec 32 := Scalar.muli arg9 c16_i32
  let v9 : Index := Scalar.indexCast v8
  ![v9.toNat]

def k0_chk1 (v16 : IVec S16 32) : Prop :=
  (∀ a x, ((![v16] : Fin 1 → IVec S16 32) a x).toNat < S73728.size a)
theorem k0_idx1_inb : ∀ (v16 : IVec S16 32) (k0_hw1 : k0_chk1 v16), ∀ a x, ((![v16] : Fin 1 → IVec S16 32) a x).toNat < S73728.size a := fun v16 k0_hw1 => k0_hw1
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v6 : BitVec 32 := Scalar.muli v1 c512_i32
  let c144_i32 : BitVec 32 := 144#32
  let v7 : BitVec 32 := Scalar.muli v6 c144_i32
  ![v7.toNat]
abbrev grid1 : Pipeline.Grid := ⟨1, ![32], ![false]⟩

def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k1_cond2 (i : grid1.Coords) : BitVec 1 :=
  let arg0 : BitVec 32 := BitVec.ofNat 32 (i 0).val
  let c0_i32_2 : BitVec 32 := 0#32
  let v5 : BitVec 1 := Scalar.cmpi .ne arg0 c0_i32_2
  let v6 : BitVec 32 := Scalar.extui v5
  let c0_i32_3 : BitVec 32 := 0#32
  let v7 : BitVec 1 := Scalar.cmpi .ne v6 c0_i32_3
  v7

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![25], ![false]⟩

def k2_cond2 (i : grid2.Coords) : BitVec 1 :=
  let arg0 : BitVec 32 := BitVec.ofNat 32 (i 0).val
  let c0_i32_20 : BitVec 32 := 0#32
  let v49 : BitVec 1 := Scalar.cmpi .eq arg0 c0_i32_20
  let v50 : BitVec 32 := Scalar.extui v49
  let c0_i32_21 : BitVec 32 := 0#32
  let v51 : BitVec 1 := Scalar.cmpi .ne v50 c0_i32_21
  v51

def k2_cond3 (i : grid2.Coords) : BitVec 1 :=
  let arg0 : BitVec 32 := BitVec.ofNat 32 (i 0).val
  let c0_i32_22 : BitVec 32 := 0#32
  let v52 : BitVec 1 := Scalar.cmpi .ne arg0 c0_i32_22
  let v53 : BitVec 32 := Scalar.extui v52
  let c0_i32_23 : BitVec 32 := 0#32
  let v54 : BitVec 1 := Scalar.cmpi .ne v53 c0_i32_23
  v54

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x144 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S144x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4096x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S512x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![25], ![false]⟩

def k3_cond2 (i : grid3.Coords) : BitVec 1 :=
  let arg0 : BitVec 32 := BitVec.ofNat 32 (i 0).val
  let c0_i32_19 : BitVec 32 := 0#32
  let v42 : BitVec 1 := Scalar.cmpi .eq arg0 c0_i32_19
  let v43 : BitVec 32 := Scalar.extui v42
  let c0_i32_20 : BitVec 32 := 0#32
  let v44 : BitVec 1 := Scalar.cmpi .ne v43 c0_i32_20
  v44

def k3_cond3 (i : grid3.Coords) : BitVec 1 :=
  let arg0 : BitVec 32 := BitVec.ofNat 32 (i 0).val
  let c0_i32_21 : BitVec 32 := 0#32
  let v45 : BitVec 1 := Scalar.cmpi .ne arg0 c0_i32_21
  let v46 : BitVec 32 := Scalar.extui v45
  let c0_i32_22 : BitVec 32 := 0#32
  let v47 : BitVec 1 := Scalar.cmpi .ne v46 c0_i32_22
  v47

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x4096 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x144 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4096x256 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S512x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev grid4 : Pipeline.Grid := ⟨1, ![25], ![false]⟩

def k4_cond2 (i : grid4.Coords) : BitVec 1 :=
  let arg0 : BitVec 32 := BitVec.ofNat 32 (i 0).val
  let c0_i32_19 : BitVec 32 := 0#32
  let v42 : BitVec 1 := Scalar.cmpi .eq arg0 c0_i32_19
  let v43 : BitVec 32 := Scalar.extui v42
  let c0_i32_20 : BitVec 32 := 0#32
  let v44 : BitVec 1 := Scalar.cmpi .ne v43 c0_i32_20
  v44

def k4_cond3 (i : grid4.Coords) : BitVec 1 :=
  let arg0 : BitVec 32 := BitVec.ofNat 32 (i 0).val
  let c0_i32_21 : BitVec 32 := 0#32
  let v45 : BitVec 1 := Scalar.cmpi .ne arg0 c0_i32_21
  let v46 : BitVec 32 := Scalar.extui v45
  let c0_i32_22 : BitVec 32 := 0#32
  let v47 : BitVec 1 := Scalar.cmpi .ne v46 c0_i32_22
  v47

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4096x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x4096 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x144 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x256 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S256x256 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x256 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S4096x256 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 1 → Memref sig .tc .vmem S512x256 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000 : Shape := ⟨1, ![100000]⟩
abbrev S143x128 : Shape := ⟨2, ![143, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩
abbrev S100000x1 : Shape := ⟨2, ![100000, 1]⟩
abbrev S100000x128 : Shape := ⟨2, ![100000, 128]⟩
abbrev S512x128 : Shape := ⟨2, ![512, 128]⟩
abbrev S512x1 : Shape := ⟨2, ![512, 1]⟩
abbrev S1x128 : Shape := ⟨2, ![1, 128]⟩
abbrev S100000x256 : Shape := ⟨2, ![100000, 256]⟩
abbrev S1x256 : Shape := ⟨2, ![1, 256]⟩
abbrev S512x256 : Shape := ⟨2, ![512, 256]⟩

abbrev nBuf : Space → Nat
  | .hbm => 145
  | .vmem => 0
  | .smem => 0
  | _ => 0

abbrev hbmTy0_0 (i : Nat) : BufTy := match i % 128 with
  | 0 => ⟨S100000, .i32⟩
  | 1 => ⟨S100000, .i32⟩
  | 2 => ⟨S143x128, .f32⟩
  | 3 => ⟨S128x128, .f32⟩
  | 4 => ⟨S128, .f32⟩
  | 5 => ⟨S128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x128, .f32⟩
  | 24 => ⟨S_, .f32⟩
  | 25 => ⟨S512x128, .f32⟩
  | 26 => ⟨S100000x1, .i32⟩
  | 27 => ⟨S512x128, .f32⟩
  | 28 => ⟨S_, .f32⟩
  | 29 => ⟨S100000x1, .f32⟩
  | 30 => ⟨S_, .f32⟩
  | 31 => ⟨S512x1, .f32⟩
  | 32 => ⟨S100000x1, .i32⟩
  | 33 => ⟨S512x1, .f32⟩
  | 34 => ⟨S_, .f32⟩
  | 35 => ⟨S512x1, .f32⟩
  | 36 => ⟨S512x1, .f32⟩
  | 37 => ⟨S512x128, .f32⟩
  | 38 => ⟨S512x128, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x256, .f32⟩
  | 60 => ⟨S1x256, .f32⟩
  | 61 => ⟨S100000x256, .f32⟩
  | 62 => ⟨S100000x256, .f32⟩
  | 63 => ⟨S_, .f32⟩
  | 64 => ⟨S512x256, .f32⟩
  | 65 => ⟨S100000x1, .i32⟩
  | 66 => ⟨S512x256, .f32⟩
  | 67 => ⟨S_, .f32⟩
  | 68 => ⟨S100000x1, .f32⟩
  | 69 => ⟨S_, .f32⟩
  | 70 => ⟨S512x1, .f32⟩
  | 71 => ⟨S100000x1, .i32⟩
  | 72 => ⟨S512x1, .f32⟩
  | 73 => ⟨S_, .f32⟩
  | 74 => ⟨S512x1, .f32⟩
  | 75 => ⟨S512x1, .f32⟩
  | 76 => ⟨S512x256, .f32⟩
  | 77 => ⟨S512x256, .f32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x256, .f32⟩
  | 87 => ⟨S_, .f32⟩
  | 88 => ⟨S100000x256, .f32⟩
  | 89 => ⟨S100000x256, .f32⟩
  | 90 => ⟨S100000x256, .f32⟩
  | 91 => ⟨S100000x256, .f32⟩
  | 92 => ⟨S1x256, .f32⟩
  | 93 => ⟨S100000x256, .f32⟩
  | 94 => ⟨S100000x256, .f32⟩
  | 95 => ⟨S_, .f32⟩
  | 96 => ⟨S100000x256, .f32⟩
  | 97 => ⟨S100000x256, .f32⟩
  | 98 => ⟨S100000x256, .f32⟩
  | 99 => ⟨S1x256, .f32⟩
  | 100 => ⟨S100000x256, .f32⟩
  | 101 => ⟨S100000x256, .f32⟩
  | 102 => ⟨S_, .f32⟩
  | 103 => ⟨S512x256, .f32⟩
  | 104 => ⟨S100000x1, .i32⟩
  | 105 => ⟨S512x256, .f32⟩
  | 106 => ⟨S_, .f32⟩
  | 107 => ⟨S100000x1, .f32⟩
  | 108 => ⟨S_, .f32⟩
  | 109 => ⟨S512x1, .f32⟩
  | 110 => ⟨S100000x1, .i32⟩
  | 111 => ⟨S512x1, .f32⟩
  | 112 => ⟨S_, .f32⟩
  | 113 => ⟨S512x1, .f32⟩
  | 114 => ⟨S512x1, .f32⟩
  | 115 => ⟨S512x256, .f32⟩
  | 116 => ⟨S512x256, .f32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x256, .f32⟩
  | 126 => ⟨S_, .f32⟩
  | 127 => ⟨S100000x256, .f32⟩
  | _ => ⟨S100000, .i32⟩

abbrev hbmTy0_1 (i : Nat) : BufTy := match i % 128 with
  | 0 => ⟨S100000x256, .f32⟩
  | 1 => ⟨S100000x256, .f32⟩
  | 2 => ⟨S100000x256, .f32⟩
  | 3 => ⟨S1x256, .f32⟩
  | 4 => ⟨S100000x256, .f32⟩
  | 5 => ⟨S100000x256, .f32⟩
  | 6 => ⟨S_, .f32⟩
  | 7 => ⟨S100000x256, .f32⟩
  | 8 => ⟨S100000x256, .f32⟩
  | 9 => ⟨S100000x256, .f32⟩
  | 10 => ⟨S1x256, .f32⟩
  | 11 => ⟨S100000x256, .f32⟩
  | 12 => ⟨S100000x256, .f32⟩
  | 13 => ⟨S_, .f32⟩
  | 14 => ⟨S512x256, .f32⟩
  | 15 => ⟨S100000x1, .i32⟩
  | 16 => ⟨S512x256, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_cst_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_19 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_c_21 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_22 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_23 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_24 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩

abbrev nD : Nat := 1
abbrev τ : Topo := Topo.v7x

variable {F : FTy → Type} [FloatOps F]
-- ==== Proof.Hist.lean ====
/-
  The histogram one SparseCore task builds, as a function: lane after lane, one is added at the place the lane's two
  words name, where the lane's graph word is below 512. A trip of the task's loop, a masked scatter-add of sixteen
  lanes, is sixteen steps of it.
-/
module

public import proofs.«01_k».proof.Proof.Gen.KernelIdeal.Skeleton

@[expose] public section

noncomputable section

namespace Cert.Proof.Hist

open Idealize.ShloMosaic Cert.KernelIdeal Cert.KernelIdeal.Gen

variable {F : FTy → Type} [FloatOps F]

/-- Word `n` of a vector of words, 0 past its end. -/
def at1 {N : ℕ} (f : (⟨1, ![N]⟩ : Shape).Idx → BitVec 32) (n : ℕ) : BitVec 32 :=
  if h : n < N then f (fun a => ⟨n, by rw [Fin.eq_zero a]; exact h⟩) else 0

theorem at1_val {N : ℕ} (f : (⟨1, ![N]⟩ : Shape).Idx → BitVec 32) (x : (⟨1, ![N]⟩ : Shape).Idx) : at1 f (x 0).val = f x := by
  have h : (x 0).val < N := (x 0).isLt
  unfold at1; rw [dif_pos h]; congr 1; funext a; apply Fin.ext; rw [Fin.eq_zero a]

/-- One lane, at graph word `a` and type word `b`. -/
def bump (a b : BitVec 32) (g : S73728.Idx → F .f32) : S73728.Idx → F .f32 :=
  if BitVec.slt a 512#32 = true then
    fun j => if (j 0).val = (a * 144#32 + b).toNat then FloatOps.idxAddf (g j) (Scalar.ofBits .f32 0x3F800000#32) else g j
  else g

/-- The first `n` lanes, over the contents `z`. -/
def hist (u s : ℕ → BitVec 32) (z : S73728.Idx → F .f32) : ℕ → S73728.Idx → F .f32
  | 0 => z
  | n + 1 => bump (s n) (u n) (hist u s z n)

theorem foldl_finRange {α : Type} (n : ℕ) (step : α → Fin n → α) (G : ℕ → α)
    (h : ∀ k : Fin n, step (G k.val) k = G (k.val + 1)) : (List.finRange n).foldl step (G 0) = G n := by
  induction n with
  | zero => rfl
  | succ n ih =>
    rw [List.finRange_succ_last, List.foldl_append, List.foldl_map]
    rw [ih (fun g k => step g k.castSucc) (fun k => h k.castSucc)]
    exact h (Fin.last n)

/-- No lane read: the table as it began. -/
theorem hist_zero (u s : ℕ → BitVec 32) (z : S73728.Idx → F .f32) : hist u s z (16 * 0) = z := rfl

/-- One trip. -/
theorem storeIdx_hist (u s : ℕ → BitVec 32) (z : S73728.Idx → F .f32) (n : ℕ) (v10 v13 : Vec F S16 .i32)
    (h10 : ∀ x : S16.Idx, v10 x = s (n + (x 0).val)) (h13 : ∀ x : S16.Idx, v13 x = u (n + (x 0).val))
    (h : ∀ a x, ((![k0_pay2 v10 v13] : Fin 1 → IVec S16 32) a x).toNat < S73728.size a) :
    storeIdx (F := F) (e := .f32) (hist u s z n) ![k0_pay2 v10 v13] (k0_pay1 (F := F)) (k0_pay3 v10) true h = hist u s z (n + 16) := by
  unfold storeIdx
  refine foldl_finRange 16 _ (fun k => hist u s z (n + k)) fun k => ?_
  show _ = bump (s (n + k.val)) (u (n + k.val)) (hist u s z (n + k.val))
  have e10 : v10 (Shape.ofLane k) = s (n + k.val) := h10 _
  have e13 : v13 (Shape.ofLane k) = u (n + k.val) := h13 _
  have em : k0_pay3 v10 (Shape.ofLane k) = BitVec.ofBool (BitVec.slt (s (n + k.val)) 512#32) := by
    rw [← e10]; rfl
  have ei : k0_pay2 v10 v13 (Shape.ofLane k) = s (n + k.val) * 144#32 + u (n + k.val) := by
    rw [← e10, ← e13]; rfl
  unfold bump
  dsimp only
  rw [em]
  by_cases hc : BitVec.slt (s (n + k.val)) 512#32 = true
  · rw [if_pos hc, if_pos (show BitVec.ofBool (BitVec.slt (s (n + k.val)) 512#32) = 1 by rw [hc]; rfl)]
    funext j
    have hj : (∀ a, (j a).val = (idxAt (![k0_pay2 v10 v13] : Fin 1 → IVec S16 32) h (Shape.ofLane k) a).val)
        ↔ (j 0).val = (s (n + k.val) * 144#32 + u (n + k.val)).toNat := by
      rw [← ei]
      constructor
      · intro hh; exact hh 0
      · intro hh a; rw [Fin.eq_zero a]; exact hh
    by_cases hjj : (j 0).val = (s (n + k.val) * 144#32 + u (n + k.val)).toNat
    · rw [if_pos (hj.mpr hjj), if_pos hjj]
      have : idxAt (![k0_pay2 v10 v13] : Fin 1 → IVec S16 32) h (Shape.ofLane k) = j :=
        funext fun a => Fin.ext ((hj.mpr hjj) a).symm
      rw [this]; rfl
    · rw [if_neg (fun hh => hjj (hj.mp hh)), if_neg hjj]
  · rw [if_neg hc, if_neg]
    rw [Bool.not_eq_true] at hc; rw [hc]; decide

end Cert.Proof.Hist

end
-- ==== Proof.Tile.lean ====
/-
  The SparseCore call: thirty-two tasks (two SparseCores, sixteen tiles each), each counting its 3200 rows into a
  histogram of its own. The task's run at a symbolic core and tile, with the histogram's value: the three fetches, the
  200 trips of the counting loop at the invariant "the table holds the first 16 t lanes' histogram", the write-out.
-/
module

public import proofs.«01_k».proof.Defs
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.Sc

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type}

/-! ## The program as the launch theorem sees it -/

/-- How many TensorCore kernels @main calls beside the SparseCore call. -/
abbrev NP : ℕ := 4

abbrev ΛP : Labels := Pipeline.Sig Λ₀ (Fin NP) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the TensorCore pipelines' rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The buffers -/

/-- The type words, the graph words, the zeros and the tables written, as locations of device `d`. -/
abbrev uR : Ref sig .tc := main_v0
abbrev sR : Ref sig .tc := main_v1
abbrev zR : Ref sig .tc := main_v6
abbrev oR : Ref sig .tc := main_v7
abbrev uLoc (d : Dev nD) : Loc nD τ sig := (SparseCore.T d).loc uR
abbrev sLoc (d : Dev nD) : Loc nD τ sig := (SparseCore.T d).loc sR
abbrev zLoc (d : Dev nD) : Loc nD τ sig := (SparseCore.T d).loc zR
abbrev oLoc (d : Dev nD) : Loc nD τ sig := (SparseCore.T d).loc oR

abbrev uV : Memref sig .scVector .hbm S102400 .i32 := Memref.whole main_v0_scv
abbrev sV : Memref sig .scVector .hbm S102400 .i32 := Memref.whole main_v1_scv
abbrev zV : Memref sig .scVector .hbm S73728 .f32 := Memref.whole main_v6_scv
abbrev oV : Memref sig .scVector .hbm S2359296 .f32 := Memref.whole main_v7_scv
abbrev tU : Memref sig .scVector .vmem S3200 .i32 := Memref.whole cc0_scratch0
abbrev tS : Memref sig .scVector .vmem S3200 .i32 := Memref.whole cc0_scratch1
abbrev tH : Memref sig .scVector .vmem S73728 .f32 := Memref.whole cc0_scratch2

/-! ## What the call is given and what it leaves -/

/-- The arrays' contents when the call is made: type words, graph words, zeros, and the output's before. -/
structure Given (F : FTy → Type) where
  u : S102400.Idx → BitVec 32
  s : S102400.Idx → BitVec 32
  z : S73728.Idx → F .f32
  o : S2359296.Idx → F .f32

/-- Every pair of words names a place of the table. -/
def Given.InRange (G : Given F) : Prop := ∀ n < 102400, (at1 G.s n * 144#32 + at1 G.u n).toNat < 73728

variable [FloatOps F]

attribute [local irreducible] hist

/-- The histogram of rows `3200 w …` up to 3200 of them, at place `j`. -/
def Given.table (G : Given F) (w : ℕ) : S73728.Idx → F .f32 :=
  hist (fun k => at1 G.u (3200 * w + k)) (fun k => at1 G.s (3200 * w + k)) G.z 3200

/-- The output of the call: table `p / 73728` at place `p mod 73728`. -/
def Given.out (G : Given F) : S2359296.Idx → F .f32 := fun p =>
  G.table ((p 0).val / 73728) (fun a => ⟨(p 0).val % 73728, by rw [Fin.eq_zero a]; exact Nat.mod_lt _ (by decide)⟩)

variable (G : Dev nD → Given F)

section Tile

variable (d : Dev nD) (L : grid0.Coords)

abbrev cV (L : grid0.Coords) : Fin τ.nSC := (L 0).castLE hcore0
abbrev jV (L : grid0.Coords) : Fin τ.nSub := (L 1).castLE hsub0
/-- A task's number. -/
abbrev wid (L : grid0.Coords) : ℕ := 2 * (L 1).val + (L 0).val

abbrev iRect (L : grid0.Coords) : Rect S102400 := Rect.unit (s := S102400) (k0_off1 L) S3200.size (k0_off1_inb L)
abbrev oRect (L : grid0.Coords) : Rect S2359296 := Rect.unit (s := S2359296) (k0_off3 L) S73728.size (k0_off3_inb L)
abbrev uK (L : grid0.Coords) : Memref sig .scVector .hbm S3200 .i32 := uV.slice (iRect L) (fun _ => rfl)
abbrev sK (L : grid0.Coords) : Memref sig .scVector .hbm S3200 .i32 := sV.slice (iRect L) (fun _ => rfl)
abbrev oK (L : grid0.Coords) : Memref sig .scVector .hbm S73728 .f32 := oV.slice (oRect L) (fun _ => rfl)

abbrev iSet (L : grid0.Coords) : Finset S102400.Idx := (uK L).view.set
abbrev oSet (L : grid0.Coords) : Finset S2359296.Idx := (oK L).view.set

/-- The share of the zeros task `L` reads at. -/
abbrev zq (L : grid0.Coords) : PosShare TreeShare := leaf 5 fullShare ⟨(16 * (L 0).val + (L 1).val) % 32, Nat.mod_lt _ (by decide)⟩

/-- What task `L` is given. -/
abbrev goPts (L : grid0.Coords) : sProp 𝕄 :=
  iprop((uLoc d ↦[iSet L]{fullShare} (G d).u) ∗ (sLoc d ↦[iSet L]{fullShare} (G d).s) ∗ (zLoc d ↦{zq L} (G d).z) ∗ (oLoc d ↦[oSet L]{fullShare} (G d).o))
/-- What it hands back. -/
abbrev tdPts (L : grid0.Coords) : sProp 𝕄 :=
  iprop((uLoc d ↦[iSet L]{fullShare} (G d).u) ∗ (sLoc d ↦[iSet L]{fullShare} (G d).s) ∗ (zLoc d ↦{zq L} (G d).z) ∗ (oLoc d ↦[oSet L]{fullShare} (G d).out))

theorem pts_tU (f : Buf (Elt F) ((V d (cV L) (jV L)).loc cc0_scratch0)) :
    ((tU).view.loc (V d (cV L) (jV L)) ↦{fullShare} f : sProp 𝕄) = (V d (cV L) (jV L)).loc cc0_scratch0 ↦{fullShare} f := rfl
theorem pts_tS (f : Buf (Elt F) ((V d (cV L) (jV L)).loc cc0_scratch1)) :
    ((tS).view.loc (V d (cV L) (jV L)) ↦{fullShare} f : sProp 𝕄) = (V d (cV L) (jV L)).loc cc0_scratch1 ↦{fullShare} f := rfl
theorem pts_tH (f : Buf (Elt F) ((V d (cV L) (jV L)).loc cc0_scratch2)) :
    ((tH).view.loc (V d (cV L) (jV L)) ↦{fullShare} f : sProp 𝕄) = (V d (cV L) (jV L)).loc cc0_scratch2 ↦{fullShare} f := rfl
theorem pts_tH_whole (f : Buf (Elt F) ((V d (cV L) (jV L)).loc cc0_scratch2)) :
    (((tH).access (.whole S73728)).loc (V d (cV L) (jV L)) ↦[((tH).access (.whole S73728)).set]{fullShare} f : sProp 𝕄)
      = (tH).view.loc (V d (cV L) (jV L)) ↦{fullShare} f := by
  rw [show ((tH).access (.whole S73728)).set = Finset.univ from Memref.set_access_whole (cc0_scratch2 : Ref sig .scVector)]
theorem pts_uK (f : Buf (Elt F) (uLoc d)) :
    ((uK L).view.loc (V d (cV L) (jV L)) ↦[(uK L).view.set]{fullShare} f : sProp 𝕄) = uLoc d ↦[iSet L]{fullShare} f := rfl
theorem pts_sK (f : Buf (Elt F) (sLoc d)) :
    ((sK L).view.loc (V d (cV L) (jV L)) ↦[(sK L).view.set]{fullShare} f : sProp 𝕄) = sLoc d ↦[iSet L]{fullShare} f := rfl
theorem pts_oK (f : Buf (Elt F) (oLoc d)) :
    ((oK L).view.loc (V d (cV L) (jV L)) ↦[(oK L).view.set]{fullShare} f : sProp 𝕄) = oLoc d ↦[oSet L]{fullShare} f := rfl
theorem pts_zV (q : PosShare TreeShare) (f : Buf (Elt F) (zLoc d)) :
    ((zV).view.loc (V d (cV L) (jV L)) ↦{q} f : sProp 𝕄) = zLoc d ↦{q} f := rfl

abbrev c0 (d : Dev nD) (c : Fin τ.nSC) (i : Fin τ.nSub) : GSem nD τ sig := (V d c i, .dma cc0_scoped0.sem)
abbrev c1 (d : Dev nD) (c : Fin τ.nSC) (i : Fin τ.nSub) : GSem nD τ sig := (V d c i, .dma cc0_scoped1.sem)
abbrev c2 (d : Dev nD) (c : Fin τ.nSC) (i : Fin τ.nSub) : GSem nD τ sig := (V d c i, .dma cc0_scoped2.sem)
abbrev c3 (d : Dev nD) (c : Fin τ.nSC) (i : Fin τ.nSub) : GSem nD τ sig := (V d c i, .dma cc0_scoped3.sem)

omit [FloatOps F] in
theorem ownSems0_V :
    (ownSems0 (V d (cV L) (jV L)) : sProp 𝕄)
      = iprop(semVal (c0 d (cV L) (jV L)) 0 ∗ semVal (c1 d (cV L) (jV L)) 0 ∗ semVal (c2 d (cV L) (jV L)) 0 ∗ semVal (c3 d (cV L) (jV L)) 0
          ∗ bigSep (((((ownCells (V d (cV L) (jV L))).erase (c0 d (cV L) (jV L))).erase (c1 d (cV L) (jV L))).erase (c2 d (cV L) (jV L))).erase (c3 d (cV L) (jV L)))
              fun g => semVal g 0) := by
  have m0 : c0 d (cV L) (jV L) ∈ ownCells (V d (cV L) (jV L)) := mem_ownCells.mpr ⟨rfl, by
    show (SemLoc.dma cc0_scoped0.sem : SemLoc sig).isScoped .scVector = true; decide⟩
  have m1 : c1 d (cV L) (jV L) ∈ ownCells (V d (cV L) (jV L)) := mem_ownCells.mpr ⟨rfl, by
    show (SemLoc.dma cc0_scoped1.sem : SemLoc sig).isScoped .scVector = true; decide⟩
  have m2 : c2 d (cV L) (jV L) ∈ ownCells (V d (cV L) (jV L)) := mem_ownCells.mpr ⟨rfl, by
    show (SemLoc.dma cc0_scoped2.sem : SemLoc sig).isScoped .scVector = true; decide⟩
  have m3 : c3 d (cV L) (jV L) ∈ ownCells (V d (cV L) (jV L)) := mem_ownCells.mpr ⟨rfl, by
    show (SemLoc.dma cc0_scoped3.sem : SemLoc sig).isScoped .scVector = true; decide⟩
  have n10 : c1 d (cV L) (jV L) ≠ c0 d (cV L) (jV L) := by simp [c1, c0]; decide
  have n20 : c2 d (cV L) (jV L) ≠ c0 d (cV L) (jV L) := by simp [c2, c0]; decide
  have n21 : c2 d (cV L) (jV L) ≠ c1 d (cV L) (jV L) := by simp [c2, c1]; decide
  have n30 : c3 d (cV L) (jV L) ≠ c0 d (cV L) (jV L) := by simp [c3, c0]; decide
  have n31 : c3 d (cV L) (jV L) ≠ c1 d (cV L) (jV L) := by simp [c3, c1]; decide
  have n32 : c3 d (cV L) (jV L) ≠ c2 d (cV L) (jV L) := by simp [c3, c2]; decide
  unfold SparseCore.Cfg.ownSems0
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The chunk of the type words a task fetched. -/
abbrev cu (L : grid0.Coords) (f : S102400.Idx → BitVec 32) : S3200.Idx → BitVec 32 := fun x => at1 f (3200 * wid L + (x 0).val)

/-- What a fetch lands. -/
theorem fetch_eq (f : S102400.Idx → BitVec 32) : (uK L).view.read (Elt F) f = cu L f := by
  funext x
  rw [show (uK L).view.read (Elt F) f x = f ((uK L).view.emb x) from (View.read_apply _ _).trans (cast_eq _ _)]
  have : (((uK L).view.emb x) 0).val = 3200 * wid L + (x 0).val := by
    show (k0_off1 L) 0 + 1 * (x 0).val = _
    rw [k0_off1_eq]; simp [wid]; omega
  rw [cu, ← this]; exact (at1_val (N := 102400) f ((uK L).view.emb x)).symm
theorem fetch_eq' (f : S102400.Idx → BitVec 32) : (sK L).view.read (Elt F) f = cu L f := fetch_eq (F := F) L f

/-- A trip's load of sixteen words. -/
theorem load_eq (b : S3200.Idx → BitVec 32) (t : Fin k0_t1_loop.trips) (x : S16.Idx) (f : ℕ → BitVec 32) (h : ∀ y : S3200.Idx, b y = f (y 0).val) :
    (tS).view.readAt (Elt F) (Rect.unit (s := S3200) (k0_off2 t) S16.size (k0_off2_inb t)).toLoadRect b x = f (16 * t.val + (x 0).val) := by
  simp only [View.readAt_apply, Memref.view_whole, View.read_whole]
  rw [h]; congr 1
  rw [LoadRect.idx_apply]
  show (k0_off2 t) 0 + 1 * (x 0).val = _
  rw [k0_off2_eq]; simp

theorem load_eq' (b : S3200.Idx → BitVec 32) (t : Fin k0_t1_loop.trips) (x : S16.Idx) (f : ℕ → BitVec 32) (h : ∀ y : S3200.Idx, b y = f (y 0).val) :
    (tU).view.readAt (Elt F) (Rect.unit (s := S3200) (k0_off2 t) S16.size (k0_off2_inb t)).toLoadRect b x = f (16 * t.val + (x 0).val) :=
  load_eq (F := F) b t x f h

/-- What the write-out leaves on the task's part of the output. -/
theorem out_eq (f : S2359296.Idx → F .f32) (w : S73728.Idx → F .f32) (hw : w = (G d).table (wid L)) (x : S2359296.Idx) (hx : x ∈ oSet L) :
    (oK L).view.writes (Elt F) f [⟨Rect.whole S73728, w⟩] x = (G d).out x := by
  obtain ⟨y, -, rfl⟩ := Finset.mem_map.mp hx
  rw [← View.write_univ_eq_writes_whole]
  have h0 : (((oK L).view.emb y) 0).val = 73728 * wid L + (y 0).val := by
    show (k0_off3 L) 0 + 1 * (y 0).val = _
    rw [k0_off3_eq]; simp [wid]; omega
  have hy : (y 0).val < 73728 := (y 0).isLt
  rw [View.write_emb_of_mem _ _ (Finset.mem_univ _), hw]
  unfold Given.out
  refine (cast_eq _ _).trans ?_
  rw [show (((oK L).view.emb y) 0).val / 73728 = wid L by rw [h0]; omega]
  refine congrArg _ ?_
  funext a; rw [Fin.eq_zero a]; apply Fin.ext
  show (y 0).val = (((oK L).view.emb y) 0).val % 73728
  rw [h0]; omega

theorem chk_of (v10 v13 : Vec F S16 .i32) (h : ∀ x : S16.Idx, (v10 x * 144#32 + v13 x).toNat < 73728) : k0_chk1 (k0_pay2 v10 v13) := by
  intro a l; rw [Fin.eq_zero a]; exact h l

/-- The counting loop's invariant: the words fetched as they were, the table the histogram of the lanes read. -/
def inv (fu fs : S3200.Idx → BitVec 32) (O : CellTallies nD τ sig (HIx 1)) (W : Waits sig (HIx 1)) (n : Nat) (_ : BitVec 32) : sProp 𝕄 :=
  iprop(((tU).view.loc (V d (cV L) (jV L)) ↦{fullShare} fu) ∗ ((tS).view.loc (V d (cV L) (jV L)) ↦{fullShare} fs)
    ∗ ((tH).view.loc (V d (cV L) (jV L)) ↦{fullShare}
        hist (fun k => at1 (G d).u (3200 * wid L + k)) (fun k => at1 (G d).s (3200 * wid L + k)) (G d).z (16 * n))
    ∗ owes (V d (cV L) (jV L)) O W)

theorem tile_body (hF : (K (F := F)).Facts) (hG : (G d).InRange) (O : CellTallies nD τ sig (HIx 1)) (W : Waits sig (HIx 1)) (hO : ∀ g, O g none = 0) :
    iprop(levAts (K (F := F)).L (K (F := F)).lev ∗ emp ∗ goPts G d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_hist_body L uV (Memref.isWhole_whole _) sV (Memref.isWhole_whole _) zV (Memref.isWhole_whole _) oV (Memref.isWhole_whole _)
            tU (Memref.isWhole_whole _) tS (Memref.isWhole_whole _) tH (Memref.isWhole_whole _) cc0_scoped0 cc0_scoped1 cc0_scoped2 cc0_scoped3)
          fun _ => iprop(tdPts G d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hw : wid L < 32 := by have := (L 0).isLt; have := (L 1).isLt; simp [wid, grid0] at *; omega
  have hrange : ∀ k < 3200, (at1 (G d).s (3200 * wid L + k) * 144#32 + at1 (G d).u (3200 * wid L + k)).toNat < 73728 :=
    fun k hk => hG _ (by omega)
  simp only [cc0__sc_hist_body_eq_skeleton]; unfold cc0__sc_hist_body_skel
  rw [(K (F := F)).scopedBufs_V hF d (cV L) (jV L), SparseCore.Cfg.scopedSems0_V (Val := Elt F) d (cV L) (jV L), ownSems0_V, ownBufs_V]
  iintro ⟨#Hlv, -, ⟨Hu, Hs, Hz, Ho⟩, ⟨⟨%f0, H0⟩, ⟨%f1, H1⟩, ⟨%f2, H2⟩, Hbufs⟩, ⟨HsA, HsB, HsC, HsD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hu' := (Entails.of_eq (pts_uK (F := F) d L _).symm) $$ Hu
  ihave Hs' := (Entails.of_eq (pts_sK (F := F) d L _).symm) $$ Hs
  ihave Ho' := (Entails.of_eq (pts_oK (F := F) d L _).symm) $$ Ho
  ihave Hz' := (Entails.of_eq (pts_zV (F := F) d L _ _).symm) $$ Hz
  ihave H0' := (Entails.of_eq (pts_tU (F := F) d L _).symm) $$ H0
  ihave H1' := (Entails.of_eq (pts_tS (F := F) d L _).symm) $$ H1
  ihave H2' := (Entails.of_eq (pts_tH (F := F) d L _).symm) $$ H2
  sl_exec
  have eH0 : View.write (Elt F) (tU).view f0 (tile_body.sl.dma0 G d L) Finset.univ = cu L (G d).u :=
    (View.write_whole_univ _ _ _).trans (fetch_eq (F := F) L _)
  have eH1 : View.write (Elt F) (tS).view f1 (tile_body.sl.dma0_1 G d L) Finset.univ = cu L (G d).s :=
    (View.write_whole_univ _ _ _).trans (fetch_eq' (F := F) L _)
  have eH2 : View.write (Elt F) (tH).view f2 (tile_body.sl.dma0_2 G d) Finset.univ = (G d).z :=
    (View.write_whole_univ _ _ _).trans (by unfold tile_body.sl.dma0_2; rfl)
  rw [eH0, eH1, eH2]
  sl_for (inv G d L (cu L (G d).u) (cu L (G d).s) O
    (insert (SemLoc.dma cc0_scoped2.sem, (default : HIx 1)) (insert (SemLoc.dma cc0_scoped1.sem, (default : HIx 1)) (insert (SemLoc.dma cc0_scoped0.sem, (default : HIx 1)) W)))) $$ [H0' H1' H2' HO]
  case region =>
    intro k acc
    have hk : k.val < 200 := lt_of_lt_of_eq k.isLt (by decide)
    unfold inv
    iintro ⟨H0, H1, H2, HO⟩
    have ls : ∀ x : S16.Idx, (tS).view.readAt (Elt F) (Rect.unit (s := S3200) (k0_off2 k) S16.size (k0_off2_inb k)).toLoadRect (cu L (G d).s) x
        = at1 (G d).s (3200 * wid L + (16 * k.val + (x 0).val)) := fun x =>
      load_eq (F := F) (cu L (G d).s) k x (fun n => at1 (G d).s (3200 * wid L + n)) (fun _ => rfl)
    have lu : ∀ x : S16.Idx, (tU).view.readAt (Elt F) (Rect.unit (s := S3200) (k0_off2 k) S16.size (k0_off2_inb k)).toLoadRect (cu L (G d).u) x
        = at1 (G d).u (3200 * wid L + (16 * k.val + (x 0).val)) := fun x =>
      load_eq' (F := F) (cu L (G d).u) k x (fun n => at1 (G d).u (3200 * wid L + n)) (fun _ => rfl)
    have hchk := chk_of ((tS).view.readAt (Elt F) (Rect.unit (s := S3200) (k0_off2 k) S16.size (k0_off2_inb k)).toLoadRect (cu L (G d).s))
      ((tU).view.readAt (Elt F) (Rect.unit (s := S3200) (k0_off2 k) S16.size (k0_off2_inb k)).toLoadRect (cu L (G d).u)) (fun x => by
      rw [ls x, lu x]; exact hrange _ (by have := (x 0).isLt; simp at this; omega))
    sl_exec
    ihave H2' := (Entails.of_eq (pts_tH_whole (F := F) d L _).symm) $$ H2
    iapply (SparseCore.wp_vectorStoreIdx 𝒱₀ (V d (cV L) (jV L)) none Set.univ (base := tH)) $$ H2'; iintro H2
    have eV : ∀ h, ((tH).access (.whole S73728)).write (Elt F) (hist (fun k => at1 (G d).u (3200 * wid L + k)) (fun k => at1 (G d).s (3200 * wid L + k)) (G d).z (16 * k.val))
        (storeIdx (((tH).access (.whole S73728)).read (Elt F) (hist (fun k => at1 (G d).u (3200 * wid L + k)) (fun k => at1 (G d).s (3200 * wid L + k)) (G d).z (16 * k.val)))
          ![tile_body.sl.v16 G d L k] (k0_pay1 (F := F))
          (k0_pay3 ((tS).view.readAt (Elt F) (Rect.unit (s := S3200) (k0_off2 k) S16.size (k0_off2_inb k)).toLoadRect (cu L (G d).s))) true h) Finset.univ
        = hist (fun k => at1 (G d).u (3200 * wid L + k)) (fun k => at1 (G d).s (3200 * wid L + k)) (G d).z (16 * (k.val + 1)) := by
      intro h
      refine (Memref.write_access_whole_univ (Elt F) (cc0_scratch2 : Ref sig .scVector) _ _).trans ?_
      rw [show ((tH).access (.whole S73728)).read (Elt F) (hist (fun k => at1 (G d).u (3200 * wid L + k)) (fun k => at1 (G d).s (3200 * wid L + k)) (G d).z (16 * k.val))
        = hist (fun k => at1 (G d).u (3200 * wid L + k)) (fun k => at1 (G d).s (3200 * wid L + k)) (G d).z (16 * k.val)
        from Memref.read_access_whole (Elt F) (cc0_scratch2 : Ref sig .scVector) _]
      exact storeIdx_hist _ _ (G d).z (16 * k.val) _ _ (fun x => ls x) (fun x => lu x) h
    ihave H2' := (Entails.of_eq ((pts_tH_whole (F := F) d L _).trans (congrArg _ (eV _)))) $$ H2
    sl_step
    isplitl [H0]; · iexact H0
    isplitl [H1]; · iexact H1
    isplitl [H2']; · iexact H2'
    iexact HO
  · unfold inv
    rw [hist_zero]
    isplitl [H0']; · iexact H0'
    isplitl [H1']; · iexact H1'
    isplitl [H2']; · iexact H2'
    iexact HO
  iintro %_ HI
  unfold inv
  have ht : Scf.trips k0_t1_loop.lb k0_t1_loop.ub k0_t1_loop.st = 200 := by decide
  rw [ht]
  icases HI with ⟨H0', H1', H2', HO⟩
  sl_exec
  sl_step
  have hT : tile_body.sl.dma0_3 G d L = (G d).table (wid L) := by
    unfold tile_body.sl.dma0_3
    rfl
  isplitl [Hu' Hs' Hz' Ho']
  · isplitl [Hu']; · iapply (Entails.of_eq (pts_uK (F := F) d L _)); iexact Hu'
    isplitl [Hs']; · iapply (Entails.of_eq (pts_sK (F := F) d L _)); iexact Hs'
    isplitl [Hz']; · iapply (Entails.of_eq (pts_zV (F := F) d L _ _)); iexact Hz'
    iapply (Entails.of_eq (pts_oK (F := F) d L _))
    iapply (Entails.of_eq (pointsTo_congr (ℓ := oLoc d) (I := oSet L) (fun x hx => out_eq G d L _ _ hT x hx))); iexact Ho'
  isplitl [H0' H1' H2' Hbufs]
  · isplitl [H0']; · iexists _; iexact H0'
    isplitl [H1']; · iexists _; iexact H1'
    isplitl [H2']; · iexists _; iexact H2'
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Sc

end
-- ==== Proof.Call.lean ====
/-
  The SparseCore call as the launch theorem takes it: what the start and the end of the call carry for each SparseCore
  and each tile, the tile's obligation, the split of the four arrays over the thirty-two tasks and their join, and the
  launch element of the ghost state.
-/
module

public import proofs.«01_k».proof.Proof.Tile
public import proofs.«01_k».proof.Proof.Gen.KernelIdeal.Launch
public import Idealize.ShloMosaic.Lib.Pipeline.Sound

@[expose] public section

noncomputable section

namespace Cert.Proof.Sc

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig (HIx 1) (Elt F) ℕ UU ℕ

variable (G : Dev nD → Given F)

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

/-- The task of SparseCore `c` and tile `i`. -/
abbrev task (c : Fin 2) (i : Fin 16) : grid0.Coords := coordsV c i

/-- Each tile is given its task's parts and hands them back, the output's at its table; a SparseCore its tiles'. -/
def P : (K (F := F)).Pay (nD := nD) (Val := Elt F) (Name := ℕ) (U := UU) where
  st := fun q d c => match q with | 0 => bigSep Finset.univ fun i : Fin 16 => goPts G d (task c i)
  dn := fun q d c => match q with | 0 => bigSep Finset.univ fun i : Fin 16 => tdPts G d (task c i)
  go := fun q d c i => match q with | 0 => goPts G d (task c i)
  td := fun q d c i => match q with | 0 => tdPts G d (task c i)
  x := fun _ _ => iprop(emp)

instance P_storable : (P G).IsStorable where
  st q d c := match q with
    | 0 => (inferInstance : BI.Storable (upEmb : UEmb _ 𝕄) (bigSep Finset.univ fun i : Fin 16 => goPts G d (task c i)))
  dn q d c := match q with
    | 0 => (inferInstance : BI.Storable (upEmb : UEmb _ 𝕄) (bigSep Finset.univ fun i : Fin 16 => tdPts G d (task c i)))
  go q d c i := match q with
    | 0 => (inferInstance : BI.Storable (upEmb : UEmb _ 𝕄) (goPts G d (task c i)))
  td q d c i := match q with
    | 0 => (inferInstance : BI.Storable (upEmb : UEmb _ 𝕄) (tdPts G d (task c i)))

/-! ## The obligation -/

theorem defs₀_vector (c : Fin τ.nSC) (s : Fin τ.nSub) :
    defs₀ (F := F) (.scVector c s) 0 ()
      = SparseCore.onTile hcore0 hsub0 (fun c s => cc0__sc_hist_body (coordsV c s)
          uV (Memref.isWhole_whole _) sV (Memref.isWhole_whole _) zV (Memref.isWhole_whole _) oV (Memref.isWhole_whole _)
          tU (Memref.isWhole_whole _) tS (Memref.isWhole_whole _) tH (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hG : ∀ d, (G d).InRange) : (K (F := F)).TileObl (D (F := F)) 𝒱 (P G) v₀ 0 := by
  intro d c i O W hO _ _
  simp only [show (P G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body G d (coordsV ⟨_, hci.1⟩ ⟨_, hci.2⟩) hF (hG d) O W hO).trans (wp_mono frame _ _ fun _ => obl_post)

theorem vecSplit : (K (F := F)).VecSplit' (P G) 0 := by
  intro d c
  show (bigSep Finset.univ fun i : Fin 16 => goPts G d (task c i)) ⊢ |={Set.univ}=> iprop(
      (bigSep Finset.univ fun i : Fin 16 => goPts G d (task c i))
      ∗ ((bigSep Finset.univ fun i : Fin 16 => tdPts G d (task c i)) -∗ bigSep Finset.univ fun i : Fin 16 => tdPts G d (task c i)))
  iintro H; imodintro
  isplitl [H]; · iexact H
  iintro H; iexact H

/-! ## The arrays split over the tasks -/

theorem wid_def (L : grid0.Coords) : wid L = 2 * (L 1).val + (L 0).val := rfl

theorem mem_iSet (L : grid0.Coords) (p : S102400.Idx) : p ∈ iSet L ↔ 3200 * wid L ≤ (p 0).val ∧ (p 0).val < 3200 * wid L + 3200 := by
  rw [show iSet L = (iRect L).set from (View.set_slice _ _).trans Finset.map_refl, Rect.mem_set_unit]
  simp only [Fin.forall_fin_one, k0_off1_eq, Matrix.cons_val_zero]
  have := wid_def L
  omega

theorem mem_oSet (L : grid0.Coords) (p : S2359296.Idx) : p ∈ oSet L ↔ 73728 * wid L ≤ (p 0).val ∧ (p 0).val < 73728 * wid L + 73728 := by
  rw [show oSet L = (oRect L).set from (View.set_slice _ _).trans Finset.map_refl, Rect.mem_set_unit]
  simp only [Fin.forall_fin_one, k0_off3_eq, Matrix.cons_val_zero]
  have := wid_def L
  omega

abbrev tk (x : Fin 2 × Fin 16) : grid0.Coords := task x.1 x.2

omit [FloatOps F] in
theorem wid_tk (x : Fin 2 × Fin 16) : wid (tk x) = 2 * x.2.val + x.1.val := rfl

theorem wid_inj {x y : Fin 2 × Fin 16} (h : x ≠ y) : wid (tk x) ≠ wid (tk y) := by
  intro e; rw [wid_tk, wid_tk] at e
  have := x.1.isLt; have := y.1.isLt
  exact h (Prod.ext (Fin.ext (by omega)) (Fin.ext (by omega)))

theorem iSet_disjoint : ∀ x ∈ (Finset.univ : Finset (Fin 2 × Fin 16)), ∀ y ∈ (Finset.univ : Finset (Fin 2 × Fin 16)), x ≠ y → Disjoint (iSet (tk x)) (iSet (tk y)) :=
  fun x _ y _ h => Finset.disjoint_left.2 fun p hx hy => wid_inj h (by rw [mem_iSet] at hx hy; omega)

theorem oSet_disjoint : ∀ x ∈ (Finset.univ : Finset (Fin 2 × Fin 16)), ∀ y ∈ (Finset.univ : Finset (Fin 2 × Fin 16)), x ≠ y → Disjoint (oSet (tk x)) (oSet (tk y)) :=
  fun x _ y _ h => Finset.disjoint_left.2 fun p hx hy => wid_inj h (by rw [mem_oSet] at hx hy; omega)

/-- The task whose number is `n`. -/
def tkOf (n : ℕ) (h : n < 32) : Fin 2 × Fin 16 := (⟨n % 2, Nat.mod_lt _ (by decide)⟩, ⟨n / 2, by omega⟩)

theorem iSet_cover : (Finset.univ : Finset (Fin 2 × Fin 16)).biUnion (fun x => iSet (tk x)) = Finset.univ := by
  refine Finset.eq_univ_iff_forall.2 fun p => Finset.mem_biUnion.2 ?_
  have hp : (p 0).val < 102400 := (p 0).isLt
  refine ⟨tkOf ((p 0).val / 3200) (by omega), Finset.mem_univ _, (mem_iSet _ _).2 ?_⟩
  rw [wid_tk]; simp only [tkOf]; omega

theorem oSet_cover : (Finset.univ : Finset (Fin 2 × Fin 16)).biUnion (fun x => oSet (tk x)) = Finset.univ := by
  refine Finset.eq_univ_iff_forall.2 fun p => Finset.mem_biUnion.2 ?_
  have hp : (p 0).val < 2359296 := (p 0).isLt
  refine ⟨tkOf ((p 0).val / 73728) (by omega), Finset.mem_univ _, (mem_oSet _ _).2 ?_⟩
  rw [wid_tk]; simp only [tkOf]; omega

theorem uPts_tasks (d : Dev nD) (f : Buf (Elt F) (uLoc d)) :
    (uLoc d ↦{fullShare} f : sProp 𝕄) = bigSep Finset.univ fun x : Fin 2 × Fin 16 => uLoc d ↦[iSet (tk x)]{fullShare} f := by
  rw [← pointsTo_biUnion Finset.univ (ℓ := uLoc d) (fun x => iSet (tk x)) iSet_disjoint, iSet_cover]; try rfl

theorem sPts_tasks (d : Dev nD) (f : Buf (Elt F) (sLoc d)) :
    (sLoc d ↦{fullShare} f : sProp 𝕄) = bigSep Finset.univ fun x : Fin 2 × Fin 16 => sLoc d ↦[iSet (tk x)]{fullShare} f := by
  rw [← pointsTo_biUnion Finset.univ (ℓ := sLoc d) (fun x => iSet (tk x)) iSet_disjoint, iSet_cover]; try rfl

theorem oPts_tasks (d : Dev nD) (f : Buf (Elt F) (oLoc d)) :
    (oLoc d ↦{fullShare} f : sProp 𝕄) = bigSep Finset.univ fun x : Fin 2 × Fin 16 => oLoc d ↦[oSet (tk x)]{fullShare} f := by
  rw [← pointsTo_biUnion Finset.univ (ℓ := oLoc d) (fun x => oSet (tk x)) oSet_disjoint, oSet_cover]; try rfl

theorem zPts_tasks (d : Dev nD) (f : Buf (Elt F) (zLoc d)) :
    (zLoc d ↦{fullShare} f : sProp 𝕄) = bigSep Finset.univ fun x : Fin 2 × Fin 16 => zLoc d ↦{zq (tk x)} f := by
  refine (pointsTo_leaves Finset.univ f 5 fullShare).trans ((bigSep_univ_equiv (finProdFinEquiv (m := 2) (n := 16)) _).trans ?_)
  refine bigSep_congr fun x _ => ?_
  have : finProdFinEquiv (m := 2) (n := 16) x = (⟨(16 * ((tk x) 0).val + ((tk x) 1).val) % 32, Nat.mod_lt _ (by decide)⟩ : Fin 32) := by
    refine Fin.ext ?_
    have h0 : ((tk x) 0).val = x.1.val := rfl
    have h1 : ((tk x) 1).val = x.2.val := rfl
    have := x.1.isLt; have := x.2.isLt
    rw [finProdFinEquiv_apply_val]
    simp only [h0, h1]; omega
  rw [this]

/-- The four arrays whole are the call's parts, given out. -/
theorem st_eq (d : Dev nD) : (bigSep Finset.univ fun c : Fin ((K (F := F)).nCore 0) => (P G).st 0 d c)
    = iprop((uLoc d ↦{fullShare} (G d).u) ∗ (sLoc d ↦{fullShare} (G d).s) ∗ (zLoc d ↦{fullShare} (G d).z) ∗ (oLoc d ↦{fullShare} (G d).o)) := by
  rw [uPts_tasks, sPts_tasks, oPts_tasks, zPts_tasks, ← bigSep_sep', ← bigSep_sep', ← bigSep_sep']
  exact (bigSep_univ_prod (fun x : Fin 2 × Fin 16 => goPts G d (tk x))).symm

/-- They are the call's parts, brought back, the output at the tables. -/
theorem dn_eq (d : Dev nD) : (bigSep Finset.univ fun c : Fin ((K (F := F)).nCore 0) => (P G).dn 0 d c)
    = iprop((uLoc d ↦{fullShare} (G d).u) ∗ (sLoc d ↦{fullShare} (G d).s) ∗ (zLoc d ↦{fullShare} (G d).z) ∗ (oLoc d ↦{fullShare} (G d).out)) := by
  rw [uPts_tasks, sPts_tasks, oPts_tasks, zPts_tasks, ← bigSep_sep', ← bigSep_sep', ← bigSep_sep']
  exact (bigSep_univ_prod (fun x : Fin 2 × Fin 16 => tdPts G d (tk x))).symm

/-! ## The launch element of the certificate's ghost state -/

def adm : (p : Fin NP) → (pcfgs (F := F) p).Adm := fun p => (cfgs p).toPCfg_adm
abbrev pins : (p : Fin NP) → Pipeline.Cfg sig Λ₀ := Pipeline.pin (pcfgs (F := F)) adm

theorem pins_inj : Function.Injective (Pipeline.cellOf (nD := nD) (τ := τ) (pins (F := F))) := cellOf_inj

/-- The pipelines' rounds' embedding. -/
abbrev EP : Emb (UR sig nD τ) (MT nD τ sig (HIx 1) (Elt F) ℕ UU ℕ) := (Emb.inl : Emb (UR sig nD τ) (UR sig nD τ × Counters)).trans embR

def u₀ : UU := (initOf (K (F := F)).hsCells (K (F := F)).hsToks,
  (initOf (Pipeline.cells (nD := nD) (τ := τ) (pins (F := F)) pins_inj) (Pipeline.launchToks (pins (F := F)) pins_inj), 1))

/-- What each TensorCore starts with of the pipelines' ghost state. -/
abbrev GH (d : Dev nD) : sProp 𝕄 :=
  iprop((bigSep Finset.univ fun p => Pipeline.cellsGhost (pins (F := F)) EP p d) ∗ (bigSep Finset.univ fun p => Pipeline.toksInit (pins (F := F)) EP p d))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (P G).x q thr) := by
  unfold u₀
  iintro Hu
  ihave H := (ownU_pair (initOf (K (F := F)).hsCells (K (F := F)).hsToks) _) $$ Hu
  icases H with ⟨HH, HR⟩
  ihave H := (own_pair_emb embR (initOf (Pipeline.cells (nD := nD) (τ := τ) (pins (F := F)) pins_inj) (Pipeline.launchToks (pins (F := F)) pins_inj)) (1 : Counters)) $$ HR
  icases H with ⟨HP, -⟩
  imod (Pipeline.fund_ghost (nD := nD) (τ := τ) (pins (F := F)) EP pins_inj) $$ HP with ⟨Hc, Ht⟩
  imodintro
  isplitl [HH]; · iexact HH
  isplitl [Hc Ht]
  · unfold GH
    rw [bigSep_sep']
    isplitl [Hc]; · iexact Hc
    iexact Ht
  rw [show (bigSep Finset.univ fun thr : Thread nD τ => bigSep Finset.univ fun q : Fin 1 => (P (F := F) G).x q thr) = bigSep Finset.univ fun _ => iprop(emp) from
    bigSep_congr fun _ _ => bigSep_univ_of_subsingleton (0 : Fin 1), bigSep_emp']
  iempintro

end Cert.Proof.Sc
-- ==== Proof.Region.lean ====
/-
  One TensorCore kernel of @main after the SparseCore call, for any pipeline of the program: entered with every unscoped
  buffer at a valuation, the waits recorded so far at levels up to the call's, left with the arrays at the proof data's
  final contents and the waits bounded as before.
-/
module

public import proofs.«01_k».proof.Proof.Call
public import Idealize.ShloMosaic.Lib.Pipeline.RegionArraysS

@[expose] public section

noncomputable section

namespace Cert.Proof.Sc

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat arrRefs arrRef)

variable {F : FTy → Type} [FloatOps F]

local notation "𝕄" => MT nD τ sig (HIx 1) (Elt F) ℕ UU ℕ

/-- The TensorCore's unscoped references. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The pairs of a semaphore and an index at a level the one call has reached. -/
def recW (c : Dev nD) : Set (SemLoc sig × HIx 1) := {p | (K (F := F)).lev (T c, p.1) p.2 ≤ 8}

/-- The TensorCore owes nothing, and waited at levels the one call has reached only. -/
abbrev TCO (c : Dev nD) : sProp 𝕄 :=
  iprop(∃ W, ⌜(K (F := F)).WBelow (T c) W 8⌝ ∗ owes (c : Thread nD τ) (0 : CellTallies nD τ sig (HIx 1)) W)

variable (p : Fin NP) (pdats : (p : Fin NP) → (c : Dev nD) → Dat τ (Elt F) (HIx 1) ℕ UU ℕ (pins (F := F) p) c)
  (V : Dev nD → Valuation τ sig (Elt F))

/-- What a kernel's proof data must satisfy: the layout, the body, nothing owed, the waits bounded, whole shares, an
    invariant made from the scoped buffers the kernel does not stage and giving them back, and the arrays entered at the valuation. -/
structure Fit : Prop where
  kit : Pipeline.PLaunchFacts (nD := nD) (τ := τ) (pcfgs (F := F)) p
  nopre : ((pcfgs (F := F)) p).pre.K = 0
  body : ∀ c, Pipeline.BodyObligationLoose (pdats p c) (defs₀ (F := F)) 𝒱₀ none Set.univ
  owed : ∀ c t, (pdats p c).owed t = 0
  recorded : ∀ c t, (pdats p c).recorded t = recW (F := F) c
  share : ∀ c w, (pdats p c).share w = fullShare
  inv_in : ∀ c, (Pipeline.scopedRest (pins (F := F) p).spec c : sProp 𝕄) ⊢ (pdats p c).Φ 0
  inv_out : ∀ c, (pdats p c).Φ (Fin.last _) ⊢ (Pipeline.scopedRest (pins (F := F) p).spec c : sProp 𝕄)
  arr : ∀ c w, (pdats p c).arrAt w 0 = V c (Proc.devRef .tc (arrRef (pins (F := F) p).spec w))
  sub : arrRefs ((pcfgs (F := F)) p).spec ⊆ ucRefs

variable {p pdats V}

set_option backward.isDefEq.respectTransparency.types false in
def reg (h : Fit p pdats V) :
    Pipeline.RegionSeg (pcfgs (F := F)) adm pdats none (defs₀ (F := F)) 𝒱₀ (K (F := F)).L (K (F := F)).lev p where
  win := h.kit.to₀.win
  block_pos := h.kit.block_pos
  stage_whole := h.kit.stage_whole
  K := PEmpty
  osem k := k.elim
  ho := Pipeline.OwnSemFacts.none _
  hbody := h.body
  hwaits := Pipeline.hwaits_of_owed_zero _ _ _ _ _ _ p h.owed
  pre c := iprop(StableHlo.held (c : Thread nD τ) ucRefs (V c) ∗ TCO (F := F) c)
  post c := iprop(StableHlo.held (c : Thread nD τ) ucRefs (Pipeline.afterRegion (pdats p c) (V c)) ∗ TCO (F := F) c)
  X _ := BI.emp
  Y _ := BI.emp
  Z c := StableHlo.held (c : Thread nD τ) (ucRefs \ arrRefs ((pcfgs (F := F)) p).spec) (V c)
  hentry c := by
    rw [Pipeline.ownSems0_none, Pipeline.prefHeld_of_none _ h.nopre,
      Pipeline.arrays_held (pcfgs (F := F)) adm pdats p h.kit c (h.share c) ((pdats p c).arrAt · 0) (V c) (h.arr c),
      StableHlo.held_sub_split (c.tc : Thread nD τ) h.sub (V c)]
    iintro ⟨⟨⟨Ha, Hu⟩, %W, %hW, HO⟩, -, -⟩
    imodintro
    isplitl [Ha]; · iexact Ha
    isplitr; · iempintro
    isplitl [HO]
    · unfold Pipeline.Dat.owesAt Pipeline.owesWithin
      rw [h.owed]
      iexists W; isplitr
      · ipureintro; intro x hx; exact Or.inl (by rw [h.recorded]; exact hW x hx)
      iexact HO
    isplitr; · iempintro
    iexact Hu
  hin c := by
    iintro ⟨-, -, Hr⟩
    iapply (h.inv_in c) $$ Hr
  hout c := by
    rw [Pipeline.ownSems0_none]
    iintro Hr
    isplitr; · iempintro
    isplitr; · iempintro
    iapply (h.inv_out c) $$ Hr
  hexit c := by
    rw [Pipeline.arrays_held (pcfgs (F := F)) adm pdats p h.kit c (h.share c) ((pdats p c).arrAt · (pins (F := F) p).N) (Pipeline.afterRegion (pdats p c) (V c))
        (fun w => (Pipeline.afterRegion_arr (pdats p c) (V c) h.kit.win.arr_inj w).symm),
      StableHlo.held_sub_split (c.tc : Thread nD τ) h.sub (Pipeline.afterRegion (pdats p c) (V c)),
      StableHlo.held_congr (c.tc : Thread nD τ) (S := ucRefs \ arrRefs ((pcfgs (F := F)) p).spec) (V := Pipeline.afterRegion (pdats p c) (V c)) (V' := V c)
        (Pipeline.afterRegion_off (pdats p c) (V c) ucRefs)]
    iintro ⟨Ha, HO, -, Hu⟩
    imodintro
    isplitl [Ha Hu]
    · isplitl [Ha]; · iexact Ha
      iexact Hu
    unfold Pipeline.Dat.owesAt Pipeline.owesWithin
    rw [h.owed]
    icases HO with ⟨%W, %hW, HO⟩; iexists W; isplitr
    · ipureintro; intro x hx
      rcases hW hx with hr | ⟨w, s, rfl⟩
      · rw [h.recorded] at hr; exact hr
      · exact (SparseCore.Cfg.lev_none (K (F := F)) _).le.trans (Nat.zero_le _)
    iexact HO

/-- The kernel's call in @main: from the boundary, the unscoped buffers at `V c`, what the core owes, the levels and the
    pipeline's ghost state, to the continuation with the buffers after the kernel. -/
theorem wp_region [∀ e, Nonempty (Elt F e)] (h : Fit p pdats V) (c : Dev nD) (Q : PUnit → sProp 𝕄) :
    iprop(boundary (c : Thread nD τ) ∗ StableHlo.held (c : Thread nD τ) ucRefs (V c) ∗ TCO (F := F) c ∗ levAts (K (F := F)).L (K (F := F)).lev
        ∗ Pipeline.cellsGhost (pins (F := F)) EP p c ∗ Pipeline.toksInit (pins (F := F)) EP p c
        ∗ (iprop(boundary (c : Thread nD τ) ∗ StableHlo.held (c : Thread nD τ) ucRefs (Pipeline.afterRegion (pdats p c) (V c)) ∗ TCO (F := F) c) -∗ Q ⟨⟩))
      ⊢ wp frame (wpE ((K (F := F)).defs (D (F := F))) 𝒱 (c : Thread nD τ) none) Set.univ
          (Prog.lift (.customCall (SparseCore.inner (Pipeline.entry p)) ())) Q := by
  have hpost : (reg h).post c = iprop(StableHlo.held (c : Thread nD τ) ucRefs (Pipeline.afterRegion (pdats p c) (V c)) ∗ TCO (F := F) c) := rfl
  have hpre : (reg h).pre c = iprop(StableHlo.held (c : Thread nD τ) ucRefs (V c) ∗ TCO (F := F) c) := rfl
  have key := (Pipeline.RegionSeg.wp (pcfgs (F := F)) adm pdats none pins_inj EP (defs₀ (F := F)) 𝒱₀
    (K (F := F)).L (K (F := F)).lev (reg h) c none (fun _ hu => nomatch hu) .ret Q).trans
      ((K (F := F)).wp_liftProg (D (F := F)) 𝒱 _ _ none (.op (.customCall (Pipeline.entry p) ()) .ret) Q)
  rw [hpost, hpre] at key
  iintro ⟨Hb, Hh, HO, #Hl, Hc, Ht, Hk⟩
  iapply key
  isplitl [Hk]
  · iintro ⟨Hb, Hp⟩
    rw [wp_ret]
    imodintro
    iapply Hk
    isplitl [Hb]; · iexact Hb
    iexact Hp
  isplitl [Hb]; · iexact Hb
  isplitl [Hh HO]
  · isplitl [Hh]; · iexact Hh
    iexact HO
  isplitr; · iexact Hl
  isplitl [Hc]; · iexact Hc
  iexact Ht

/-! ## Arrays and blocks of a pipeline -/

section
open Idealize.ShloMosaic.Pipeline (Cfg)
variable {Λ : Idealize.SL.Sem.Labels} {cfg : Cfg sig Λ}

/-- The windowed arrays' contents at a valuation. -/
noncomputable def arrs (cfg : Cfg sig Λ) (W : Dev nD → Valuation τ sig (Elt F)) (c : Dev nD) (w : Fin cfg.W) : Buf (Elt F) ((cfg.win w).arr.view.loc (c.tc : Thread nD τ)) :=
  W c (Proc.devRef .tc (arrRef cfg.spec w))

/-- The block of window `w` at point `t`. -/
noncomputable def blkAt (cfg : Cfg sig Λ) (W : Dev nD → Valuation τ sig (Elt F)) (c : Dev nD) (w : Fin cfg.W) (t : Fin cfg.N) :
    ((cfg.win w).xblock (cfg.grid.coords t)).Idx → Elt F (cfg.win w).elt :=
  ((cfg.win w).blk t).view.read (Elt F) (arrs cfg W c w)

end

end Cert.Proof.Sc
-- ==== Proof.Hsum.lean ====
/-
  The TensorCore kernel that adds the thirty-two tables, one per grid point, into one block written back after the last
  point: its body's two cases, its proof data with the running sum, and what it leaves in its result.
-/
module

public import proofs.«01_k».proof.Proof.Region
public import proofs.«01_k».proof.Proof.Gen.KernelIdeal.Points
public import proofs.«01_k».proof.Proof.Gen.KernelIdeal.Skeleton
public import Idealize.ShloMosaic.Lib.Pipeline.ValueKit
public import Idealize.ShloMosaic.Lib.Tactic

@[expose] public section

set_option maxRecDepth 16384

noncomputable section

namespace Cert.Proof.Hsum

open Cert.KernelIdeal Cert.KernelIdeal.Gen Cert.Proof.Sc

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRefs arrRef)

variable {F : FTy → Type} [FloatOps F]

local notation "𝕄" => MT nD τ sig (HIx 1) (Elt F) ℕ UU ℕ

theorem hz : (![0, 0] : Fin 2 → Nat) = fun _ => 0 := funext fun a => by fin_cases a <;> rfl

/-! ## The body's two cases -/

/-- At the first point the block is stored. -/
theorem sound_first (c : Dev nD) (E : Set ℕ) (i : grid1.Coords) (h1 : k1_cond1 i = 1#1) (h2 : ¬ k1_cond2 i = 1#1)
    (arg1 : Memref sig .tc .vmem S512x144 .f32) (harg1 : arg1.IsWhole) (arg2 : Memref sig .tc .vmem S512x144 .f32) (harg2 : arg2.IsWhole)
    (x0 : Vec F S512x144 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare x0) -∗ K ⟨⟩))
      ⊢ wp frame (wpE (defs₀ (F := F)) Variants.none c none) E (cc1__hsum_body i arg1 harg1 arg2 harg2) K := by
  simp only [cc1__hsum_body_eq_skeleton]; unfold cc1__hsum_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  rw [View.read_writes_eq_canon _ _ _ (View.cover_of_tiled _ S512x144.size (by rfl)), View.canon_unit_zero hz]
  unfold k1_pay1
  simp only [View.readAt_eq_ld, View.ld_unit_zero (S := S512x144) hz, shapeCast_self]

/-- At a later point it is added to what the points before left. -/
theorem sound_next (c : Dev nD) (E : Set ℕ) (i : grid1.Coords) (h1 : ¬ k1_cond1 i = 1#1) (h2 : k1_cond2 i = 1#1)
    (arg1 : Memref sig .tc .vmem S512x144 .f32) (harg1 : arg1.IsWhole) (arg2 : Memref sig .tc .vmem S512x144 .f32) (harg2 : arg2.IsWhole)
    (x0 y : Vec F S512x144 .f32) (K : PUnit → sProp 𝕄) :
    iprop(owns (c : Thread nD τ) arg1 fullShare x0 ∗ owns (c : Thread nD τ) arg2 fullShare y
        ∗ (iprop(owns (c : Thread nD τ) arg1 fullShare x0 ∗ owns (c : Thread nD τ) arg2 fullShare (addf y x0 : Vec F S512x144 .f32)) -∗ K ⟨⟩))
      ⊢ wp frame (wpE (defs₀ (F := F)) Variants.none c none) E (cc1__hsum_body i arg1 harg1 arg2 harg2) K := by
  simp only [cc1__hsum_body_eq_skeleton]; unfold cc1__hsum_body_skel
  unfold owns
  iintro ⟨⟨%f0, %hf0, H0⟩, ⟨%f2, %hf2, H2⟩, Hk⟩
  subst hf0 hf2
  sl_exec
  sl_step
  iapply Hk
  isplitl [H0]
  · iexists f0; isplitr; · ipureintro; rfl
    iexact H0
  iexists _; isplitr
  swap; · iexact H2
  ipureintro
  rw [View.read_writes_eq_canon _ _ _ (View.cover_of_tiled _ S512x144.size (by rfl)), View.canon_unit_zero hz]
  unfold k1_pay2 k1_pay1
  simp only [View.readAt_eq_ld, View.ld_unit_zero (S := S512x144) hz, shapeCast_self]

/-! ## The proof data -/

variable (W : Dev nD → Valuation τ sig (Elt F))

/-- Table `t`: the block of the operand staged at point `t`. -/
def blk (c : Dev nD) (t : Fin cfg1.N) : Vec F S512x144 .f32 :=
  ((cfg1.win 0).blk t).view.read (Elt F) (W c (Proc.devRef .tc main_v8))

/-- The sum of the first `n + 1` tables, first to last. -/
def acc (c : Dev nD) : (n : ℕ) → n < cfg1.N → Vec F S512x144 .f32
  | 0, h => blk W c ⟨0, h⟩
  | n + 1, h => addf (acc c n (Nat.lt_of_succ_lt h)) (blk W c ⟨n + 1, h⟩)

def dat (c : Dev nD) : Dat τ (Elt F) (HIx 1) ℕ UU ℕ cfg1 c where
  A w := W c (Proc.devRef .tc (arrRef spec1 w))
  after w t := match w with
    | ⟨0, _⟩ => blk W c t
    | ⟨1, _⟩ => acc W c t.val t.isLt
  Φ _ := Pipeline.scopedRest (Ix := HIx 1) (Name := ℕ) (U := UU) (Lvl := ℕ) (Val := Elt F) spec1 c
  q _ := fullShare
  owed _ := 0
  recorded _ := recW (F := F) c

theorem after_0 (c : Dev nD) (t : Fin cfg1.N) : (dat W c).after 0 t = blk W c t := by dsimp only [dat]
theorem after_1 (c : Dev nD) (t : Fin cfg1.N) : (dat W c).after 1 t = acc W c t.val t.isLt := by dsimp only [dat]

theorem before_0 (c : Dev nD) (t : Fin cfg1.N) (d) : (dat W c).before 0 t d = blk W c t := by
  unfold Dat.before; rw [if_pos (fetch1_0 t)]; rfl

theorem N32 : cfg1.N = 32 := N_1

theorem idle_1 : ∀ t : Fin cfg1.N, cfg1.idle 1 (cfg1.grid.coords t) = false := by decide +kernel

theorem before_1 (c : Dev nD) (n : ℕ) (h : n + 1 < cfg1.N) (d) :
    (dat W c).before 1 ⟨n + 1, h⟩ d = acc W c n (Nat.lt_of_succ_lt h) := by
  have hN := N32
  rw [Dat.before_of_pos _ 1 ⟨n + 1, h⟩ (Nat.succ_ne_zero n) rfl, if_neg (by
    intro hf
    have := (flush1_1 _).mp hf
    simp only at this
    omega)]
  unfold Dat.left
  rw [idle_1]
  show (dat W c).after 1 _ = _
  rw [after_1]; rfl

theorem cond_first : ∀ t : Fin cfg1.N, t.val = 0 → k1_cond1 (grid1.coords t) = 1#1 ∧ ¬ k1_cond2 (grid1.coords t) = 1#1 := by decide +kernel
theorem cond_next : ∀ t : Fin cfg1.N, t.val ≠ 0 → ¬ k1_cond1 (grid1.coords t) = 1#1 ∧ k1_cond2 (grid1.coords t) = 1#1 := by decide +kernel

/-! ## The body obligation -/

theorem defs₀_row (t : Fin cfg1.N) : defs₀ (F := F) .tc cfg1.body (cfg1.bodyArgs t (cfg1.slots t)) = bodyAt1 t := rfl

theorem sound_body (c : Dev nD) (t : Fin cfg1.N) :
    iprop((dat W c).Φ t.castSucc ∗ (dat W c).owesAt none t.castSucc
      ∗ (∃ d, owns (c : Thread nD τ) (st1_0 t) fullShare ((dat W c).before 0 t d))
      ∗ (∃ d, owns (c : Thread nD τ) (st1_1 t) fullShare ((dat W c).before 1 t d)))
    ⊢ wp frame (wpE (defs₀ (F := F)) Variants.none c none) Set.univ (bodyAt1 t) fun _ =>
      iprop((dat W c).Φ t.succ ∗ (dat W c).owesAt none t.succ
        ∗ owns (c : Thread nD τ) (st1_0 t) fullShare ((dat W c).after 0 t)
        ∗ owns (c : Thread nD τ) (st1_1 t) fullShare ((dat W c).after 1 t)) := by
  rw [show (dat W c).Φ t.succ = (dat W c).Φ t.castSucc from rfl,
    show (dat W c).owesAt none t.succ = (dat W c).owesAt none t.castSucc from rfl]
  simp only [before_0, after_0, after_1]
  obtain ⟨n, hn⟩ := t
  cases n with
  | zero =>
    iintro ⟨HΦ, Ho, ⟨%d0, H0⟩, ⟨%d1, H1⟩⟩
    iapply (sound_first c Set.univ _ (cond_first ⟨0, hn⟩ rfl).1 (cond_first ⟨0, hn⟩ rfl).2 _ _ _ _ (blk W c ⟨0, hn⟩) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  | succ n =>
    simp only [before_1]
    iintro ⟨HΦ, Ho, ⟨%d0, H0⟩, ⟨%d1, H1⟩⟩
    iapply (sound_next c Set.univ _ (cond_next ⟨n + 1, hn⟩ (Nat.succ_ne_zero n)).1 (cond_next ⟨n + 1, hn⟩ (Nat.succ_ne_zero n)).2 _ _ _ _
      (blk W c ⟨n + 1, hn⟩) (acc W c n (Nat.lt_of_succ_lt hn)) _)
    isplitl [H0]; · iexact H0
    isplitl [H1]; · iexact H1
    iintro ⟨H0, H1⟩
    isplitl [HΦ]; · iexact HΦ
    isplitl [Ho]; · iexact Ho
    isplitl [H0]; · iexact H0
    iexact H1

theorem body_obligation (c : Dev nD) : BodyObligation (dat W c) (defs₀ (F := F)) 𝒱₀ none Set.univ := fun t => by
  rw [bigSep_W1, bigSep_W1, defs₀_row]
  simp only [idle_1]
  exact triple_restated (sound_body W c t) rfl .rfl fun _ => by
    rw [show idle1 1 (grid1.coords t) = false from idle_1 t]

/-! ## The result -/

/-- The result array holds the sum of all the tables. -/
theorem final (c : Dev nD) : (dat W c).arrAt 1 cfg1.N = acc W c 31 (by rw [N32]; decide) := by
  refine (dat W c).arrAt_eq_of_after_last 1 ⟨31, by rw [N32]; decide⟩ (by decide +kernel) _ fun j => ?_
  rw [after_1]
  blk_simp
  rfl

end Cert.Proof.Hsum
-- ==== Proof.Layer0.lean ====
/-
  The first layer's kernel: at the first point it fills its two tables (the per-graph term and the per-type term of the
  first matrix product); at every point it makes one block of the layer's result and adds one block's share to the sums
  of the hidden rows.
-/
module

public import proofs.«01_k».proof.Proof.Region
public import proofs.«01_k».proof.Proof.Gen.KernelIdeal.Points
public import proofs.«01_k».proof.Proof.Gen.KernelIdeal.Skeleton
public import Idealize.ShloMosaic.Lib.Pipeline.ValueKit
public import Idealize.ShloMosaic.Lib.Tactic

@[expose] public section

set_option maxRecDepth 16384

noncomputable section

namespace Cert.Proof.Layer0

open Cert.KernelIdeal Cert.KernelIdeal.Gen Cert.Proof.Sc

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRefs arrRef)

variable {F : FTy → Type} [FloatOps F]

local notation "𝕄" => MT nD τ sig (HIx 1) (Elt F) ℕ UU ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The condition under which the tables are filled. -/
abbrev isFirst (i : grid2.Coords) : BitVec 1 := Scalar.cmpi .ne (Scalar.extui (Scalar.cmpi .eq (BitVec.ofNat 32 (i 0).val) 0#32) : BitVec 32) 0#32

/-! ## The body's two cases -/

/-- At the first point the tables are filled, then read. -/
theorem sound_first (c : Dev nD) (E : Set ℕ) (i : grid2.Coords) (h1 : isFirst i = 1#1) (h3 : ¬ k2_cond3 i = 1#1)
    (arg1 : Memref sig .tc .vmem S1x1x4096 .i32) (harg1 : arg1.IsWhole)
    (arg2 : Memref sig .tc .vmem S1x1x4096 .i32) (harg2 : arg2.IsWhole)
    (arg3 : Memref sig .tc .vmem S512x144 .f32) (harg3 : arg3.IsWhole)
    (arg4 : Memref sig .tc .vmem S144x128 .bf16) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S128x256 .bf16) (harg7 : arg7.IsWhole)
    (arg8 : Memref sig .tc .vmem S1x256 .f32) (harg8 : arg8.IsWhole)
    (arg9 : Memref sig .tc .vmem S4096x256 .bf16) (harg9 : arg9.IsWhole)
    (arg10 : Memref sig .tc .vmem S512x128 .f32) (harg10 : arg10.IsWhole)
    (arg11 : Memref sig .tc .vmem S512x128 .bf16) (harg11 : arg11.IsWhole)
    (arg12 : Memref sig .tc .vmem S144x128 .bf16) (harg12 : arg12.IsWhole)
    (x0 : Vec F S1x1x4096 .i32) (x1 : Vec F S1x1x4096 .i32) (x2 : Vec F S512x144 .f32) (x3 : Vec F S144x128 .bf16) (x4 : Vec F S128x128 .bf16) (x5 : Vec F S1x128 .f32) (x6 : Vec F S128x256 .bf16) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k2_pay1 (k2_pay8 x0 x1 (k2_pay5 x3 x4) (k2_pay4 x2 x3 x4 x5) x6 x7)) ∗ owns (c : Thread nD τ) arg10 fullShare (k2_pay2 (k2_pay6 x1) (k2_pay7 x0 x1 (k2_pay5 x3 x4) (k2_pay4 x2 x3 x4 x5))) ∗ owns (c : Thread nD τ) arg11 fullShare (k2_pay4 x2 x3 x4 x5) ∗ owns (c : Thread nD τ) arg12 fullShare (k2_pay5 x3 x4)) -∗ K ⟨⟩))
      ⊢ wp frame (wpE (defs₀ (F := F)) Variants.none c none) E (cc2__layer0_body i arg1 harg1 arg2 harg2 arg3 harg3 arg4 harg4 arg5 harg5 arg6 harg6 arg7 harg7 arg8 harg8 arg9 harg9 arg10 harg10 arg11 harg11 arg12 harg12) K := by
  have h2 : k2_cond2 i = 1#1 := h1
  simp only [cc2__layer0_body_eq_skeleton]; unfold cc2__layer0_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (View.cover_of_tiled _ S4096x256.size (by rfl)), View.canon_unit_zero (S := S4096x256) hz2]
    unfold sound_first.sl.r_2
    unfold sound_first.sl.v23 sound_first.sl.v25
    rw [View.readCov_eq_canon_ld _ _ _ (View.cover_of_tiled _ S144x128.size (by rfl)), View.readCov_eq_canon_ld _ _ _ (View.cover_of_tiled _ S512x128.size (by rfl))]
    unfold sound_first.sl.H10_1 sound_first.sl.H11_1
    rw [View.canon_unit_zero (S := S144x128) hz2, View.canon_unit_zero (S := S512x128) hz2]
    simp only [View.readAt_eq_ld, View.ld_unit_zero (S := S1x1x4096) hz3, View.ld_unit_zero (S := S512x144) hz2, View.ld_unit_zero (S := S144x128) hz2, View.ld_unit_zero (S := S128x128) hz2, View.ld_unit_zero (S := S1x128) hz2, View.ld_unit_zero (S := S128x256) hz2, View.ld_unit_zero (S := S1x256) hz2, View.ld_unit_zero (S := S512x128) hz2]
  isplitl [H9]
  · iexists _; isplitr
    swap; · iexact H9
    ipureintro
    rw [View.read_writes_eq_canon _ _ _ (View.cover_of_tiled _ S512x128.size (by rfl)), View.canon_unit_zero (S := S512x128) hz2]
    unfold sound_first.sl.r sound_first.sl.r_1
    unfold sound_first.sl.v23 sound_first.sl.v25
    rw [View.readCov_eq_canon_ld _ _ _ (View.cover_of_tiled _ S144x128.size (by rfl)), View.readCov_eq_canon_ld _ _ _ (View.cover_of_tiled _ S512x128.size (by rfl))]
    unfold sound_first.sl.H10_1 sound_first.sl.H11_1
    rw [View.canon_unit_zero (S := S144x128) hz2, View.canon_unit_zero (S := S512x128) hz2]
    simp only [View.readAt_eq_ld, View.ld_unit_zero (S := S1x1x4096) hz3, View.ld_unit_zero (S := S512x144) hz2, View.ld_unit_zero (S := S144x128) hz2, View.ld_unit_zero (S := S128x128) hz2, View.ld_unit_zero (S := S1x128) hz2, View.ld_unit_zero (S := S128x256) hz2, View.ld_unit_zero (S := S1x256) hz2, View.ld_unit_zero (S := S512x128) hz2]
  isplitl [H10]
  · iexists _; isplitr
    swap; · iexact H10
    ipureintro
    unfold sound_first.sl.H10_1
    rw [View.read_writes_eq_canon _ _ _ (View.cover_of_tiled _ S512x128.size (by rfl)), View.canon_unit_zero (S := S512x128) hz2]
    simp only [View.readAt_eq_ld, View.ld_unit_zero (S := S1x1x4096) hz3, View.ld_unit_zero (S := S512x144) hz2, View.ld_unit_zero (S := S144x128) hz2, View.ld_unit_zero (S := S128x128) hz2, View.ld_unit_zero (S := S1x128) hz2, View.ld_unit_zero (S := S128x256) hz2, View.ld_unit_zero (S := S1x256) hz2, View.ld_unit_zero (S := S512x128) hz2]
  iexists _; isplitr
  swap; · iexact H11
  ipureintro
  unfold sound_first.sl.H11_1
  rw [View.read_writes_eq_canon _ _ _ (View.cover_of_tiled _ S144x128.size (by rfl)), View.canon_unit_zero (S := S144x128) hz2]
  simp only [View.readAt_eq_ld, View.ld_unit_zero (S := S1x1x4096) hz3, View.ld_unit_zero (S := S512x144) hz2, View.ld_unit_zero (S := S144x128) hz2, View.ld_unit_zero (S := S128x128) hz2, View.ld_unit_zero (S := S1x128) hz2, View.ld_unit_zero (S := S128x256) hz2, View.ld_unit_zero (S := S1x256) hz2, View.ld_unit_zero (S := S512x128) hz2]

/-- At a later point the tables are only read, and the sums added to. -/
theorem sound_next (c : Dev nD) (E : Set ℕ) (i : grid2.Coords) (h1 : ¬ isFirst i = 1#1) (h3 : k2_cond3 i = 1#1)
    (arg1 : Memref sig .tc .vmem S1x1x4096 .i32) (harg1 : arg1.IsWhole)
    (arg2 : Memref sig .tc .vmem S1x1x4096 .i32) (harg2 : arg2.IsWhole)
    (arg3 : Memref sig .tc .vmem S512x144 .f32) (harg3 : arg3.IsWhole)
    (arg4 : Memref sig .tc .vmem S144x128 .bf16) (harg4 : arg4.IsWhole)
    (arg5 : Memref sig .tc .vmem S128x128 .bf16) (harg5 : arg5.IsWhole)
    (arg6 : Memref sig .tc .vmem S1x128 .f32) (harg6 : arg6.IsWhole)
    (arg7 : Memref sig .tc .vmem S128x256 .bf16) (harg7 : arg7.IsWhole)
    (arg8 : Memref sig .tc .vmem S1x256 .f32) (harg8 : arg8.IsWhole)
    (arg9 : Memref sig .tc .vmem S4096x256 .bf16) (harg9 : arg9.IsWhole)
    (arg10 : Memref sig .tc .vmem S512x128 .f32) (harg10 : arg10.IsWhole)
    (arg11 : Memref sig .tc .vmem S512x128 .bf16) (harg11 : arg11.IsWhole)
    (arg12 : Memref sig .tc .vmem S144x128 .bf16) (harg12 : arg12.IsWhole)
    (x0 : Vec F S1x1x4096 .i32) (x1 : Vec F S1x1x4096 .i32) (x2 : Vec F S512x144 .f32) (x3 : Vec F S144x128 .bf16) (x4 : Vec F S128x128 .bf16) (x5 : Vec F S1x128 .f32) (x6 : Vec F S128x256 .bf16) (x7 : Vec F S1x256 .f32) (y : Vec F S512x128 .f32) (z : Vec F S512x128 .bf16) (e : Vec F S144x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare y ∗ owns (c : Thread nD τ) arg11 fullShare z ∗ owns (c : Thread nD τ) arg12 fullShare e
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k2_pay1 (k2_pay8 x0 x1 e z x6 x7)) ∗ owns (c : Thread nD τ) arg10 fullShare (k2_pay3 (k2_pay6 x1) (k2_pay7 x0 x1 e z) y) ∗ owns (c : Thread nD τ) arg11 fullShare z ∗ owns (c : Thread nD τ) arg12 fullShare e) -∗ K ⟨⟩))
      ⊢ wp frame (wpE (defs₀ (F := F)) Variants.none c none) E (cc2__layer0_body i arg1 harg1 arg2 harg2 arg3 harg3 arg4 harg4 arg5 harg5 arg6 harg6 arg7 harg7 arg8 harg8 arg9 harg9 arg10 harg10 arg11 harg11 arg12 harg12) K := by
  have h2 : ¬ k2_cond2 i = 1#1 := h1
  simp only [cc2__layer0_body_eq_skeleton]; unfold cc2__layer0_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, Hk⟩
  subst hf0 hf1 hf2 hf3 hf4 hf5 hf6 hf7 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (View.cover_of_tiled _ S4096x256.size (by rfl)), View.canon_unit_zero (S := S4096x256) hz2]
    unfold sound_next.sl.r_2
    simp only [View.readAt_eq_ld, View.ld_unit_zero (S := S1x1x4096) hz3, View.ld_unit_zero (S := S512x144) hz2, View.ld_unit_zero (S := S144x128) hz2, View.ld_unit_zero (S := S128x128) hz2, View.ld_unit_zero (S := S1x128) hz2, View.ld_unit_zero (S := S128x256) hz2, View.ld_unit_zero (S := S1x256) hz2, View.ld_unit_zero (S := S512x128) hz2]
  isplitl [H9]
  · iexists _; isplitr
    swap; · iexact H9
    ipureintro
    rw [View.read_writes_eq_canon _ _ _ (View.cover_of_tiled _ S512x128.size (by rfl)), View.canon_unit_zero (S := S512x128) hz2]
    unfold sound_next.sl.r sound_next.sl.r_1
    simp only [View.readAt_eq_ld, View.ld_unit_zero (S := S1x1x4096) hz3, View.ld_unit_zero (S := S512x144) hz2, View.ld_unit_zero (S := S144x128) hz2, View.ld_unit_zero (S := S128x128) hz2, View.ld_unit_zero (S := S1x128) hz2, View.ld_unit_zero (S := S128x256) hz2, View.ld_unit_zero (S := S1x256) hz2, View.ld_unit_zero (S := S512x128) hz2]
  isplitl [H10]
  · iexists f10; isplitr; · ipureintro; rfl
    iexact H10
  iexists f11; isplitr; · ipureintro; rfl
  iexact H11

/-! ## The proof data -/

variable (W : Dev nD → Valuation τ sig (Elt F))

noncomputable def b0 (c : Dev nD) (t : Fin cfg2.N) : Vec F S1x1x4096 .i32 := blkAt cfg2 W c 0 t
noncomputable def b1 (c : Dev nD) (t : Fin cfg2.N) : Vec F S1x1x4096 .i32 := blkAt cfg2 W c 1 t
noncomputable def b2 (c : Dev nD) (t : Fin cfg2.N) : Vec F S512x144 .f32 := blkAt cfg2 W c 2 t
noncomputable def b3 (c : Dev nD) (t : Fin cfg2.N) : Vec F S144x128 .bf16 := blkAt cfg2 W c 3 t
noncomputable def b4 (c : Dev nD) (t : Fin cfg2.N) : Vec F S128x128 .bf16 := blkAt cfg2 W c 4 t
noncomputable def b5 (c : Dev nD) (t : Fin cfg2.N) : Vec F S1x128 .f32 := blkAt cfg2 W c 5 t
noncomputable def b6 (c : Dev nD) (t : Fin cfg2.N) : Vec F S128x256 .bf16 := blkAt cfg2 W c 6 t
noncomputable def b7 (c : Dev nD) (t : Fin cfg2.N) : Vec F S1x256 .f32 := blkAt cfg2 W c 7 t

theorem N25 : cfg2.N = 25 := N_2
theorem h0 : 0 < cfg2.N := by rw [N25]; decide

/-! The tables, filled at the first point. -/

noncomputable def zt (c : Dev nD) : Vec F S512x128 .bf16 := k2_pay4 (b2 W c ⟨0, h0⟩) (b3 W c ⟨0, h0⟩) (b4 W c ⟨0, h0⟩) (b5 W c ⟨0, h0⟩)
noncomputable def et (c : Dev nD) : Vec F S144x128 .bf16 := k2_pay5 (b3 W c ⟨0, h0⟩) (b4 W c ⟨0, h0⟩)

/-- The block of the layer's result made at point `t`. -/
noncomputable def out (c : Dev nD) (t : Fin cfg2.N) : Vec F S4096x256 .bf16 := (k2_pay1 (k2_pay8 (b0 W c t) (b1 W c t) (et W c) (zt W c) (b6 W c t) (b7 W c t)))

/-- The sums after point `n`. -/
noncomputable def acc (c : Dev nD) : (n : ℕ) → n < cfg2.N → Vec F S512x128 .f32
  | 0, h => (k2_pay2 (k2_pay6 (b1 W c ⟨0, h⟩)) (k2_pay7 (b0 W c ⟨0, h⟩) (b1 W c ⟨0, h⟩) (et W c) (zt W c)))
  | n + 1, h => (k2_pay3 (k2_pay6 (b1 W c ⟨n + 1, h⟩)) (k2_pay7 (b0 W c ⟨n + 1, h⟩) (b1 W c ⟨n + 1, h⟩) (et W c) (zt W c)) (acc c n (Nat.lt_of_succ_lt h)))

/-- Between the points: before the first the scoped buffers as they are, later the tables filled and the rest. -/
noncomputable def inv (c : Dev nD) : ℕ → sProp 𝕄
  | 0 => Pipeline.scopedRest (Ix := HIx 1) (Name := ℕ) (U := UU) (Lvl := ℕ) (Val := Elt F) spec2 c
  | _ + 1 => iprop((owns (c : Thread nD τ) (Memref.whole cc2_scratch0) fullShare (zt W c) ∗ owns (c : Thread nD τ) (Memref.whole cc2_scratch1) fullShare (et W c)) ∗ Pipeline.scopedRestBut (Ix := HIx 1) (Name := ℕ) (U := UU) (Lvl := ℕ) (Val := Elt F) spec2 c [cc2_scratch0, cc2_scratch1])

noncomputable def dat (c : Dev nD) : Dat τ (Elt F) (HIx 1) ℕ UU ℕ cfg2 c where
  A := arrs cfg2 W c
  after w t := match w with
    | ⟨0, _⟩ => b0 W c t
    | ⟨1, _⟩ => b1 W c t
    | ⟨2, _⟩ => b2 W c t
    | ⟨3, _⟩ => b3 W c t
    | ⟨4, _⟩ => b4 W c t
    | ⟨5, _⟩ => b5 W c t
    | ⟨6, _⟩ => b6 W c t
    | ⟨7, _⟩ => b7 W c t
    | ⟨8, _⟩ => out W c t
    | ⟨9, _⟩ => acc W c t.val t.isLt
  Φ t := inv W c t.val
  q _ := fullShare
  owed _ := 0
  recorded _ := recW (F := F) c

theorem after_0 (c : Dev nD) (t : Fin cfg2.N) : (dat W c).after 0 t = b0 W c t := by dsimp only [dat]
theorem after_1 (c : Dev nD) (t : Fin cfg2.N) : (dat W c).after 1 t = b1 W c t := by dsimp only [dat]
theorem after_2 (c : Dev nD) (t : Fin cfg2.N) : (dat W c).after 2 t = b2 W c t := by dsimp only [dat]
theorem after_3 (c : Dev nD) (t : Fin cfg2.N) : (dat W c).after 3 t = b3 W c t := by dsimp only [dat]
theorem after_4 (c : Dev nD) (t : Fin cfg2.N) : (dat W c).after 4 t = b4 W c t := by dsimp only [dat]
theorem after_5 (c : Dev nD) (t : Fin cfg2.N) : (dat W c).after 5 t = b5 W c t := by dsimp only [dat]
theorem after_6 (c : Dev nD) (t : Fin cfg2.N) : (dat W c).after 6 t = b6 W c t := by dsimp only [dat]
theorem after_7 (c : Dev nD) (t : Fin cfg2.N) : (dat W c).after 7 t = b7 W c t := by dsimp only [dat]
theorem after_8 (c : Dev nD) (t : Fin cfg2.N) : (dat W c).after 8 t = out W c t := by dsimp only [dat]
theorem after_9 (c : Dev nD) (t : Fin cfg2.N) : (dat W c).after 9 t = acc W c t.val t.isLt := by dsimp only [dat]

theorem before_0 (c : Dev nD) (t : Fin cfg2.N) (d) : (dat W c).before 0 t d = b0 W c t := by
  rw [(dat W c).before_in_eq_fetched 0 rfl (fun _ => rfl) (fun _ _ _ => rfl) (fun _ => rfl) t d]
  unfold Dat.fetched Dat.blockOf; rfl
theorem before_1 (c : Dev nD) (t : Fin cfg2.N) (d) : (dat W c).before 1 t d = b1 W c t := by
  rw [(dat W c).before_in_eq_fetched 1 rfl (fun _ => rfl) (fun _ _ _ => rfl) (fun _ => rfl) t d]
  unfold Dat.fetched Dat.blockOf; rfl
theorem before_2 (c : Dev nD) (t : Fin cfg2.N) (d) : (dat W c).before 2 t d = b2 W c t := by
  rw [(dat W c).before_in_eq_fetched 2 rfl (fun _ => rfl) (fun _ _ _ => rfl) (fun _ => rfl) t d]
  unfold Dat.fetched Dat.blockOf; rfl
theorem before_3 (c : Dev nD) (t : Fin cfg2.N) (d) : (dat W c).before 3 t d = b3 W c t := by
  rw [(dat W c).before_in_eq_fetched 3 rfl (fun _ => rfl) (fun _ _ _ => rfl) (fun _ => rfl) t d]
  unfold Dat.fetched Dat.blockOf; rfl
theorem before_4 (c : Dev nD) (t : Fin cfg2.N) (d) : (dat W c).before 4 t d = b4 W c t := by
  rw [(dat W c).before_in_eq_fetched 4 rfl (fun _ => rfl) (fun _ _ _ => rfl) (fun _ => rfl) t d]
  unfold Dat.fetched Dat.blockOf; rfl
theorem before_5 (c : Dev nD) (t : Fin cfg2.N) (d) : (dat W c).before 5 t d = b5 W c t := by
  rw [(dat W c).before_in_eq_fetched 5 rfl (fun _ => rfl) (fun _ _ _ => rfl) (fun _ => rfl) t d]
  unfold Dat.fetched Dat.blockOf; rfl
theorem before_6 (c : Dev nD) (t : Fin cfg2.N) (d) : (dat W c).before 6 t d = b6 W c t := by
  rw [(dat W c).before_in_eq_fetched 6 rfl (fun _ => rfl) (fun _ _ _ => rfl) (fun _ => rfl) t d]
  unfold Dat.fetched Dat.blockOf; rfl
theorem before_7 (c : Dev nD) (t : Fin cfg2.N) (d) : (dat W c).before 7 t d = b7 W c t := by
  rw [(dat W c).before_in_eq_fetched 7 rfl (fun _ => rfl) (fun _ _ _ => rfl) (fun _ => rfl) t d]
  unfold Dat.fetched Dat.blockOf; rfl

theorem idle_acc : ∀ t : Fin cfg2.N, cfg2.idle 9 (cfg2.grid.coords t) = false := by decide +kernel

theorem before_acc (c : Dev nD) (n : ℕ) (h : n + 1 < cfg2.N) (d) :
    (dat W c).before 9 ⟨n + 1, h⟩ d = acc W c n (Nat.lt_of_succ_lt h) := by
  have hN := N25
  rw [Dat.before_of_pos _ 9 ⟨n + 1, h⟩ (Nat.succ_ne_zero n) rfl, if_neg (by
    intro hf
    have := (flush2_9 _).mp hf
    simp only at this
    omega)]
  unfold Dat.left
  rw [idle_acc]
  show (dat W c).after 9 _ = _
  rw [after_9]; rfl

theorem cond_first : ∀ t : Fin cfg2.N, t.val = 0 → isFirst (grid2.coords t) = 1#1 ∧ ¬ k2_cond3 (grid2.coords t) = 1#1 := by decide +kernel
theorem cond_next : ∀ t : Fin cfg2.N, t.val ≠ 0 → ¬ isFirst (grid2.coords t) = 1#1 ∧ k2_cond3 (grid2.coords t) = 1#1 := by decide +kernel

theorem inv_in (c : Dev nD) : (Pipeline.scopedRest (Ix := HIx 1) (Name := ℕ) (U := UU) (Lvl := ℕ) (Val := Elt F) spec2 c : sProp 𝕄) ⊢ (dat W c).Φ 0 := .rfl

theorem inv_out (c : Dev nD) : (dat W c).Φ (Fin.last _) ⊢ (Pipeline.scopedRest (Ix := HIx 1) (Name := ℕ) (U := UU) (Lvl := ℕ) (Val := Elt F) spec2 c : sProp 𝕄) := by
  show inv W c cfg2.N ⊢ _
  rw [N25, scopedRest2_split c]
  unfold inv
  simp only [owns_whole]
  iintro ⟨⟨Hz, He⟩, Hr⟩
  isplitl [Hz He]
  · isplitl [Hz]
    · iexists _; iexact Hz
    iexists _; iexact He
  iexact Hr

/-! ## The body obligation -/

theorem defs₀_row (t : Fin cfg2.N) : defs₀ (F := F) .tc cfg2.body (cfg2.bodyArgs t (cfg2.slots t)) = bodyAt2 t := rfl

theorem sound_body (c : Dev nD) (t : Fin cfg2.N) :
    iprop((dat W c).Φ t.castSucc ∗ (dat W c).owesAt none t.castSucc
      ∗ (∃ d, owns (c : Thread nD τ) (st2_0 t) fullShare ((dat W c).before 0 t d)) ∗ (∃ d, owns (c : Thread nD τ) (st2_1 t) fullShare ((dat W c).before 1 t d)) ∗ (∃ d, owns (c : Thread nD τ) (st2_2 t) fullShare ((dat W c).before 2 t d)) ∗ (∃ d, owns (c : Thread nD τ) (st2_3 t) fullShare ((dat W c).before 3 t d)) ∗ (∃ d, owns (c : Thread nD τ) (st2_4 t) fullShare ((dat W c).before 4 t d)) ∗ (∃ d, owns (c : Thread nD τ) (st2_5 t) fullShare ((dat W c).before 5 t d)) ∗ (∃ d, owns (c : Thread nD τ) (st2_6 t) fullShare ((dat W c).before 6 t d)) ∗ (∃ d, owns (c : Thread nD τ) (st2_7 t) fullShare ((dat W c).before 7 t d)) ∗ (∃ d, owns (c : Thread nD τ) (st2_8 t) fullShare ((dat W c).before 8 t d)) ∗ (∃ d, owns (c : Thread nD τ) (st2_9 t) fullShare ((dat W c).before 9 t d)))
    ⊢ wp frame (wpE (defs₀ (F := F)) Variants.none c none) Set.univ (bodyAt2 t) fun _ =>
      iprop((dat W c).Φ t.succ ∗ (dat W c).owesAt none t.succ
        ∗ owns (c : Thread nD τ) (st2_0 t) fullShare ((dat W c).after 0 t) ∗ owns (c : Thread nD τ) (st2_1 t) fullShare ((dat W c).after 1 t) ∗ owns (c : Thread nD τ) (st2_2 t) fullShare ((dat W c).after 2 t) ∗ owns (c : Thread nD τ) (st2_3 t) fullShare ((dat W c).after 3 t) ∗ owns (c : Thread nD τ) (st2_4 t) fullShare ((dat W c).after 4 t) ∗ owns (c : Thread nD τ) (st2_5 t) fullShare ((dat W c).after 5 t) ∗ owns (c : Thread nD τ) (st2_6 t) fullShare ((dat W c).after 6 t) ∗ owns (c : Thread nD τ) (st2_7 t) fullShare ((dat W c).after 7 t) ∗ owns (c : Thread nD τ) (st2_8 t) fullShare ((dat W c).after 8 t) ∗ owns (c : Thread nD τ) (st2_9 t) fullShare ((dat W c).after 9 t)) := by
  rw [show (dat W c).owesAt none t.succ = (dat W c).owesAt none t.castSucc from rfl,
    show (dat W c).Φ t.succ = inv W c (t.val + 1) from rfl, show (dat W c).Φ t.castSucc = inv W c t.val from rfl]
  simp only [before_0, before_1, before_2, before_3, before_4, before_5, before_6, before_7, after_0, after_1, after_2, after_3, after_4, after_5, after_6, after_7, after_8, after_9]
  obtain ⟨n, hn⟩ := t
  cases n with
  | zero =>
    rw [show inv W c (0 : ℕ) = Pipeline.scopedRest spec2 c from rfl, scopedRest2_split c]
    unfold inv
    iintro ⟨⟨⟨⟨%gz, Hz⟩, ⟨%ge, He⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_first c Set.univ _ (cond_first ⟨0, hn⟩ rfl).1 (cond_first ⟨0, hn⟩ rfl).2 _ _ _ _ _ _ _ _ _ _ _ _ _ _ _ _ _ _ _ _ _ _ _ _ (b0 W c ⟨0, hn⟩) (b1 W c ⟨0, hn⟩) (b2 W c ⟨0, hn⟩) (b3 W c ⟨0, hn⟩) (b4 W c ⟨0, hn⟩) (b5 W c ⟨0, hn⟩) (b6 W c ⟨0, hn⟩) (b7 W c ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [Hz]; · iexists gz; rw [owns_whole]; iexact Hz
    isplitl [He]; · iexists ge; rw [owns_whole]; iexact He
    iintro ⟨H0, H1, H2, H3, H4, H5, H6, H7, H8, H9, Hz, He⟩
    isplitl [Hz He Hr]
    · isplitl [Hz He]
      · isplitl [Hz]; · iexact Hz
        iexact He
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  | succ n =>
    simp only [before_acc]
    unfold inv
    iintro ⟨⟨⟨Hz, He⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_next c Set.univ _ (cond_next ⟨n + 1, hn⟩ (Nat.succ_ne_zero n)).1 (cond_next ⟨n + 1, hn⟩ (Nat.succ_ne_zero n)).2 _ _ _ _ _ _ _ _ _ _ _ _ _ _ _ _ _ _ _ _ _ _ _ _ (b0 W c ⟨n + 1, hn⟩) (b1 W c ⟨n + 1, hn⟩) (b2 W c ⟨n + 1, hn⟩) (b3 W c ⟨n + 1, hn⟩) (b4 W c ⟨n + 1, hn⟩) (b5 W c ⟨n + 1, hn⟩) (b6 W c ⟨n + 1, hn⟩) (b7 W c ⟨n + 1, hn⟩)
      (acc W c n (Nat.lt_of_succ_lt hn)) (zt W c) (et W c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [Hz]; · iexact Hz
    isplitl [He]; · iexact He
    iintro ⟨H0, H1, H2, H3, H4, H5, H6, H7, H8, H9, Hz, He⟩
    isplitl [Hz He Hr]
    · isplitl [Hz He]
      · isplitl [Hz]; · iexact Hz
        iexact He
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_obligation (c : Dev nD) : BodyObligation (dat W c) (defs₀ (F := F)) 𝒱₀ none Set.univ := fun t => by
  rw [bigSep_W2, bigSep_W2, defs₀_row]
  simp only [idle_acc]
  exact triple_restated (sound_body W c t) rfl .rfl fun _ => by
    rw [show idle2 9 (grid2.coords t) = false from idle_acc t]

/-! ## The results -/

/-- The second result holds the sums after the last point. -/
theorem final_acc (c : Dev nD) : (dat W c).arrAt 9 cfg2.N = acc W c 24 (by rw [N25]; decide) := by
  refine (dat W c).arrAt_eq_of_after_last 9 ⟨24, by rw [N25]; decide⟩ (by decide +kernel) _ fun j => ?_
  rw [after_9]
  blk_simp
  rfl

end Cert.Proof.Layer0

end
-- ==== Proof.Layer1.lean ====
/-
  The second layer's kernel: at the first point it fills its table (the per-graph term of the first matrix product, from
  the sums of the layer before); at every point it makes one block of the layer's result and adds one block's share to
  the sums of the result's rows.
-/
module

public import proofs.«01_k».proof.Proof.Region
public import proofs.«01_k».proof.Proof.Gen.KernelIdeal.Points
public import proofs.«01_k».proof.Proof.Gen.KernelIdeal.Skeleton
public import Idealize.ShloMosaic.Lib.Pipeline.ValueKit
public import Idealize.ShloMosaic.Lib.Tactic

@[expose] public section

set_option maxRecDepth 16384

noncomputable section

namespace Cert.Proof.Layer1

open Cert.KernelIdeal Cert.KernelIdeal.Gen Cert.Proof.Sc

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRefs arrRef)

variable {F : FTy → Type} [FloatOps F]

local notation "𝕄" => MT nD τ sig (HIx 1) (Elt F) ℕ UU ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The condition under which the tables are filled. -/
abbrev isFirst (i : grid3.Coords) : BitVec 1 := Scalar.cmpi .ne (Scalar.extui (Scalar.cmpi .eq (BitVec.ofNat 32 (i 0).val) 0#32) : BitVec 32) 0#32

/-! ## The body's two cases -/

/-- At the first point the tables are filled, then read. -/
theorem sound_first (c : Dev nD) (E : Set ℕ) (i : grid3.Coords) (h1 : isFirst i = 1#1) (h3 : ¬ k3_cond3 i = 1#1)
    (arg1 : Memref sig .tc .vmem S4096x256 .bf16) (harg1 : arg1.IsWhole)
    (arg2 : Memref sig .tc .vmem S1x1x4096 .i32) (harg2 : arg2.IsWhole)
    (arg3 : Memref sig .tc .vmem S512x144 .f32) (harg3 : arg3.IsWhole)
    (arg4 : Memref sig .tc .vmem S512x128 .f32) (harg4 : arg4.IsWhole)
    (arg5 : Memref sig .tc .vmem S128x256 .bf16) (harg5 : arg5.IsWhole)
    (arg6 : Memref sig .tc .vmem S1x256 .f32) (harg6 : arg6.IsWhole)
    (arg7 : Memref sig .tc .vmem S256x256 .bf16) (harg7 : arg7.IsWhole)
    (arg8 : Memref sig .tc .vmem S1x256 .f32) (harg8 : arg8.IsWhole)
    (arg9 : Memref sig .tc .vmem S256x256 .bf16) (harg9 : arg9.IsWhole)
    (arg10 : Memref sig .tc .vmem S1x256 .f32) (harg10 : arg10.IsWhole)
    (arg11 : Memref sig .tc .vmem S4096x256 .bf16) (harg11 : arg11.IsWhole)
    (arg12 : Memref sig .tc .vmem S512x256 .f32) (harg12 : arg12.IsWhole)
    (arg13 : Memref sig .tc .vmem S512x256 .bf16) (harg13 : arg13.IsWhole)
    (x0 : Vec F S4096x256 .bf16) (x1 : Vec F S1x1x4096 .i32) (x2 : Vec F S512x144 .f32) (x3 : Vec F S512x128 .f32) (x4 : Vec F S128x256 .bf16) (x5 : Vec F S1x256 .f32) (x6 : Vec F S256x256 .bf16) (x7 : Vec F S1x256 .f32) (x8 : Vec F S256x256 .bf16) (x9 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k3_pay5 x1 x0 x6 (k3_pay3 x2 x3 x4 x5 x6 x7) x8 x9) ∗ owns (c : Thread nD τ) arg12 fullShare (k3_pay1 (k3_pay5 x1 x0 x6 (k3_pay3 x2 x3 x4 x5 x6 x7) x8 x9) (k3_pay6 x1) k3_pay7) ∗ owns (c : Thread nD τ) arg13 fullShare (k3_pay3 x2 x3 x4 x5 x6 x7)) -∗ K ⟨⟩))
      ⊢ wp frame (wpE (defs₀ (F := F)) Variants.none c none) E (cc3__layer_body i arg1 harg1 arg2 harg2 arg3 harg3 arg4 harg4 arg5 harg5 arg6 harg6 arg7 harg7 arg8 harg8 arg9 harg9 arg10 harg10 arg11 harg11 arg12 harg12 arg13 harg13) K := by
  have h2 : k3_cond2 i = 1#1 := h1
  simp only [cc3__layer_body_eq_skeleton]; unfold cc3__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [View.read_writes_eq_canon _ _ _ (View.cover_of_tiled _ S4096x256.size (by rfl)), View.canon_unit_zero (S := S4096x256) hz2]
    unfold sound_first.sl.v18
    rw [View.readCov_eq_canon_ld _ _ _ (View.cover_of_tiled _ S512x256.size (by rfl))]
    unfold sound_first.sl.H12_1
    rw [View.canon_unit_zero (S := S512x256) hz2]
    simp only [View.readAt_eq_ld, View.ld_unit_zero (S := S4096x256) hz2, View.ld_unit_zero (S := S1x1x4096) hz3, View.ld_unit_zero (S := S512x144) hz2, View.ld_unit_zero (S := S512x128) hz2, View.ld_unit_zero (S := S128x256) hz2, View.ld_unit_zero (S := S1x256) hz2, View.ld_unit_zero (S := S256x256) hz2, View.ld_unit_zero (S := S512x256) hz2]
  isplitl [H11]
  · iexists _; isplitr
    swap; · iexact H11
    ipureintro
    rw [View.read_writes_eq_canon _ _ _ (View.cover_of_tiled _ S512x256.size (by rfl)), View.canon_unit_zero (S := S512x256) hz2]
    unfold sound_first.sl.r sound_first.sl.r_1
    unfold sound_first.sl.v18
    rw [View.readCov_eq_canon_ld _ _ _ (View.cover_of_tiled _ S512x256.size (by rfl))]
    unfold sound_first.sl.H12_1
    rw [View.canon_unit_zero (S := S512x256) hz2]
    simp only [View.readAt_eq_ld, View.ld_unit_zero (S := S4096x256) hz2, View.ld_unit_zero (S := S1x1x4096) hz3, View.ld_unit_zero (S := S512x144) hz2, View.ld_unit_zero (S := S512x128) hz2, View.ld_unit_zero (S := S128x256) hz2, View.ld_unit_zero (S := S1x256) hz2, View.ld_unit_zero (S := S256x256) hz2, View.ld_unit_zero (S := S512x256) hz2]
  iexists _; isplitr
  swap; · iexact H12
  ipureintro
  unfold sound_first.sl.H12_1
  rw [View.read_writes_eq_canon _ _ _ (View.cover_of_tiled _ S512x256.size (by rfl)), View.canon_unit_zero (S := S512x256) hz2]
  simp only [View.readAt_eq_ld, View.ld_unit_zero (S := S4096x256) hz2, View.ld_unit_zero (S := S1x1x4096) hz3, View.ld_unit_zero (S := S512x144) hz2, View.ld_unit_zero (S := S512x128) hz2, View.ld_unit_zero (S := S128x256) hz2, View.ld_unit_zero (S := S1x256) hz2, View.ld_unit_zero (S := S256x256) hz2, View.ld_unit_zero (S := S512x256) hz2]

/-- At a later point the tables are only read, and the sums added to. -/
theorem sound_next (c : Dev nD) (E : Set ℕ) (i : grid3.Coords) (h1 : ¬ isFirst i = 1#1) (h3 : k3_cond3 i = 1#1)
    (arg1 : Memref sig .tc .vmem S4096x256 .bf16) (harg1 : arg1.IsWhole)
    (arg2 : Memref sig .tc .vmem S1x1x4096 .i32) (harg2 : arg2.IsWhole)
    (arg3 : Memref sig .tc .vmem S512x144 .f32) (harg3 : arg3.IsWhole)
    (arg4 : Memref sig .tc .vmem S512x128 .f32) (harg4 : arg4.IsWhole)
    (arg5 : Memref sig .tc .vmem S128x256 .bf16) (harg5 : arg5.IsWhole)
    (arg6 : Memref sig .tc .vmem S1x256 .f32) (harg6 : arg6.IsWhole)
    (arg7 : Memref sig .tc .vmem S256x256 .bf16) (harg7 : arg7.IsWhole)
    (arg8 : Memref sig .tc .vmem S1x256 .f32) (harg8 : arg8.IsWhole)
    (arg9 : Memref sig .tc .vmem S256x256 .bf16) (harg9 : arg9.IsWhole)
    (arg10 : Memref sig .tc .vmem S1x256 .f32) (harg10 : arg10.IsWhole)
    (arg11 : Memref sig .tc .vmem S4096x256 .bf16) (harg11 : arg11.IsWhole)
    (arg12 : Memref sig .tc .vmem S512x256 .f32) (harg12 : arg12.IsWhole)
    (arg13 : Memref sig .tc .vmem S512x256 .bf16) (harg13 : arg13.IsWhole)
    (x0 : Vec F S4096x256 .bf16) (x1 : Vec F S1x1x4096 .i32) (x2 : Vec F S512x144 .f32) (x3 : Vec F S512x128 .f32) (x4 : Vec F S128x256 .bf16) (x5 : Vec F S1x256 .f32) (x6 : Vec F S256x256 .bf16) (x7 : Vec F S1x256 .f32) (x8 : Vec F S256x256 .bf16) (x9 : Vec F S1x256 .f32) (y : Vec F S512x256 .f32) (z : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ owns (c : Thread nD τ) arg12 fullShare y ∗ owns (c : Thread nD τ) arg13 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k3_pay5 x1 x0 x6 z x8 x9) ∗ owns (c : Thread nD τ) arg12 fullShare (k3_pay2 (k3_pay5 x1 x0 x6 z x8 x9) (k3_pay6 x1) k3_pay7 y) ∗ owns (c : Thread nD τ) arg13 fullShare z) -∗ K ⟨⟩))
      ⊢ wp frame (wpE (defs₀ (F := F)) Variants.none c none) E (cc3__layer_body i arg1 harg1 arg2 harg2 arg3 harg3 arg4 harg4 arg5 harg5 arg6 harg6 arg7 harg7 arg8 harg8 arg9 harg9 arg10 harg10 arg11 harg11 arg12 harg12 arg13 harg13) K := by
  have h2 : ¬ k3_cond2 i = 1#1 := h1
  simp only [cc3__layer_body_eq_skeleton]; unfold cc3__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  subst hf0 hf1 hf2 hf3 hf4 hf5 hf6 hf7 hf8 hf9 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [View.read_writes_eq_canon _ _ _ (View.cover_of_tiled _ S4096x256.size (by rfl)), View.canon_unit_zero (S := S4096x256) hz2]
    simp only [View.readAt_eq_ld, View.ld_unit_zero (S := S4096x256) hz2, View.ld_unit_zero (S := S1x1x4096) hz3, View.ld_unit_zero (S := S512x144) hz2, View.ld_unit_zero (S := S512x128) hz2, View.ld_unit_zero (S := S128x256) hz2, View.ld_unit_zero (S := S1x256) hz2, View.ld_unit_zero (S := S256x256) hz2, View.ld_unit_zero (S := S512x256) hz2]
  isplitl [H11]
  · iexists _; isplitr
    swap; · iexact H11
    ipureintro
    rw [View.read_writes_eq_canon _ _ _ (View.cover_of_tiled _ S512x256.size (by rfl)), View.canon_unit_zero (S := S512x256) hz2]
    unfold sound_next.sl.r sound_next.sl.r_1
    simp only [View.readAt_eq_ld, View.ld_unit_zero (S := S4096x256) hz2, View.ld_unit_zero (S := S1x1x4096) hz3, View.ld_unit_zero (S := S512x144) hz2, View.ld_unit_zero (S := S512x128) hz2, View.ld_unit_zero (S := S128x256) hz2, View.ld_unit_zero (S := S1x256) hz2, View.ld_unit_zero (S := S256x256) hz2, View.ld_unit_zero (S := S512x256) hz2]
  iexists f12; isplitr; · ipureintro; rfl
  iexact H12

/-! ## The proof data -/

variable (W : Dev nD → Valuation τ sig (Elt F))

noncomputable def b0 (c : Dev nD) (t : Fin cfg3.N) : Vec F S4096x256 .bf16 := blkAt cfg3 W c 0 t
noncomputable def b1 (c : Dev nD) (t : Fin cfg3.N) : Vec F S1x1x4096 .i32 := blkAt cfg3 W c 1 t
noncomputable def b2 (c : Dev nD) (t : Fin cfg3.N) : Vec F S512x144 .f32 := blkAt cfg3 W c 2 t
noncomputable def b3 (c : Dev nD) (t : Fin cfg3.N) : Vec F S512x128 .f32 := blkAt cfg3 W c 3 t
noncomputable def b4 (c : Dev nD) (t : Fin cfg3.N) : Vec F S128x256 .bf16 := blkAt cfg3 W c 4 t
noncomputable def b5 (c : Dev nD) (t : Fin cfg3.N) : Vec F S1x256 .f32 := blkAt cfg3 W c 5 t
noncomputable def b6 (c : Dev nD) (t : Fin cfg3.N) : Vec F S256x256 .bf16 := blkAt cfg3 W c 6 t
noncomputable def b7 (c : Dev nD) (t : Fin cfg3.N) : Vec F S1x256 .f32 := blkAt cfg3 W c 7 t
noncomputable def b8 (c : Dev nD) (t : Fin cfg3.N) : Vec F S256x256 .bf16 := blkAt cfg3 W c 8 t
noncomputable def b9 (c : Dev nD) (t : Fin cfg3.N) : Vec F S1x256 .f32 := blkAt cfg3 W c 9 t

theorem N25 : cfg3.N = 25 := N_3
theorem h0 : 0 < cfg3.N := by rw [N25]; decide

/-! The tables, filled at the first point. -/

noncomputable def zt (c : Dev nD) : Vec F S512x256 .bf16 := k3_pay3 (b2 W c ⟨0, h0⟩) (b3 W c ⟨0, h0⟩) (b4 W c ⟨0, h0⟩) (b5 W c ⟨0, h0⟩) (b6 W c ⟨0, h0⟩) (b7 W c ⟨0, h0⟩)

/-- The block of the layer's result made at point `t`. -/
noncomputable def out (c : Dev nD) (t : Fin cfg3.N) : Vec F S4096x256 .bf16 := (k3_pay5 (b1 W c t) (b0 W c t) (b6 W c t) (zt W c) (b8 W c t) (b9 W c t))

/-- The sums after point `n`. -/
noncomputable def acc (c : Dev nD) : (n : ℕ) → n < cfg3.N → Vec F S512x256 .f32
  | 0, h => (k3_pay1 (k3_pay5 (b1 W c ⟨0, h⟩) (b0 W c ⟨0, h⟩) (b6 W c ⟨0, h⟩) (zt W c) (b8 W c ⟨0, h⟩) (b9 W c ⟨0, h⟩)) (k3_pay6 (b1 W c ⟨0, h⟩)) k3_pay7)
  | n + 1, h => (k3_pay2 (k3_pay5 (b1 W c ⟨n + 1, h⟩) (b0 W c ⟨n + 1, h⟩) (b6 W c ⟨n + 1, h⟩) (zt W c) (b8 W c ⟨n + 1, h⟩) (b9 W c ⟨n + 1, h⟩)) (k3_pay6 (b1 W c ⟨n + 1, h⟩)) k3_pay7 (acc c n (Nat.lt_of_succ_lt h)))

/-- Between the points: before the first the scoped buffers as they are, later the tables filled and the rest. -/
noncomputable def inv (c : Dev nD) : ℕ → sProp 𝕄
  | 0 => Pipeline.scopedRest (Ix := HIx 1) (Name := ℕ) (U := UU) (Lvl := ℕ) (Val := Elt F) spec3 c
  | _ + 1 => iprop((owns (c : Thread nD τ) (Memref.whole cc3_scratch0) fullShare (zt W c)) ∗ Pipeline.scopedRestBut (Ix := HIx 1) (Name := ℕ) (U := UU) (Lvl := ℕ) (Val := Elt F) spec3 c [cc3_scratch0])

noncomputable def dat (c : Dev nD) : Dat τ (Elt F) (HIx 1) ℕ UU ℕ cfg3 c where
  A := arrs cfg3 W c
  after w t := match w with
    | ⟨0, _⟩ => b0 W c t
    | ⟨1, _⟩ => b1 W c t
    | ⟨2, _⟩ => b2 W c t
    | ⟨3, _⟩ => b3 W c t
    | ⟨4, _⟩ => b4 W c t
    | ⟨5, _⟩ => b5 W c t
    | ⟨6, _⟩ => b6 W c t
    | ⟨7, _⟩ => b7 W c t
    | ⟨8, _⟩ => b8 W c t
    | ⟨9, _⟩ => b9 W c t
    | ⟨10, _⟩ => out W c t
    | ⟨11, _⟩ => acc W c t.val t.isLt
  Φ t := inv W c t.val
  q _ := fullShare
  owed _ := 0
  recorded _ := recW (F := F) c

theorem after_0 (c : Dev nD) (t : Fin cfg3.N) : (dat W c).after 0 t = b0 W c t := by dsimp only [dat]
theorem after_1 (c : Dev nD) (t : Fin cfg3.N) : (dat W c).after 1 t = b1 W c t := by dsimp only [dat]
theorem after_2 (c : Dev nD) (t : Fin cfg3.N) : (dat W c).after 2 t = b2 W c t := by dsimp only [dat]
theorem after_3 (c : Dev nD) (t : Fin cfg3.N) : (dat W c).after 3 t = b3 W c t := by dsimp only [dat]
theorem after_4 (c : Dev nD) (t : Fin cfg3.N) : (dat W c).after 4 t = b4 W c t := by dsimp only [dat]
theorem after_5 (c : Dev nD) (t : Fin cfg3.N) : (dat W c).after 5 t = b5 W c t := by dsimp only [dat]
theorem after_6 (c : Dev nD) (t : Fin cfg3.N) : (dat W c).after 6 t = b6 W c t := by dsimp only [dat]
theorem after_7 (c : Dev nD) (t : Fin cfg3.N) : (dat W c).after 7 t = b7 W c t := by dsimp only [dat]
theorem after_8 (c : Dev nD) (t : Fin cfg3.N) : (dat W c).after 8 t = b8 W c t := by dsimp only [dat]
theorem after_9 (c : Dev nD) (t : Fin cfg3.N) : (dat W c).after 9 t = b9 W c t := by dsimp only [dat]
theorem after_10 (c : Dev nD) (t : Fin cfg3.N) : (dat W c).after 10 t = out W c t := by dsimp only [dat]
theorem after_11 (c : Dev nD) (t : Fin cfg3.N) : (dat W c).after 11 t = acc W c t.val t.isLt := by dsimp only [dat]

theorem before_0 (c : Dev nD) (t : Fin cfg3.N) (d) : (dat W c).before 0 t d = b0 W c t := by
  rw [(dat W c).before_in_eq_fetched 0 rfl (fun _ => rfl) (fun _ _ _ => rfl) (fun _ => rfl) t d]
  unfold Dat.fetched Dat.blockOf; rfl
theorem before_1 (c : Dev nD) (t : Fin cfg3.N) (d) : (dat W c).before 1 t d = b1 W c t := by
  rw [(dat W c).before_in_eq_fetched 1 rfl (fun _ => rfl) (fun _ _ _ => rfl) (fun _ => rfl) t d]
  unfold Dat.fetched Dat.blockOf; rfl
theorem before_2 (c : Dev nD) (t : Fin cfg3.N) (d) : (dat W c).before 2 t d = b2 W c t := by
  rw [(dat W c).before_in_eq_fetched 2 rfl (fun _ => rfl) (fun _ _ _ => rfl) (fun _ => rfl) t d]
  unfold Dat.fetched Dat.blockOf; rfl
theorem before_3 (c : Dev nD) (t : Fin cfg3.N) (d) : (dat W c).before 3 t d = b3 W c t := by
  rw [(dat W c).before_in_eq_fetched 3 rfl (fun _ => rfl) (fun _ _ _ => rfl) (fun _ => rfl) t d]
  unfold Dat.fetched Dat.blockOf; rfl
theorem before_4 (c : Dev nD) (t : Fin cfg3.N) (d) : (dat W c).before 4 t d = b4 W c t := by
  rw [(dat W c).before_in_eq_fetched 4 rfl (fun _ => rfl) (fun _ _ _ => rfl) (fun _ => rfl) t d]
  unfold Dat.fetched Dat.blockOf; rfl
theorem before_5 (c : Dev nD) (t : Fin cfg3.N) (d) : (dat W c).before 5 t d = b5 W c t := by
  rw [(dat W c).before_in_eq_fetched 5 rfl (fun _ => rfl) (fun _ _ _ => rfl) (fun _ => rfl) t d]
  unfold Dat.fetched Dat.blockOf; rfl
theorem before_6 (c : Dev nD) (t : Fin cfg3.N) (d) : (dat W c).before 6 t d = b6 W c t := by
  rw [(dat W c).before_in_eq_fetched 6 rfl (fun _ => rfl) (fun _ _ _ => rfl) (fun _ => rfl) t d]
  unfold Dat.fetched Dat.blockOf; rfl
theorem before_7 (c : Dev nD) (t : Fin cfg3.N) (d) : (dat W c).before 7 t d = b7 W c t := by
  rw [(dat W c).before_in_eq_fetched 7 rfl (fun _ => rfl) (fun _ _ _ => rfl) (fun _ => rfl) t d]
  unfold Dat.fetched Dat.blockOf; rfl
theorem before_8 (c : Dev nD) (t : Fin cfg3.N) (d) : (dat W c).before 8 t d = b8 W c t := by
  rw [(dat W c).before_in_eq_fetched 8 rfl (fun _ => rfl) (fun _ _ _ => rfl) (fun _ => rfl) t d]
  unfold Dat.fetched Dat.blockOf; rfl
theorem before_9 (c : Dev nD) (t : Fin cfg3.N) (d) : (dat W c).before 9 t d = b9 W c t := by
  rw [(dat W c).before_in_eq_fetched 9 rfl (fun _ => rfl) (fun _ _ _ => rfl) (fun _ => rfl) t d]
  unfold Dat.fetched Dat.blockOf; rfl

theorem idle_acc : ∀ t : Fin cfg3.N, cfg3.idle 11 (cfg3.grid.coords t) = false := by decide +kernel

theorem before_acc (c : Dev nD) (n : ℕ) (h : n + 1 < cfg3.N) (d) :
    (dat W c).before 11 ⟨n + 1, h⟩ d = acc W c n (Nat.lt_of_succ_lt h) := by
  have hN := N25
  rw [Dat.before_of_pos _ 11 ⟨n + 1, h⟩ (Nat.succ_ne_zero n) rfl, if_neg (by
    intro hf
    have := (flush3_11 _).mp hf
    simp only at this
    omega)]
  unfold Dat.left
  rw [idle_acc]
  show (dat W c).after 11 _ = _
  rw [after_11]; rfl

theorem cond_first : ∀ t : Fin cfg3.N, t.val = 0 → isFirst (grid3.coords t) = 1#1 ∧ ¬ k3_cond3 (grid3.coords t) = 1#1 := by decide +kernel
theorem cond_next : ∀ t : Fin cfg3.N, t.val ≠ 0 → ¬ isFirst (grid3.coords t) = 1#1 ∧ k3_cond3 (grid3.coords t) = 1#1 := by decide +kernel

theorem inv_in (c : Dev nD) : (Pipeline.scopedRest (Ix := HIx 1) (Name := ℕ) (U := UU) (Lvl := ℕ) (Val := Elt F) spec3 c : sProp 𝕄) ⊢ (dat W c).Φ 0 := .rfl

theorem inv_out (c : Dev nD) : (dat W c).Φ (Fin.last _) ⊢ (Pipeline.scopedRest (Ix := HIx 1) (Name := ℕ) (U := UU) (Lvl := ℕ) (Val := Elt F) spec3 c : sProp 𝕄) := by
  show inv W c cfg3.N ⊢ _
  rw [N25, scopedRest3_split c]
  unfold inv
  simp only [owns_whole]
  iintro ⟨Hz, Hr⟩
  isplitl [Hz]
  · iexists _; iexact Hz
  iexact Hr

/-! ## The body obligation -/

theorem defs₀_row (t : Fin cfg3.N) : defs₀ (F := F) .tc cfg3.body (cfg3.bodyArgs t (cfg3.slots t)) = bodyAt3 t := rfl

theorem sound_body (c : Dev nD) (t : Fin cfg3.N) :
    iprop((dat W c).Φ t.castSucc ∗ (dat W c).owesAt none t.castSucc
      ∗ (∃ d, owns (c : Thread nD τ) (st3_0 t) fullShare ((dat W c).before 0 t d)) ∗ (∃ d, owns (c : Thread nD τ) (st3_1 t) fullShare ((dat W c).before 1 t d)) ∗ (∃ d, owns (c : Thread nD τ) (st3_2 t) fullShare ((dat W c).before 2 t d)) ∗ (∃ d, owns (c : Thread nD τ) (st3_3 t) fullShare ((dat W c).before 3 t d)) ∗ (∃ d, owns (c : Thread nD τ) (st3_4 t) fullShare ((dat W c).before 4 t d)) ∗ (∃ d, owns (c : Thread nD τ) (st3_5 t) fullShare ((dat W c).before 5 t d)) ∗ (∃ d, owns (c : Thread nD τ) (st3_6 t) fullShare ((dat W c).before 6 t d)) ∗ (∃ d, owns (c : Thread nD τ) (st3_7 t) fullShare ((dat W c).before 7 t d)) ∗ (∃ d, owns (c : Thread nD τ) (st3_8 t) fullShare ((dat W c).before 8 t d)) ∗ (∃ d, owns (c : Thread nD τ) (st3_9 t) fullShare ((dat W c).before 9 t d)) ∗ (∃ d, owns (c : Thread nD τ) (st3_10 t) fullShare ((dat W c).before 10 t d)) ∗ (∃ d, owns (c : Thread nD τ) (st3_11 t) fullShare ((dat W c).before 11 t d)))
    ⊢ wp frame (wpE (defs₀ (F := F)) Variants.none c none) Set.univ (bodyAt3 t) fun _ =>
      iprop((dat W c).Φ t.succ ∗ (dat W c).owesAt none t.succ
        ∗ owns (c : Thread nD τ) (st3_0 t) fullShare ((dat W c).after 0 t) ∗ owns (c : Thread nD τ) (st3_1 t) fullShare ((dat W c).after 1 t) ∗ owns (c : Thread nD τ) (st3_2 t) fullShare ((dat W c).after 2 t) ∗ owns (c : Thread nD τ) (st3_3 t) fullShare ((dat W c).after 3 t) ∗ owns (c : Thread nD τ) (st3_4 t) fullShare ((dat W c).after 4 t) ∗ owns (c : Thread nD τ) (st3_5 t) fullShare ((dat W c).after 5 t) ∗ owns (c : Thread nD τ) (st3_6 t) fullShare ((dat W c).after 6 t) ∗ owns (c : Thread nD τ) (st3_7 t) fullShare ((dat W c).after 7 t) ∗ owns (c : Thread nD τ) (st3_8 t) fullShare ((dat W c).after 8 t) ∗ owns (c : Thread nD τ) (st3_9 t) fullShare ((dat W c).after 9 t) ∗ owns (c : Thread nD τ) (st3_10 t) fullShare ((dat W c).after 10 t) ∗ owns (c : Thread nD τ) (st3_11 t) fullShare ((dat W c).after 11 t)) := by
  rw [show (dat W c).owesAt none t.succ = (dat W c).owesAt none t.castSucc from rfl,
    show (dat W c).Φ t.succ = inv W c (t.val + 1) from rfl, show (dat W c).Φ t.castSucc = inv W c t.val from rfl]
  simp only [before_0, before_1, before_2, before_3, before_4, before_5, before_6, before_7, before_8, before_9, after_0, after_1, after_2, after_3, after_4, after_5, after_6, after_7, after_8, after_9, after_10, after_11]
  obtain ⟨n, hn⟩ := t
  cases n with
  | zero =>
    rw [show inv W c (0 : ℕ) = Pipeline.scopedRest spec3 c from rfl, scopedRest3_split c]
    unfold inv
    iintro ⟨⟨⟨%gz, Hz⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_first c Set.univ _ (cond_first ⟨0, hn⟩ rfl).1 (cond_first ⟨0, hn⟩ rfl).2 _ _ _ _ _ _ _ _ _ _ _ _ _ _ _ _ _ _ _ _ _ _ _ _ _ _ (b0 W c ⟨0, hn⟩) (b1 W c ⟨0, hn⟩) (b2 W c ⟨0, hn⟩) (b3 W c ⟨0, hn⟩) (b4 W c ⟨0, hn⟩) (b5 W c ⟨0, hn⟩) (b6 W c ⟨0, hn⟩) (b7 W c ⟨0, hn⟩) (b8 W c ⟨0, hn⟩) (b9 W c ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [Hz]; · iexists gz; rw [owns_whole]; iexact Hz
    iintro ⟨H0, H1, H2, H3, H4, H5, H6, H7, H8, H9, H10, H11, Hz⟩
    isplitl [Hz Hr]
    · isplitl [Hz]
      · iexact Hz
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  | succ n =>
    simp only [before_acc]
    unfold inv
    iintro ⟨⟨Hz, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_next c Set.univ _ (cond_next ⟨n + 1, hn⟩ (Nat.succ_ne_zero n)).1 (cond_next ⟨n + 1, hn⟩ (Nat.succ_ne_zero n)).2 _ _ _ _ _ _ _ _ _ _ _ _ _ _ _ _ _ _ _ _ _ _ _ _ _ _ (b0 W c ⟨n + 1, hn⟩) (b1 W c ⟨n + 1, hn⟩) (b2 W c ⟨n + 1, hn⟩) (b3 W c ⟨n + 1, hn⟩) (b4 W c ⟨n + 1, hn⟩) (b5 W c ⟨n + 1, hn⟩) (b6 W c ⟨n + 1, hn⟩) (b7 W c ⟨n + 1, hn⟩) (b8 W c ⟨n + 1, hn⟩) (b9 W c ⟨n + 1, hn⟩)
      (acc W c n (Nat.lt_of_succ_lt hn)) (zt W c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [Hz]; · iexact Hz
    iintro ⟨H0, H1, H2, H3, H4, H5, H6, H7, H8, H9, H10, H11, Hz⟩
    isplitl [Hz Hr]
    · isplitl [Hz]
      · iexact Hz
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem body_obligation (c : Dev nD) : BodyObligation (dat W c) (defs₀ (F := F)) 𝒱₀ none Set.univ := fun t => by
  rw [bigSep_W3, bigSep_W3, defs₀_row]
  simp only [idle_acc]
  exact triple_restated (sound_body W c t) rfl .rfl fun _ => by
    rw [show idle3 11 (grid3.coords t) = false from idle_acc t]

/-! ## The results -/

/-- The second result holds the sums after the last point. -/
theorem final_acc (c : Dev nD) : (dat W c).arrAt 11 cfg3.N = acc W c 24 (by rw [N25]; decide) := by
  refine (dat W c).arrAt_eq_of_after_last 11 ⟨24, by rw [N25]; decide⟩ (by decide +kernel) _ fun j => ?_
  rw [after_11]
  blk_simp
  rfl

end Cert.Proof.Layer1

end
-- ==== Proof.Layer2.lean ====
/-
  The third layer's kernel: at the first point it fills its table (the per-graph term of the first matrix product, from
  the sums of the layer before); at every point it makes one block of the result and adds one block's share to the sums
  of the result's rows.
-/
module

public import proofs.«01_k».proof.Proof.Region
public import proofs.«01_k».proof.Proof.Gen.KernelIdeal.Points
public import proofs.«01_k».proof.Proof.Gen.KernelIdeal.Skeleton
public import Idealize.ShloMosaic.Lib.Pipeline.ValueKit
public import Idealize.ShloMosaic.Lib.Tactic

@[expose] public section

set_option maxRecDepth 16384

noncomputable section

namespace Cert.Proof.Layer2

open Cert.KernelIdeal Cert.KernelIdeal.Gen Cert.Proof.Sc

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRefs arrRef)

variable {F : FTy → Type} [FloatOps F]

local notation "𝕄" => MT nD τ sig (HIx 1) (Elt F) ℕ UU ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The condition under which the tables are filled. -/
abbrev isFirst (i : grid4.Coords) : BitVec 1 := Scalar.cmpi .ne (Scalar.extui (Scalar.cmpi .eq (BitVec.ofNat 32 (i 0).val) 0#32) : BitVec 32) 0#32

/-! ## The body's two cases -/

/-- At the first point the tables are filled, then read. -/
theorem sound_first (c : Dev nD) (E : Set ℕ) (i : grid4.Coords) (h1 : isFirst i = 1#1) (h3 : ¬ k4_cond3 i = 1#1)
    (arg1 : Memref sig .tc .vmem S4096x256 .bf16) (harg1 : arg1.IsWhole)
    (arg2 : Memref sig .tc .vmem S1x1x4096 .i32) (harg2 : arg2.IsWhole)
    (arg3 : Memref sig .tc .vmem S512x144 .f32) (harg3 : arg3.IsWhole)
    (arg4 : Memref sig .tc .vmem S512x256 .f32) (harg4 : arg4.IsWhole)
    (arg5 : Memref sig .tc .vmem S256x256 .bf16) (harg5 : arg5.IsWhole)
    (arg6 : Memref sig .tc .vmem S1x256 .f32) (harg6 : arg6.IsWhole)
    (arg7 : Memref sig .tc .vmem S256x256 .bf16) (harg7 : arg7.IsWhole)
    (arg8 : Memref sig .tc .vmem S1x256 .f32) (harg8 : arg8.IsWhole)
    (arg9 : Memref sig .tc .vmem S256x256 .bf16) (harg9 : arg9.IsWhole)
    (arg10 : Memref sig .tc .vmem S1x256 .f32) (harg10 : arg10.IsWhole)
    (arg11 : Memref sig .tc .vmem S4096x256 .f32) (harg11 : arg11.IsWhole)
    (arg12 : Memref sig .tc .vmem S512x256 .f32) (harg12 : arg12.IsWhole)
    (arg13 : Memref sig .tc .vmem S512x256 .bf16) (harg13 : arg13.IsWhole)
    (x0 : Vec F S4096x256 .bf16) (x1 : Vec F S1x1x4096 .i32) (x2 : Vec F S512x144 .f32) (x3 : Vec F S512x256 .f32) (x4 : Vec F S256x256 .bf16) (x5 : Vec F S1x256 .f32) (x6 : Vec F S256x256 .bf16) (x7 : Vec F S1x256 .f32) (x8 : Vec F S256x256 .bf16) (x9 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k4_pay5 x1 x0 x6 (k4_pay3 x2 x3 x6 x7) x8 x9) ∗ owns (c : Thread nD τ) arg12 fullShare (k4_pay1 (k4_pay6 x1 x0 x6 (k4_pay3 x2 x3 x6 x7) x8 x9) (k4_pay7 x1) k4_pay8) ∗ owns (c : Thread nD τ) arg13 fullShare (k4_pay3 x2 x3 x6 x7)) -∗ K ⟨⟩))
      ⊢ wp frame (wpE (defs₀ (F := F)) Variants.none c none) E (cc4__layer_body i arg1 harg1 arg2 harg2 arg3 harg3 arg4 harg4 arg5 harg5 arg6 harg6 arg7 harg7 arg8 harg8 arg9 harg9 arg10 harg10 arg11 harg11 arg12 harg12 arg13 harg13) K := by
  have h2 : k4_cond2 i = 1#1 := h1
  simp only [cc4__layer_body_eq_skeleton]; unfold cc4__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [View.read_writes_eq_canon _ _ _ (View.cover_of_tiled _ S4096x256.size (by rfl)), View.canon_unit_zero (S := S4096x256) hz2]
    unfold sound_first.sl.v18
    rw [View.readCov_eq_canon_ld _ _ _ (View.cover_of_tiled _ S512x256.size (by rfl))]
    unfold sound_first.sl.H12_1
    rw [View.canon_unit_zero (S := S512x256) hz2]
    simp only [View.readAt_eq_ld, View.ld_unit_zero (S := S4096x256) hz2, View.ld_unit_zero (S := S1x1x4096) hz3, View.ld_unit_zero (S := S512x144) hz2, View.ld_unit_zero (S := S512x256) hz2, View.ld_unit_zero (S := S256x256) hz2, View.ld_unit_zero (S := S1x256) hz2]
  isplitl [H11]
  · iexists _; isplitr
    swap; · iexact H11
    ipureintro
    rw [View.read_writes_eq_canon _ _ _ (View.cover_of_tiled _ S512x256.size (by rfl)), View.canon_unit_zero (S := S512x256) hz2]
    unfold sound_first.sl.r sound_first.sl.r_1
    unfold sound_first.sl.v18
    rw [View.readCov_eq_canon_ld _ _ _ (View.cover_of_tiled _ S512x256.size (by rfl))]
    unfold sound_first.sl.H12_1
    rw [View.canon_unit_zero (S := S512x256) hz2]
    simp only [View.readAt_eq_ld, View.ld_unit_zero (S := S4096x256) hz2, View.ld_unit_zero (S := S1x1x4096) hz3, View.ld_unit_zero (S := S512x144) hz2, View.ld_unit_zero (S := S512x256) hz2, View.ld_unit_zero (S := S256x256) hz2, View.ld_unit_zero (S := S1x256) hz2]
  iexists _; isplitr
  swap; · iexact H12
  ipureintro
  unfold sound_first.sl.H12_1
  rw [View.read_writes_eq_canon _ _ _ (View.cover_of_tiled _ S512x256.size (by rfl)), View.canon_unit_zero (S := S512x256) hz2]
  simp only [View.readAt_eq_ld, View.ld_unit_zero (S := S4096x256) hz2, View.ld_unit_zero (S := S1x1x4096) hz3, View.ld_unit_zero (S := S512x144) hz2, View.ld_unit_zero (S := S512x256) hz2, View.ld_unit_zero (S := S256x256) hz2, View.ld_unit_zero (S := S1x256) hz2]

/-- At a later point the tables are only read, and the sums added to. -/
theorem sound_next (c : Dev nD) (E : Set ℕ) (i : grid4.Coords) (h1 : ¬ isFirst i = 1#1) (h3 : k4_cond3 i = 1#1)
    (arg1 : Memref sig .tc .vmem S4096x256 .bf16) (harg1 : arg1.IsWhole)
    (arg2 : Memref sig .tc .vmem S1x1x4096 .i32) (harg2 : arg2.IsWhole)
    (arg3 : Memref sig .tc .vmem S512x144 .f32) (harg3 : arg3.IsWhole)
    (arg4 : Memref sig .tc .vmem S512x256 .f32) (harg4 : arg4.IsWhole)
    (arg5 : Memref sig .tc .vmem S256x256 .bf16) (harg5 : arg5.IsWhole)
    (arg6 : Memref sig .tc .vmem S1x256 .f32) (harg6 : arg6.IsWhole)
    (arg7 : Memref sig .tc .vmem S256x256 .bf16) (harg7 : arg7.IsWhole)
    (arg8 : Memref sig .tc .vmem S1x256 .f32) (harg8 : arg8.IsWhole)
    (arg9 : Memref sig .tc .vmem S256x256 .bf16) (harg9 : arg9.IsWhole)
    (arg10 : Memref sig .tc .vmem S1x256 .f32) (harg10 : arg10.IsWhole)
    (arg11 : Memref sig .tc .vmem S4096x256 .f32) (harg11 : arg11.IsWhole)
    (arg12 : Memref sig .tc .vmem S512x256 .f32) (harg12 : arg12.IsWhole)
    (arg13 : Memref sig .tc .vmem S512x256 .bf16) (harg13 : arg13.IsWhole)
    (x0 : Vec F S4096x256 .bf16) (x1 : Vec F S1x1x4096 .i32) (x2 : Vec F S512x144 .f32) (x3 : Vec F S512x256 .f32) (x4 : Vec F S256x256 .bf16) (x5 : Vec F S1x256 .f32) (x6 : Vec F S256x256 .bf16) (x7 : Vec F S1x256 .f32) (x8 : Vec F S256x256 .bf16) (x9 : Vec F S1x256 .f32) (y : Vec F S512x256 .f32) (z : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ owns (c : Thread nD τ) arg12 fullShare y ∗ owns (c : Thread nD τ) arg13 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k4_pay5 x1 x0 x6 z x8 x9) ∗ owns (c : Thread nD τ) arg12 fullShare (k4_pay2 (k4_pay6 x1 x0 x6 z x8 x9) (k4_pay7 x1) k4_pay8 y) ∗ owns (c : Thread nD τ) arg13 fullShare z) -∗ K ⟨⟩))
      ⊢ wp frame (wpE (defs₀ (F := F)) Variants.none c none) E (cc4__layer_body i arg1 harg1 arg2 harg2 arg3 harg3 arg4 harg4 arg5 harg5 arg6 harg6 arg7 harg7 arg8 harg8 arg9 harg9 arg10 harg10 arg11 harg11 arg12 harg12 arg13 harg13) K := by
  have h2 : ¬ k4_cond2 i = 1#1 := h1
  simp only [cc4__layer_body_eq_skeleton]; unfold cc4__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  subst hf0 hf1 hf2 hf3 hf4 hf5 hf6 hf7 hf8 hf9 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [View.read_writes_eq_canon _ _ _ (View.cover_of_tiled _ S4096x256.size (by rfl)), View.canon_unit_zero (S := S4096x256) hz2]
    simp only [View.readAt_eq_ld, View.ld_unit_zero (S := S4096x256) hz2, View.ld_unit_zero (S := S1x1x4096) hz3, View.ld_unit_zero (S := S512x144) hz2, View.ld_unit_zero (S := S512x256) hz2, View.ld_unit_zero (S := S256x256) hz2, View.ld_unit_zero (S := S1x256) hz2]
  isplitl [H11]
  · iexists _; isplitr
    swap; · iexact H11
    ipureintro
    rw [View.read_writes_eq_canon _ _ _ (View.cover_of_tiled _ S512x256.size (by rfl)), View.canon_unit_zero (S := S512x256) hz2]
    unfold sound_next.sl.r sound_next.sl.r_1
    simp only [View.readAt_eq_ld, View.ld_unit_zero (S := S4096x256) hz2, View.ld_unit_zero (S := S1x1x4096) hz3, View.ld_unit_zero (S := S512x144) hz2, View.ld_unit_zero (S := S512x256) hz2, View.ld_unit_zero (S := S256x256) hz2, View.ld_unit_zero (S := S1x256) hz2]
  iexists f12; isplitr; · ipureintro; rfl
  iexact H12

/-! ## The proof data -/

variable (W : Dev nD → Valuation τ sig (Elt F))

noncomputable def b0 (c : Dev nD) (t : Fin cfg4.N) : Vec F S4096x256 .bf16 := blkAt cfg4 W c 0 t
noncomputable def b1 (c : Dev nD) (t : Fin cfg4.N) : Vec F S1x1x4096 .i32 := blkAt cfg4 W c 1 t
noncomputable def b2 (c : Dev nD) (t : Fin cfg4.N) : Vec F S512x144 .f32 := blkAt cfg4 W c 2 t
noncomputable def b3 (c : Dev nD) (t : Fin cfg4.N) : Vec F S512x256 .f32 := blkAt cfg4 W c 3 t
noncomputable def b4 (c : Dev nD) (t : Fin cfg4.N) : Vec F S256x256 .bf16 := blkAt cfg4 W c 4 t
noncomputable def b5 (c : Dev nD) (t : Fin cfg4.N) : Vec F S1x256 .f32 := blkAt cfg4 W c 5 t
noncomputable def b6 (c : Dev nD) (t : Fin cfg4.N) : Vec F S256x256 .bf16 := blkAt cfg4 W c 6 t
noncomputable def b7 (c : Dev nD) (t : Fin cfg4.N) : Vec F S1x256 .f32 := blkAt cfg4 W c 7 t
noncomputable def b8 (c : Dev nD) (t : Fin cfg4.N) : Vec F S256x256 .bf16 := blkAt cfg4 W c 8 t
noncomputable def b9 (c : Dev nD) (t : Fin cfg4.N) : Vec F S1x256 .f32 := blkAt cfg4 W c 9 t

theorem N25 : cfg4.N = 25 := N_4
theorem h0 : 0 < cfg4.N := by rw [N25]; decide

/-! The tables, filled at the first point. -/

noncomputable def zt (c : Dev nD) : Vec F S512x256 .bf16 := k4_pay3 (b2 W c ⟨0, h0⟩) (b3 W c ⟨0, h0⟩) (b6 W c ⟨0, h0⟩) (b7 W c ⟨0, h0⟩)

/-- The block of the layer's result made at point `t`. -/
noncomputable def out (c : Dev nD) (t : Fin cfg4.N) : Vec F S4096x256 .f32 := (k4_pay5 (b1 W c t) (b0 W c t) (b6 W c t) (zt W c) (b8 W c t) (b9 W c t))

/-- The sums after point `n`. -/
noncomputable def acc (c : Dev nD) : (n : ℕ) → n < cfg4.N → Vec F S512x256 .f32
  | 0, h => (k4_pay1 (k4_pay6 (b1 W c ⟨0, h⟩) (b0 W c ⟨0, h⟩) (b6 W c ⟨0, h⟩) (zt W c) (b8 W c ⟨0, h⟩) (b9 W c ⟨0, h⟩)) (k4_pay7 (b1 W c ⟨0, h⟩)) k4_pay8)
  | n + 1, h => (k4_pay2 (k4_pay6 (b1 W c ⟨n + 1, h⟩) (b0 W c ⟨n + 1, h⟩) (b6 W c ⟨n + 1, h⟩) (zt W c) (b8 W c ⟨n + 1, h⟩) (b9 W c ⟨n + 1, h⟩)) (k4_pay7 (b1 W c ⟨n + 1, h⟩)) k4_pay8 (acc c n (Nat.lt_of_succ_lt h)))

/-- Between the points: before the first the scoped buffers as they are, later the tables filled and the rest. -/
noncomputable def inv (c : Dev nD) : ℕ → sProp 𝕄
  | 0 => Pipeline.scopedRest (Ix := HIx 1) (Name := ℕ) (U := UU) (Lvl := ℕ) (Val := Elt F) spec4 c
  | _ + 1 => iprop((owns (c : Thread nD τ) (Memref.whole cc4_scratch0) fullShare (zt W c)) ∗ Pipeline.scopedRestBut (Ix := HIx 1) (Name := ℕ) (U := UU) (Lvl := ℕ) (Val := Elt F) spec4 c [cc4_scratch0])

noncomputable def dat (c : Dev nD) : Dat τ (Elt F) (HIx 1) ℕ UU ℕ cfg4 c where
  A := arrs cfg4 W c
  after w t := match w with
    | ⟨0, _⟩ => b0 W c t
    | ⟨1, _⟩ => b1 W c t
    | ⟨2, _⟩ => b2 W c t
    | ⟨3, _⟩ => b3 W c t
    | ⟨4, _⟩ => b4 W c t
    | ⟨5, _⟩ => b5 W c t
    | ⟨6, _⟩ => b6 W c t
    | ⟨7, _⟩ => b7 W c t
    | ⟨8, _⟩ => b8 W c t
    | ⟨9, _⟩ => b9 W c t
    | ⟨10, _⟩ => out W c t
    | ⟨11, _⟩ => acc W c t.val t.isLt
  Φ t := inv W c t.val
  q _ := fullShare
  owed _ := 0
  recorded _ := recW (F := F) c

theorem after_0 (c : Dev nD) (t : Fin cfg4.N) : (dat W c).after 0 t = b0 W c t := by dsimp only [dat]
theorem after_1 (c : Dev nD) (t : Fin cfg4.N) : (dat W c).after 1 t = b1 W c t := by dsimp only [dat]
theorem after_2 (c : Dev nD) (t : Fin cfg4.N) : (dat W c).after 2 t = b2 W c t := by dsimp only [dat]
theorem after_3 (c : Dev nD) (t : Fin cfg4.N) : (dat W c).after 3 t = b3 W c t := by dsimp only [dat]
theorem after_4 (c : Dev nD) (t : Fin cfg4.N) : (dat W c).after 4 t = b4 W c t := by dsimp only [dat]
theorem after_5 (c : Dev nD) (t : Fin cfg4.N) : (dat W c).after 5 t = b5 W c t := by dsimp only [dat]
theorem after_6 (c : Dev nD) (t : Fin cfg4.N) : (dat W c).after 6 t = b6 W c t := by dsimp only [dat]
theorem after_7 (c : Dev nD) (t : Fin cfg4.N) : (dat W c).after 7 t = b7 W c t := by dsimp only [dat]
theorem after_8 (c : Dev nD) (t : Fin cfg4.N) : (dat W c).after 8 t = b8 W c t := by dsimp only [dat]
theorem after_9 (c : Dev nD) (t : Fin cfg4.N) : (dat W c).after 9 t = b9 W c t := by dsimp only [dat]
theorem after_10 (c : Dev nD) (t : Fin cfg4.N) : (dat W c).after 10 t = out W c t := by dsimp only [dat]
theorem after_11 (c : Dev nD) (t : Fin cfg4.N) : (dat W c).after 11 t = acc W c t.val t.isLt := by dsimp only [dat]

theorem before_0 (c : Dev nD) (t : Fin cfg4.N) (d) : (dat W c).before 0 t d = b0 W c t := by
  rw [(dat W c).before_in_eq_fetched 0 rfl (fun _ => rfl) (fun _ _ _ => rfl) (fun _ => rfl) t d]
  unfold Dat.fetched Dat.blockOf; rfl
theorem before_1 (c : Dev nD) (t : Fin cfg4.N) (d) : (dat W c).before 1 t d = b1 W c t := by
  rw [(dat W c).before_in_eq_fetched 1 rfl (fun _ => rfl) (fun _ _ _ => rfl) (fun _ => rfl) t d]
  unfold Dat.fetched Dat.blockOf; rfl
theorem before_2 (c : Dev nD) (t : Fin cfg4.N) (d) : (dat W c).before 2 t d = b2 W c t := by
  rw [(dat W c).before_in_eq_fetched 2 rfl (fun _ => rfl) (fun _ _ _ => rfl) (fun _ => rfl) t d]
  unfold Dat.fetched Dat.blockOf; rfl
theorem before_3 (c : Dev nD) (t : Fin cfg4.N) (d) : (dat W c).before 3 t d = b3 W c t := by
  rw [(dat W c).before_in_eq_fetched 3 rfl (fun _ => rfl) (fun _ _ _ => rfl) (fun _ => rfl) t d]
  unfold Dat.fetched Dat.blockOf; rfl
theorem before_4 (c : Dev nD) (t : Fin cfg4.N) (d) : (dat W c).before 4 t d = b4 W c t := by
  rw [(dat W c).before_in_eq_fetched 4 rfl (fun _ => rfl) (fun _ _ _ => rfl) (fun _ => rfl) t d]
  unfold Dat.fetched Dat.blockOf; rfl
theorem before_5 (c : Dev nD) (t : Fin cfg4.N) (d) : (dat W c).before 5 t d = b5 W c t := by
  rw [(dat W c).before_in_eq_fetched 5 rfl (fun _ => rfl) (fun _ _ _ => rfl) (fun _ => rfl) t d]
  unfold Dat.fetched Dat.blockOf; rfl
theorem before_6 (c : Dev nD) (t : Fin cfg4.N) (d) : (dat W c).before 6 t d = b6 W c t := by
  rw [(dat W c).before_in_eq_fetched 6 rfl (fun _ => rfl) (fun _ _ _ => rfl) (fun _ => rfl) t d]
  unfold Dat.fetched Dat.blockOf; rfl
theorem before_7 (c : Dev nD) (t : Fin cfg4.N) (d) : (dat W c).before 7 t d = b7 W c t := by
  rw [(dat W c).before_in_eq_fetched 7 rfl (fun _ => rfl) (fun _ _ _ => rfl) (fun _ => rfl) t d]
  unfold Dat.fetched Dat.blockOf; rfl
theorem before_8 (c : Dev nD) (t : Fin cfg4.N) (d) : (dat W c).before 8 t d = b8 W c t := by
  rw [(dat W c).before_in_eq_fetched 8 rfl (fun _ => rfl) (fun _ _ _ => rfl) (fun _ => rfl) t d]
  unfold Dat.fetched Dat.blockOf; rfl
theorem before_9 (c : Dev nD) (t : Fin cfg4.N) (d) : (dat W c).before 9 t d = b9 W c t := by
  rw [(dat W c).before_in_eq_fetched 9 rfl (fun _ => rfl) (fun _ _ _ => rfl) (fun _ => rfl) t d]
  unfold Dat.fetched Dat.blockOf; rfl

theorem idle_acc : ∀ t : Fin cfg4.N, cfg4.idle 11 (cfg4.grid.coords t) = false := by decide +kernel

theorem before_acc (c : Dev nD) (n : ℕ) (h : n + 1 < cfg4.N) (d) :
    (dat W c).before 11 ⟨n + 1, h⟩ d = acc W c n (Nat.lt_of_succ_lt h) := by
  have hN := N25
  rw [Dat.before_of_pos _ 11 ⟨n + 1, h⟩ (Nat.succ_ne_zero n) rfl, if_neg (by
    intro hf
    have := (flush4_11 _).mp hf
    simp only at this
    omega)]
  unfold Dat.left
  rw [idle_acc]
  show (dat W c).after 11 _ = _
  rw [after_11]; rfl

theorem cond_first : ∀ t : Fin cfg4.N, t.val = 0 → isFirst (grid4.coords t) = 1#1 ∧ ¬ k4_cond3 (grid4.coords t) = 1#1 := by decide +kernel
theorem cond_next : ∀ t : Fin cfg4.N, t.val ≠ 0 → ¬ isFirst (grid4.coords t) = 1#1 ∧ k4_cond3 (grid4.coords t) = 1#1 := by decide +kernel

theorem inv_in (c : Dev nD) : (Pipeline.scopedRest (Ix := HIx 1) (Name := ℕ) (U := UU) (Lvl := ℕ) (Val := Elt F) spec4 c : sProp 𝕄) ⊢ (dat W c).Φ 0 := .rfl

theorem inv_out (c : Dev nD) : (dat W c).Φ (Fin.last _) ⊢ (Pipeline.scopedRest (Ix := HIx 1) (Name := ℕ) (U := UU) (Lvl := ℕ) (Val := Elt F) spec4 c : sProp 𝕄) := by
  show inv W c cfg4.N ⊢ _
  rw [N25, scopedRest4_split c]
  unfold inv
  simp only [owns_whole]
  iintro ⟨Hz, Hr⟩
  isplitl [Hz]
  · iexists _; iexact Hz
  iexact Hr

/-! ## The body obligation -/

theorem defs₀_row (t : Fin cfg4.N) : defs₀ (F := F) .tc cfg4.body (cfg4.bodyArgs t (cfg4.slots t)) = bodyAt4 t := rfl

theorem sound_body (c : Dev nD) (t : Fin cfg4.N) :
    iprop((dat W c).Φ t.castSucc ∗ (dat W c).owesAt none t.castSucc
      ∗ (∃ d, owns (c : Thread nD τ) (st4_0 t) fullShare ((dat W c).before 0 t d)) ∗ (∃ d, owns (c : Thread nD τ) (st4_1 t) fullShare ((dat W c).before 1 t d)) ∗ (∃ d, owns (c : Thread nD τ) (st4_2 t) fullShare ((dat W c).before 2 t d)) ∗ (∃ d, owns (c : Thread nD τ) (st4_3 t) fullShare ((dat W c).before 3 t d)) ∗ (∃ d, owns (c : Thread nD τ) (st4_4 t) fullShare ((dat W c).before 4 t d)) ∗ (∃ d, owns (c : Thread nD τ) (st4_5 t) fullShare ((dat W c).before 5 t d)) ∗ (∃ d, owns (c : Thread nD τ) (st4_6 t) fullShare ((dat W c).before 6 t d)) ∗ (∃ d, owns (c : Thread nD τ) (st4_7 t) fullShare ((dat W c).before 7 t d)) ∗ (∃ d, owns (c : Thread nD τ) (st4_8 t) fullShare ((dat W c).before 8 t d)) ∗ (∃ d, owns (c : Thread nD τ) (st4_9 t) fullShare ((dat W c).before 9 t d)) ∗ (∃ d, owns (c : Thread nD τ) (st4_10 t) fullShare ((dat W c).before 10 t d)) ∗ (∃ d, owns (c : Thread nD τ) (st4_11 t) fullShare ((dat W c).before 11 t d)))
    ⊢ wp frame (wpE (defs₀ (F := F)) Variants.none c none) Set.univ (bodyAt4 t) fun _ =>
      iprop((dat W c).Φ t.succ ∗ (dat W c).owesAt none t.succ
        ∗ owns (c : Thread nD τ) (st4_0 t) fullShare ((dat W c).after 0 t) ∗ owns (c : Thread nD τ) (st4_1 t) fullShare ((dat W c).after 1 t) ∗ owns (c : Thread nD τ) (st4_2 t) fullShare ((dat W c).after 2 t) ∗ owns (c : Thread nD τ) (st4_3 t) fullShare ((dat W c).after 3 t) ∗ owns (c : Thread nD τ) (st4_4 t) fullShare ((dat W c).after 4 t) ∗ owns (c : Thread nD τ) (st4_5 t) fullShare ((dat W c).after 5 t) ∗ owns (c : Thread nD τ) (st4_6 t) fullShare ((dat W c).after 6 t) ∗ owns (c : Thread nD τ) (st4_7 t) fullShare ((dat W c).after 7 t) ∗ owns (c : Thread nD τ) (st4_8 t) fullShare ((dat W c).after 8 t) ∗ owns (c : Thread nD τ) (st4_9 t) fullShare ((dat W c).after 9 t) ∗ owns (c : Thread nD τ) (st4_10 t) fullShare ((dat W c).after 10 t) ∗ owns (c : Thread nD τ) (st4_11 t) fullShare ((dat W c).after 11 t)) := by
  rw [show (dat W c).owesAt none t.succ = (dat W c).owesAt none t.castSucc from rfl,
    show (dat W c).Φ t.succ = inv W c (t.val + 1) from rfl, show (dat W c).Φ t.castSucc = inv W c t.val from rfl]
  simp only [before_0, before_1, before_2, before_3, before_4, before_5, before_6, before_7, before_8, before_9, after_0, after_1, after_2, after_3, after_4, after_5, after_6, after_7, after_8, after_9, after_10, after_11]
  obtain ⟨n, hn⟩ := t
  cases n with
  | zero =>
    rw [show inv W c (0 : ℕ) = Pipeline.scopedRest spec4 c from rfl, scopedRest4_split c]
    unfold inv
    iintro ⟨⟨⟨%gz, Hz⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_first c Set.univ _ (cond_first ⟨0, hn⟩ rfl).1 (cond_first ⟨0, hn⟩ rfl).2 _ _ _ _ _ _ _ _ _ _ _ _ _ _ _ _ _ _ _ _ _ _ _ _ _ _ (b0 W c ⟨0, hn⟩) (b1 W c ⟨0, hn⟩) (b2 W c ⟨0, hn⟩) (b3 W c ⟨0, hn⟩) (b4 W c ⟨0, hn⟩) (b5 W c ⟨0, hn⟩) (b6 W c ⟨0, hn⟩) (b7 W c ⟨0, hn⟩) (b8 W c ⟨0, hn⟩) (b9 W c ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [Hz]; · iexists gz; rw [owns_whole]; iexact Hz
    iintro ⟨H0, H1, H2, H3, H4, H5, H6, H7, H8, H9, H10, H11, Hz⟩
    isplitl [Hz Hr]
    · isplitl [Hz]
      · iexact Hz
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  | succ n =>
    simp only [before_acc]
    unfold inv
    iintro ⟨⟨Hz, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_next c Set.univ _ (cond_next ⟨n + 1, hn⟩ (Nat.succ_ne_zero n)).1 (cond_next ⟨n + 1, hn⟩ (Nat.succ_ne_zero n)).2 _ _ _ _ _ _ _ _ _ _ _ _ _ _ _ _ _ _ _ _ _ _ _ _ _ _ (b0 W c ⟨n + 1, hn⟩) (b1 W c ⟨n + 1, hn⟩) (b2 W c ⟨n + 1, hn⟩) (b3 W c ⟨n + 1, hn⟩) (b4 W c ⟨n + 1, hn⟩) (b5 W c ⟨n + 1, hn⟩) (b6 W c ⟨n + 1, hn⟩) (b7 W c ⟨n + 1, hn⟩) (b8 W c ⟨n + 1, hn⟩) (b9 W c ⟨n + 1, hn⟩)
      (acc W c n (Nat.lt_of_succ_lt hn)) (zt W c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [Hz]; · iexact Hz
    iintro ⟨H0, H1, H2, H3, H4, H5, H6, H7, H8, H9, H10, H11, Hz⟩
    isplitl [Hz Hr]
    · isplitl [Hz]
      · iexact Hz
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem body_obligation (c : Dev nD) : BodyObligation (dat W c) (defs₀ (F := F)) 𝒱₀ none Set.univ := fun t => by
  rw [bigSep_W4, bigSep_W4, defs₀_row]
  simp only [idle_acc]
  exact triple_restated (sound_body W c t) rfl .rfl fun _ => by
    rw [show idle4 11 (grid4.coords t) = false from idle_acc t]

/-! ## The results -/

/-- The second result holds the sums after the last point. -/
theorem final_acc (c : Dev nD) : (dat W c).arrAt 11 cfg4.N = acc W c 24 (by rw [N25]; decide) := by
  refine (dat W c).arrAt_eq_of_after_last 11 ⟨24, by rw [N25]; decide⟩ (by decide +kernel) _ fun j => ?_
  rw [after_11]
  blk_simp
  rfl

end Cert.Proof.Layer2

end
-- ==== Proof.Run.lean ====
/-
  @main's run: the host lines before the SparseCore call, the call, then the four TensorCore kernels, each after its own
  host lines; every array's contents at the end named.
-/
module

public import proofs.«01_k».proof.Proof.Hsum
public import proofs.«01_k».proof.Proof.Layer0
public import proofs.«01_k».proof.Proof.Layer1
public import proofs.«01_k».proof.Proof.Layer2

@[expose] public section

set_option maxRecDepth 16384

noncomputable section

namespace Cert.Proof.Run

open Cert.KernelIdeal Cert.KernelIdeal.Gen Cert.Proof.Sc

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat arrRefs arrRef)

variable {F : FTy → Type} [FloatOps F]

local notation "𝕄" => MT nD τ sig (HIx 1) (Elt F) ℕ UU ℕ

/-! ## @main's host lines -/

/-- The host lines before the SparseCore call: the two word arrays padded and cut into blocks, the table padded, the zeros. -/
abbrev hostA : List (HloOp τ sig (Elt F)) :=
  [ StableHlo.nullary main_c (constantI S_ 32 4294967295#32),
    StableHlo.TRef.unary (.of main_c : StableHlo.TRef sig ⟨S_, .i32⟩) (.of main_call0_v0 : StableHlo.TRef sig ⟨S_, .i32⟩) id,
    StableHlo.TRef.binary (.of main_arg0 : StableHlo.TRef sig ⟨S100000, .i32⟩) (.of main_call0_v0 : StableHlo.TRef sig ⟨S_, .i32⟩) (.of main_v0 : StableHlo.TRef sig ⟨S102400, .i32⟩)
      (fun x v => pad S102400 ![0] ![2400] ![0] x v pads_S100000_S102400_024000 h_S_),
    StableHlo.nullary main_c_0 (constantI S_ 32 512#32),
    StableHlo.TRef.unary (.of main_c_0 : StableHlo.TRef sig ⟨S_, .i32⟩) (.of main_call1_v0 : StableHlo.TRef sig ⟨S_, .i32⟩) id,
    StableHlo.TRef.binary (.of main_arg1 : StableHlo.TRef sig ⟨S100000, .i32⟩) (.of main_call1_v0 : StableHlo.TRef sig ⟨S_, .i32⟩) (.of main_v1 : StableHlo.TRef sig ⟨S102400, .i32⟩)
      (fun x v => pad S102400 ![0] ![2400] ![0] x v pads_S100000_S102400_024000 h_S_),
    StableHlo.reshape main_v0 main_v2 (rfl : (.i32 : EltTy) = .i32) shapeCasts_S102400_S25x1x4096,
    StableHlo.reshape main_v1 main_v3 (rfl : (.i32 : EltTy) = .i32) shapeCasts_S102400_S25x1x4096,
    StableHlo.nullary main_c_1 (constantI S_ 32 0#32),
    StableHlo.TRef.unary (.of main_c_1 : StableHlo.TRef sig ⟨S_, .i32⟩) (.of main_call2_v0 : StableHlo.TRef sig ⟨S_, .f32⟩) (sitofp .f32),
    StableHlo.TRef.binary (.of main_arg2 : StableHlo.TRef sig ⟨S143x128, .f32⟩) (.of main_call2_v0 : StableHlo.TRef sig ⟨S_, .f32⟩) (.of main_v4 : StableHlo.TRef sig ⟨S144x128, .f32⟩)
      (fun x v => pad S144x128 ![0, 0] ![1, 0] ![0, 0] x v pads_S143x128_S144x128_010_000 h_S_),
    StableHlo.unary main_v4 main_v5 ((truncf .bf16 · bitsLt_bf16_f32) : (⟨S144x128, .f32⟩ : BufTy).Contents (Elt F) → (⟨S144x128, .bf16⟩ : BufTy).Contents (Elt F)),
    StableHlo.nullary main_cst (constant S_ .f32 0x00000000#32),
    StableHlo.unary main_cst main_v6 (broadcastInDim S73728 ![] bcast_S_S73728 : (⟨S_, .f32⟩ : BufTy).Contents (Elt F) → (⟨S73728, .f32⟩ : BufTy).Contents (Elt F)) ]

/-- The host lines before the first kernel. -/
abbrev hostB : List (HloOp τ sig (Elt F)) :=
  [ StableHlo.reshape main_v7 main_v8 (rfl : (.f32 : EltTy) = .f32) shapeCasts_S2359296_S16384x144 ]

/-- The host lines before layer 0: its weights. -/
abbrev hostC : List (HloOp τ sig (Elt F)) :=
  [ StableHlo.unary main_arg3 main_v10 ((truncf .bf16 · bitsLt_bf16_f32) : (⟨S128x128, .f32⟩ : BufTy).Contents (Elt F) → (⟨S128x128, .bf16⟩ : BufTy).Contents (Elt F)),
    StableHlo.reshape main_arg4 main_v11 (rfl : (.f32 : EltTy) = .f32) shapeCasts_S128_S1x128,
    StableHlo.unary main_arg5 main_v12 ((truncf .bf16 · bitsLt_bf16_f32) : (⟨S128x256, .f32⟩ : BufTy).Contents (Elt F) → (⟨S128x256, .bf16⟩ : BufTy).Contents (Elt F)),
    StableHlo.reshape main_arg6 main_v13 (rfl : (.f32 : EltTy) = .f32) shapeCasts_S256_S1x256 ]

/-- The host lines before layer 1: its weights, and the last of layer 0's. -/
abbrev hostD : List (HloOp τ sig (Elt F)) :=
  [ StableHlo.unary main_arg5 main_v15 ((truncf .bf16 · bitsLt_bf16_f32) : (⟨S128x256, .f32⟩ : BufTy).Contents (Elt F) → (⟨S128x256, .bf16⟩ : BufTy).Contents (Elt F)),
    StableHlo.reshape main_arg6 main_v16 (rfl : (.f32 : EltTy) = .f32) shapeCasts_S256_S1x256,
    StableHlo.unary main_arg7 main_v17 ((truncf .bf16 · bitsLt_bf16_f32) : (⟨S256x256, .f32⟩ : BufTy).Contents (Elt F) → (⟨S256x256, .bf16⟩ : BufTy).Contents (Elt F)),
    StableHlo.reshape main_arg8 main_v18 (rfl : (.f32 : EltTy) = .f32) shapeCasts_S256_S1x256,
    StableHlo.unary main_arg9 main_v19 ((truncf .bf16 · bitsLt_bf16_f32) : (⟨S256x256, .f32⟩ : BufTy).Contents (Elt F) → (⟨S256x256, .bf16⟩ : BufTy).Contents (Elt F)),
    StableHlo.reshape main_arg10 main_v20 (rfl : (.f32 : EltTy) = .f32) shapeCasts_S256_S1x256 ]

/-- The host lines before layer 2: its weights. -/
abbrev hostE : List (HloOp τ sig (Elt F)) :=
  [ StableHlo.unary main_arg11 main_v22 ((truncf .bf16 · bitsLt_bf16_f32) : (⟨S256x256, .f32⟩ : BufTy).Contents (Elt F) → (⟨S256x256, .bf16⟩ : BufTy).Contents (Elt F)),
    StableHlo.reshape main_arg12 main_v23 (rfl : (.f32 : EltTy) = .f32) shapeCasts_S256_S1x256,
    StableHlo.unary main_arg11 main_v24 ((truncf .bf16 · bitsLt_bf16_f32) : (⟨S256x256, .f32⟩ : BufTy).Contents (Elt F) → (⟨S256x256, .bf16⟩ : BufTy).Contents (Elt F)),
    StableHlo.reshape main_arg12 main_v25 (rfl : (.f32 : EltTy) = .f32) shapeCasts_S256_S1x256,
    StableHlo.unary main_arg13 main_v26 ((truncf .bf16 · bitsLt_bf16_f32) : (⟨S256x256, .f32⟩ : BufTy).Contents (Elt F) → (⟨S256x256, .bf16⟩ : BufTy).Contents (Elt F)),
    StableHlo.reshape main_arg14 main_v27 (rfl : (.f32 : EltTy) = .f32) shapeCasts_S256_S1x256 ]

theorem main_eq (d : Dev nD) : main (F := F) d
    = StableHlo.seq (hostA (F := F)) >>= fun _ => (K (F := F)).run d 0 >>= fun _ =>
        StableHlo.seq (hostB (F := F)) >>= fun _ => Prog.lift (.customCall (SparseCore.inner (Pipeline.entry 0)) ()) >>= fun _ =>
        StableHlo.seq (hostC (F := F)) >>= fun _ => Prog.lift (.customCall (SparseCore.inner (Pipeline.entry 1)) ()) >>= fun _ =>
        StableHlo.seq (hostD (F := F)) >>= fun _ => Prog.lift (.customCall (SparseCore.inner (Pipeline.entry 2)) ()) >>= fun _ =>
        StableHlo.seq (hostE (F := F)) >>= fun _ => Prog.lift (.customCall (SparseCore.inner (Pipeline.entry 3)) ()) := rfl

omit [FloatOps F] in
/-- An operation on TensorCore references touches unscoped ones only. -/
theorem sub_of_forall {ops : List (HloOp τ sig (Elt F))} (h : ops.Forall fun op => op.bufs ⊆ StableHlo.tcRefs τ sig) :
    ∀ op ∈ ops, op.bufs ⊆ ucRefs := fun op hop b hb =>
  Finset.mem_filter.mpr ⟨(List.forall_iff_forall_mem.mp h) op hop hb, fun h' => Bool.false_ne_true ((op.no_scoped b hb).symm.trans h')⟩

theorem hA_sub : ∀ op ∈ hostA (F := F), op.bufs ⊆ ucRefs := sub_of_forall
  ⟨StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub ..⟩
theorem hA_fresh : ∀ op ∈ hostA (F := F), op.fresh = ∅ :=
  List.forall_iff_forall_mem.mp ⟨rfl, rfl, rfl, rfl, rfl, rfl, rfl, rfl, rfl, rfl, rfl, rfl, rfl, rfl⟩
theorem hB_sub : ∀ op ∈ hostB (F := F), op.bufs ⊆ ucRefs := sub_of_forall (StableHlo.reshape_bufs_sub ..)
theorem hB_fresh : ∀ op ∈ hostB (F := F), op.fresh = ∅ := List.forall_iff_forall_mem.mp (show _ = _ from rfl)
theorem hC_sub : ∀ op ∈ hostC (F := F), op.bufs ⊆ ucRefs := sub_of_forall
  ⟨StableHlo.unary_bufs_sub .., StableHlo.reshape_bufs_sub .., StableHlo.unary_bufs_sub .., StableHlo.reshape_bufs_sub ..⟩
theorem hC_fresh : ∀ op ∈ hostC (F := F), op.fresh = ∅ :=
  List.forall_iff_forall_mem.mp ⟨rfl, rfl, rfl, rfl⟩
theorem hD_sub : ∀ op ∈ hostD (F := F), op.bufs ⊆ ucRefs := sub_of_forall
  ⟨StableHlo.unary_bufs_sub .., StableHlo.reshape_bufs_sub .., StableHlo.unary_bufs_sub .., StableHlo.reshape_bufs_sub .., StableHlo.unary_bufs_sub .., StableHlo.reshape_bufs_sub ..⟩
theorem hD_fresh : ∀ op ∈ hostD (F := F), op.fresh = ∅ :=
  List.forall_iff_forall_mem.mp ⟨rfl, rfl, rfl, rfl, rfl, rfl⟩
theorem hE_sub : ∀ op ∈ hostE (F := F), op.bufs ⊆ ucRefs := sub_of_forall
  ⟨StableHlo.unary_bufs_sub .., StableHlo.reshape_bufs_sub .., StableHlo.unary_bufs_sub .., StableHlo.reshape_bufs_sub .., StableHlo.unary_bufs_sub .., StableHlo.reshape_bufs_sub ..⟩
theorem hE_fresh : ∀ op ∈ hostE (F := F), op.fresh = ∅ :=
  List.forall_iff_forall_mem.mp ⟨rfl, rfl, rfl, rfl, rfl, rfl⟩

/-! ## The four kernels -/

/-- The four kernels' proof data, each entered with its own contents. -/
def pdats (W : Fin 4 → Dev nD → Valuation τ sig (Elt F)) :
    (p : Fin NP) → (c : Dev nD) → Dat τ (Elt F) (HIx 1) ℕ UU ℕ (pins (F := F) p) c
  | 0, c => Hsum.dat (W 0) c
  | 1, c => Layer0.dat (W 1) c
  | 2, c => Layer1.dat (W 2) c
  | 3, c => Layer2.dat (W 3) c

theorem sub_0 : arrRefs spec1 ⊆ ucRefs := by decide
theorem sub_1 : arrRefs spec2 ⊆ ucRefs := by decide
theorem sub_2 : arrRefs spec3 ⊆ ucRefs := by decide
theorem sub_3 : arrRefs spec4 ⊆ ucRefs := by decide

theorem fit_0 (W : Fin 4 → Dev nD → Valuation τ sig (Elt F)) : Fit (F := F) 0 (pdats W) (W 0) where
  kit := launch1.toP
  nopre := rfl
  body c := (Hsum.body_obligation (W 0) c).loose
  owed _ _ := rfl
  recorded _ _ := rfl
  share c := (Hsum.dat (W 0) c).share_full fun _ => rfl
  inv_in _ := .rfl
  inv_out _ := .rfl
  arr _ _ := rfl
  sub := sub_0

theorem fit_1 (W : Fin 4 → Dev nD → Valuation τ sig (Elt F)) : Fit (F := F) 1 (pdats W) (W 1) where
  kit := launch2.toP
  nopre := rfl
  body c := (Layer0.body_obligation (W 1) c).loose
  owed _ _ := rfl
  recorded _ _ := rfl
  share c := (Layer0.dat (W 1) c).share_full fun _ => rfl
  inv_in c := Layer0.inv_in (W 1) c
  inv_out c := Layer0.inv_out (W 1) c
  arr _ _ := rfl
  sub := sub_1

theorem fit_2 (W : Fin 4 → Dev nD → Valuation τ sig (Elt F)) : Fit (F := F) 2 (pdats W) (W 2) where
  kit := launch3.toP
  nopre := rfl
  body c := (Layer1.body_obligation (W 2) c).loose
  owed _ _ := rfl
  recorded _ _ := rfl
  share c := (Layer1.dat (W 2) c).share_full fun _ => rfl
  inv_in c := Layer1.inv_in (W 2) c
  inv_out c := Layer1.inv_out (W 2) c
  arr _ _ := rfl
  sub := sub_2

theorem fit_3 (W : Fin 4 → Dev nD → Valuation τ sig (Elt F)) : Fit (F := F) 3 (pdats W) (W 3) where
  kit := launch4.toP
  nopre := rfl
  body c := (Layer2.body_obligation (W 3) c).loose
  owed _ _ := rfl
  recorded _ _ := rfl
  share c := (Layer2.dat (W 3) c).share_full fun _ => rfl
  inv_in c := Layer2.inv_in (W 3) c
  inv_out c := Layer2.inv_out (W 3) c
  arr _ _ := rfl
  sub := sub_3

/-! ## The buffers' contents along @main -/

variable (m : (ℓ : Loc nD τ sig) → Buf (Elt F) ℓ) (ρ : Dev nD → PrngReg)

abbrev dr (r : Ref sig .tc) : DevRef τ sig := Proc.devRef .tc r

/-- At launch; -/
abbrev V0 (c : Dev nD) : Valuation τ sig (Elt F) := fun b => m (c, b)
/-- when the SparseCore call is made; -/
abbrev V1 (c : Dev nD) : Valuation τ sig (Elt F) := StableHlo.after hostA (V0 m c)

/-- What the call is given. -/
def given (c : Dev nD) : Given F := ⟨V1 m c (dr uR), V1 m c (dr sR), V1 m c (dr zR), V1 m c (dr oR)⟩

/-- after it; -/
abbrev V2 (c : Dev nD) : Valuation τ sig (Elt F) := Function.update (V1 m c) (dr oR) (given m c).out
/-- when the first kernel is entered, and after it; -/
abbrev V3 (c : Dev nD) : Valuation τ sig (Elt F) := StableHlo.after hostB (V2 m c)
def V4 (c : Dev nD) : Valuation τ sig (Elt F) := Pipeline.afterRegion (Hsum.dat (V3 m) c) (V3 m c)
/-- when layer 0's kernel is entered, and after it; -/
abbrev V5 (c : Dev nD) : Valuation τ sig (Elt F) := StableHlo.after hostC (V4 m c)
def V6 (c : Dev nD) : Valuation τ sig (Elt F) := Pipeline.afterRegion (Layer0.dat (V5 m) c) (V5 m c)
/-- when layer 1's kernel is entered, and after it; -/
abbrev V7 (c : Dev nD) : Valuation τ sig (Elt F) := StableHlo.after hostD (V6 m c)
def V8 (c : Dev nD) : Valuation τ sig (Elt F) := Pipeline.afterRegion (Layer1.dat (V7 m) c) (V7 m c)
/-- when layer 2's kernel is entered, and at the end. -/
abbrev V9 (c : Dev nD) : Valuation τ sig (Elt F) := StableHlo.after hostE (V8 m c)
def V10 (c : Dev nD) : Valuation τ sig (Elt F) := Pipeline.afterRegion (Layer2.dat (V9 m) c) (V9 m c)

/-- What each kernel is entered with. -/
abbrev VW : Fin 4 → Dev nD → Valuation τ sig (Elt F)
  | 0 => V3 m
  | 1 => V5 m
  | 2 => V7 m
  | 3 => V9 m

/-- The four arrays of the call. -/
def four : Finset (DevRef τ sig) := {dr uR, dr sR, dr zR, dr oR}
theorem four_sub : four ⊆ ucRefs := by decide

omit [FloatOps F] in
theorem held_four (d : Dev nD) (V : Valuation τ sig (Elt F)) :
    (StableHlo.held (d.tc : Thread nD τ) four V : sProp 𝕄)
      = iprop((uLoc d ↦{fullShare} V (dr uR)) ∗ (sLoc d ↦{fullShare} V (dr sR)) ∗ (zLoc d ↦{fullShare} V (dr zR)) ∗ (oLoc d ↦{fullShare} V (dr oR))) := by
  unfold StableHlo.held four
  rw [SparseCore.bigSep_insert' (by decide), SparseCore.bigSep_insert' (by decide), SparseCore.bigSep_insert' (by decide), bigSep_singleton]
  try rfl

abbrev FIN (d : Dev nD) : sProp 𝕄 := StableHlo.held (d.tc : Thread nD τ) ucRefs (V10 m d)

theorem held_V2 (d : Dev nD) :
    (iprop(((uLoc d ↦{fullShare} (given m d).u) ∗ (sLoc d ↦{fullShare} (given m d).s) ∗ (zLoc d ↦{fullShare} (given m d).z) ∗ (oLoc d ↦{fullShare} (given m d).out))
        ∗ StableHlo.held (d.tc : Thread nD τ) (ucRefs \ four) (V1 m d)) : sProp 𝕄)
      = StableHlo.held (d.tc : Thread nD τ) ucRefs (V2 m d) := by
  rw [StableHlo.held_sub_split (d.tc : Thread nD τ) four_sub (V2 m d), held_four d (V2 m d)]
  refine congrArg₂ (fun A B : sProp 𝕄 => iprop(A ∗ B)) ?_ ?_
  · rw [show V2 m d (dr uR) = (given m d).u from Function.update_of_ne (by decide) _ _, show V2 m d (dr sR) = (given m d).s from Function.update_of_ne (by decide) _ _,
      show V2 m d (dr zR) = (given m d).z from Function.update_of_ne (by decide) _ _, show V2 m d (dr oR) = (given m d).out from Function.update_self _ _ _]
  · refine StableHlo.held_congr _ fun b hb => (Function.update_of_ne ?_ _ _).symm
    rintro rfl
    exact (Finset.mem_sdiff.mp hb).2 (by decide)

/-- The TensorCore's record after the call: it owes nothing. -/
theorem tcSt_one (d : Dev nD) : ∃ R : sProp 𝕄, ((K (F := F)).tcSt EH d 1 : sProp 𝕄) = iprop(TCO (F := F) d ∗ R) := by
  refine ⟨iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1))), ?_⟩
  have e : (K (F := F)).Otc (nD := nD) (N := 1) d 1 = 0 := (K (F := F)).Otc_end d (le_refl 1)
  unfold SparseCore.Cfg.tcSt TCO
  rw [e]
  rfl

omit [FloatOps F] in
theorem bigSep_four (Φ : Fin NP → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem GH_four (d : Dev nD) : (GH (F := F) d : sProp 𝕄) ⊢ iprop((Pipeline.cellsGhost (pins (F := F)) EP 0 d ∗ Pipeline.toksInit (pins (F := F)) EP 0 d)
    ∗ (Pipeline.cellsGhost (pins (F := F)) EP 1 d ∗ Pipeline.toksInit (pins (F := F)) EP 1 d)
    ∗ (Pipeline.cellsGhost (pins (F := F)) EP 2 d ∗ Pipeline.toksInit (pins (F := F)) EP 2 d)
    ∗ (Pipeline.cellsGhost (pins (F := F)) EP 3 d ∗ Pipeline.toksInit (pins (F := F)) EP 3 d)) := by
  unfold GH
  rw [bigSep_four, bigSep_four]
  iintro ⟨⟨A0, A1, A2, A3⟩, B0, B1, B2, B3⟩
  isplitl [A0 B0]; · isplitl [A0] <;> iassumption
  isplitl [A1 B1]; · isplitl [A1] <;> iassumption
  isplitl [A2 B2]; · isplitl [A2] <;> iassumption
  isplitl [A3] <;> iassumption

set_option backward.isDefEq.respectTransparency.types false in
theorem hmain [∀ e, Nonempty (Elt F e)] (κ : GSem nD τ sig → ℕ) (d : Dev nD) :
    iprop((K (F := F)).ctx EH (P (given m)) κ ∗ (K (F := F)).tcSt EH d 0 ∗ (K (F := F)).tcRes m ρ d ∗ GH (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d : Thread nD τ) ucRefs (V0 m d) from
    unscopedBufs_held d (V0 m d)]
  iintro ⟨#Hctx, Hst, ⟨Hb, Hh, Hts, -⟩, Hg⟩
  ihave #Hlev := ((K (F := F)).ctx_levAts κ) $$ Hctx
  ihave H := (StableHlo.wp_seq (defs := (K (F := F)).defs (D (F := F))) 𝒱 none Set.univ d ucRefs _ (hostA (F := F)) hA_sub hA_fresh (V0 m d)) $$ [Hb Hh]
  · isplitl [Hb]; · iexact Hb
    iexact Hh
  iapply H
  iintro ⟨Hb, Hh⟩
  ihave Hh := (Entails.of_eq (StableHlo.held_sub_split (d.tc : Thread nD τ) four_sub (V1 m d))) $$ Hh
  icases Hh with ⟨H4, Hrest⟩
  ihave H4 := (Entails.of_eq (held_four d (V1 m d))) $$ H4
  rw [wp_bind]
  iapply ((K (F := F)).wp_run (D (F := F)) 𝒱 (EH := EH) (P := P (given m)) κ d 0) $$ [Hst H4 Hrest Hb Hts Hg]
  isplitr; · iexact Hctx
  isplitl [Hst]; · iexact Hst
  isplitl [H4]
  · rw [st_eq]; iexact H4
  iintro ⟨Hst, Hdn⟩
  ihave H4 := (Entails.of_eq (dn_eq (given m) d)) $$ Hdn
  ihave Hh := (Entails.of_eq (held_V2 m d)) $$ [H4 Hrest]
  · isplitl [H4]; · iexact H4
    iexact Hrest
  ihave H := (StableHlo.wp_seq (defs := (K (F := F)).defs (D (F := F))) 𝒱 none Set.univ d ucRefs _ (hostB (F := F)) hB_sub hB_fresh (V2 m d)) $$ [Hb Hh]
  · isplitl [Hb]; · iexact Hb
    iexact Hh
  iapply H
  iintro ⟨Hb, Hh⟩
  obtain ⟨R, hR⟩ := tcSt_one (F := F) d
  ihave Hst := (Entails.of_eq hR) $$ [Hst]; · iexact Hst
  icases Hst with ⟨HO, Hst⟩
  ihave Hg := (GH_four d) $$ Hg
  icases Hg with ⟨⟨Hc0, Ht0⟩, ⟨Hc1, Ht1⟩, ⟨Hc2, Ht2⟩, Hc3, Ht3⟩
  rw [wp_bind]
  iapply (wp_region (fit_0 (VW m)) d _)
  isplitl [Hb]; · iexact Hb
  isplitl [Hh]; · iexact Hh
  isplitl [HO]; · iexact HO
  isplitr; · iexact Hlev
  isplitl [Hc0]; · iexact Hc0
  isplitl [Ht0]; · iexact Ht0
  iintro ⟨Hb, Hh, HO⟩
  ihave H := (StableHlo.wp_seq (defs := (K (F := F)).defs (D (F := F))) 𝒱 none Set.univ d ucRefs _ (hostC (F := F)) hC_sub hC_fresh (V4 m d)) $$ [Hb Hh]
  · isplitl [Hb]; · iexact Hb
    iexact Hh
  iapply H
  iintro ⟨Hb, Hh⟩
  rw [wp_bind]
  iapply (wp_region (fit_1 (VW m)) d _)
  isplitl [Hb]; · iexact Hb
  isplitl [Hh]; · iexact Hh
  isplitl [HO]; · iexact HO
  isplitr; · iexact Hlev
  isplitl [Hc1]; · iexact Hc1
  isplitl [Ht1]; · iexact Ht1
  iintro ⟨Hb, Hh, HO⟩
  ihave H := (StableHlo.wp_seq (defs := (K (F := F)).defs (D (F := F))) 𝒱 none Set.univ d ucRefs _ (hostD (F := F)) hD_sub hD_fresh (V6 m d)) $$ [Hb Hh]
  · isplitl [Hb]; · iexact Hb
    iexact Hh
  iapply H
  iintro ⟨Hb, Hh⟩
  rw [wp_bind]
  iapply (wp_region (fit_2 (VW m)) d _)
  isplitl [Hb]; · iexact Hb
  isplitl [Hh]; · iexact Hh
  isplitl [HO]; · iexact HO
  isplitr; · iexact Hlev
  isplitl [Hc2]; · iexact Hc2
  isplitl [Ht2]; · iexact Ht2
  iintro ⟨Hb, Hh, HO⟩
  ihave H := (StableHlo.wp_seq (defs := (K (F := F)).defs (D (F := F))) 𝒱 none Set.univ d ucRefs _ (hostE (F := F)) hE_sub hE_fresh (V8 m d)) $$ [Hb Hh]
  · isplitl [Hb]; · iexact Hb
    iexact Hh
  iapply H
  iintro ⟨Hb, Hh⟩
  iapply (wp_region (fit_3 (VW m)) d _)
  isplitl [Hb]; · iexact Hb
  isplitl [Hh]; · iexact Hh
  isplitl [HO]; · iexact HO
  isplitr; · iexact Hlev
  isplitl [Hc3]; · iexact Hc3
  isplitl [Ht3]; · iexact Ht3
  iintro ⟨Hb, Hh, HO⟩
  isplitl [HO Hst]
  · iapply (Entails.of_eq hR.symm)
    isplitl [HO]; · iexact HO
    iexact Hst
  isplitl [Hh]; · iexact Hh
  isplitl [Hb] <;> iassumption

/-! ## The final memory -/

omit [FloatOps F] in
/-- Buffers held at contents are at them in the memory. -/
theorem held_agree (c : Dev nD) (V : Valuation τ sig (Elt F)) (s' : Phys nD τ sig (Elt F)) (S : Finset (DevRef τ sig)) :
    iprop(StableHlo.held (c.tc : Thread nD τ) S V ∗ SI s') ⊢ (⌜∀ b ∈ S, s'.mem.mem (c, b) = V b⌝ : sProp 𝕄) := by
  induction S using Finset.induction with
  | empty => iintro -; ipureintro; exact fun _ h => absurd h (Finset.notMem_empty _)
  | insert b S hb ih =>
    unfold StableHlo.held at ih ⊢
    rw [SparseCore.bigSep_insert' hb]
    iintro ⟨⟨Hb, HS⟩, HSI⟩
    ihave H := (persistent_entails_right (SI_pointsTo_agree (st := s') (ℓ := (c, b)) (I := Finset.univ) (q := fullShare) (f := V b))) $$ [HSI Hb]
    · isplitl [HSI] <;> iassumption
    icases H with ⟨%h1, HSI, -⟩
    ihave H := ih $$ [HS HSI]
    · isplitl [HS] <;> iassumption
    icases H with %h2
    ipureintro
    intro b' hb'
    rcases Finset.mem_insert.mp hb' with rfl | h
    · exact funext fun i => h1 i (Finset.mem_univ i)
    · exact h2 b' h

def fq (d : Dev nD) (s' : Phys nD τ sig (Elt F)) : Prop := ∀ b ∈ ucRefs, s'.mem.mem (d, b) = V10 m d b

theorem hfin (d : Dev nD) (s' : Phys nD τ sig (Elt F)) : iprop(FIN m d ∗ SI s') ⊢ (⌜fq m d s'⌝ : sProp 𝕄) := held_agree d _ s' _

def QC : PUnit × MemSt nD τ sig (Elt F) → Prop := fun r => (∀ c : Dev nD, ∀ b ∈ ucRefs, r.2.mem (c, b) = V10 m c b) ∧ r.2.sem = fun _ => 0

/-- The program's run: every unscoped buffer ends at `V10`, every semaphore at zero. -/
theorem run_main [∀ e, Nonempty (Elt F e)] (hpre : ∀ d, (given m d).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (given m)) (A := ∅) facts v₀
    (fun q hq => match q with | 0 => nomatch hq)
    (fun q _ => match q with | 0 => tileObl (given m) facts hpre)
    (fun q _ => match q with | 0 => SparseCore.Cfg.VecSplit.of_plain (vecSplit (given m)))
    m ρ main (GH (F := F)) (FIN m) (u₀ (F := F)) (sep_elim_left.trans (hu₀ (given m))) (hmain m ρ) (fq m) (hfin m) (QC m) (fun _ h hz => ⟨h, hz⟩)

end Cert.Proof.Run

end
-- ==== Proof.Alg.lean ====
/-
  The mathematics of one layer over extended reals, as the reference writes it and as the kernel does: the mean of a
  graph's rows added before the first matrix product or after it, the sums of the rows taken before the second matrix
  product or after it.
-/
module

public import Idealize.ShloMosaic.PureOps.Ideal
public import Idealize.ShloMosaic.Lib.IdealHost

@[expose] public section

noncomputable section

namespace Cert.Proof.Alg

open Idealize.ShloMosaic

/-! ## Finite values, and columns whose entries are all finite or all the same infinity -/

/-- A finite extended real. -/
def Fin' (a : EReal) : Prop := ∃ r : ℝ, a = r

/-- A column all of whose entries are finite, or all `⊤`, or all `⊥`. -/
def Unif {ν : Type} (f : ν → EReal) : Prop := (∀ n, Fin' (f n)) ∨ (∀ n, f n = ⊤) ∨ (∀ n, f n = ⊥)

theorem fin_zero : Fin' 0 := ⟨0, rfl⟩
theorem fin_one : Fin' 1 := ⟨1, rfl⟩
theorem Fin'.add {a b : EReal} : Fin' a → Fin' b → Fin' (a + b) := fun ⟨x, hx⟩ ⟨y, hy⟩ => ⟨x + y, by rw [hx, hy]; rfl⟩
theorem Fin'.mul {a b : EReal} : Fin' a → Fin' b → Fin' (a * b) := fun ⟨x, hx⟩ ⟨y, hy⟩ => ⟨x * y, by rw [hx, hy]; rfl⟩
theorem Fin'.max {a b : EReal} (ha : Fin' a) (hb : Fin' b) : Fin' (max a b) := by
  rcases max_choice a b with h | h <;> rw [h] <;> assumption
theorem Fin'.sum {ν : Type} (s : Finset ν) (f : ν → EReal) (h : ∀ n ∈ s, Fin' (f n)) : Fin' (∑ n ∈ s, f n) := by
  classical
  induction s using Finset.induction with
  | empty => exact fin_zero
  | insert a s ha ih =>
    rw [Finset.sum_insert ha]
    exact (h a (Finset.mem_insert_self _ _)).add (ih fun n hn => h n (Finset.mem_insert_of_mem hn))

/-- A value is finite or an infinity. -/
theorem fin_cases' (a : EReal) : Fin' a ∨ a = ⊤ ∨ a = ⊥ := by
  induction a with
  | bot => exact .inr (.inr rfl)
  | top => exact .inr (.inl rfl)
  | coe r => exact .inl ⟨r, rfl⟩

section
variable {ν : Type} {f g : ν → EReal}

theorem unif_const (a : EReal) : Unif (fun _ : ν => a) := by
  rcases fin_cases' a with h | h | h
  · exact .inl fun _ => h
  · exact .inr (.inl fun _ => h)
  · exact .inr (.inr fun _ => h)

theorem Unif.add (hf : Unif f) (hg : Unif g) : Unif fun n => f n + g n := by
  rcases hf with hf | hf | hf
  · rcases hg with hg | hg | hg
    · exact .inl fun n => (hf n).add (hg n)
    · exact .inr (.inl fun n => by obtain ⟨r, hr⟩ := hf n; beta_reduce; rw [hr, hg n]; exact EReal.coe_add_top r)
    · exact .inr (.inr fun n => by beta_reduce; rw [hg n]; exact EReal.add_bot _)
  · rcases hg with hg | hg | hg
    · exact .inr (.inl fun n => by obtain ⟨r, hr⟩ := hg n; beta_reduce; rw [hr, hf n]; exact EReal.top_add_coe r)
    · exact .inr (.inl fun n => by beta_reduce; rw [hf n, hg n]; rfl)
    · exact .inr (.inr fun n => by beta_reduce; rw [hg n]; exact EReal.add_bot _)
  · exact .inr (.inr fun n => by beta_reduce; rw [hf n]; exact EReal.bot_add _)

theorem Unif.mul_fin (hf : Unif f) {w : EReal} (hw : Fin' w) : Unif fun n => f n * w := by
  rcases hf with hf | hf | hf
  · exact .inl fun n => (hf n).mul hw
  · exact (funext fun n => by rw [hf n] : (fun n => f n * w) = fun _ => ⊤ * w) ▸ unif_const _
  · exact (funext fun n => by rw [hf n] : (fun n => f n * w) = fun _ => ⊥ * w) ▸ unif_const _

theorem Unif.max_zero (hf : Unif f) : Unif fun n => max (f n) 0 := by
  rcases hf with hf | hf | hf
  · exact .inl fun n => (hf n).max fin_zero
  · exact .inr (.inl fun n => by beta_reduce; rw [hf n]; exact max_eq_left le_top)
  · exact .inl fun n => by beta_reduce; rw [hf n, max_eq_right bot_le]; exact fin_zero

theorem Unif.sum {ι : Type} (s : Finset ι) (F : ι → ν → EReal) (h : ∀ i, Unif (F i)) : Unif fun n => ∑ i ∈ s, F i n := by
  classical
  induction s using Finset.induction with
  | empty => simpa using unif_const (ν := ν) 0
  | insert a s ha ih => simpa only [Finset.sum_insert ha] using (h a).add ih

end

/-- A sum of two values times a finite one, the two not opposite infinities. -/
theorem add_mul_fin {a b w : EReal} (hw : Fin' w) (h : (Fin' a ∧ Fin' b) ∨ (a = ⊤ ∧ b = ⊤) ∨ (a = ⊥ ∧ b = ⊥)) : (a + b) * w = a * w + b * w := by
  obtain ⟨w, rfl⟩ := hw
  rcases h with ⟨⟨x, rfl⟩, ⟨y, rfl⟩⟩ | ⟨rfl, rfl⟩ | ⟨rfl, rfl⟩
  · exact congrArg (fun r : ℝ => (r : EReal)) (add_mul x y w)
  · rw [show (⊤ + ⊤ : EReal) = ⊤ from rfl]
    rcases lt_trichotomy w 0 with h | h | h
    · rw [EReal.top_mul_coe_of_neg h]; rfl
    · rw [h, EReal.coe_zero, mul_zero, add_zero]
    · rw [EReal.top_mul_coe_of_pos h]; rfl
  · rw [show (⊥ + ⊥ : EReal) = ⊥ from rfl]
    rcases lt_trichotomy w 0 with h | h | h
    · rw [EReal.bot_mul_coe_of_neg h]; rfl
    · rw [h, EReal.coe_zero, mul_zero, add_zero]
    · rw [EReal.bot_mul_coe_of_pos h]; rfl

/-- A sum of values that are not negative, times any value. -/
theorem sum_mul_nonneg {ν : Type} (s : Finset ν) (f : ν → EReal) (hf : ∀ n, 0 ≤ f n) (w : EReal) : (∑ n ∈ s, f n) * w = ∑ n ∈ s, f n * w := by
  classical
  induction s using Finset.induction with
  | empty => simp
  | insert a s ha ih =>
    rw [Finset.sum_insert ha, Finset.sum_insert ha, EReal.right_distrib_of_nonneg (hf a) (Finset.sum_nonneg fun n _ => hf n), ih]

/-! ## Sums by graph -/

section
variable {ν γ ι κ : Type} [Fintype ν] [DecidableEq γ] [Fintype ι] [Fintype κ] (s : ν → γ)

/-- The rows of a graph, summed. -/
def seg (x : ν → ι → EReal) (g : γ) (j : ι) : EReal := ∑ n, if s n = g then x n j else 0
/-- The number of rows of a graph. -/
def cnt (g : γ) : EReal := ∑ n, if s n = g then (1 : EReal) else 0
/-- Their mean; an empty graph's is zero. -/
def mean (x : ν → ι → EReal) (g : γ) (j : ι) : EReal := Ideal.div (seg s x g j) (max (cnt s g) 1)
/-- The hidden rows: each row with its graph's mean added, through the first matrix, clamped at zero. -/
def hid (x : ν → ι → EReal) (wa : ι → κ → EReal) (ba : κ → EReal) (n : ν) (k : κ) : EReal :=
  max (∑ j, (x n j + mean s x (s n) j) * wa j k + ba k) 0
/-- Rows through the second matrix. -/
def lin (h : ν → ι → EReal) (wb : ι → κ → EReal) (bb : κ → EReal) (n : ν) (p : κ) : EReal := ∑ i, h n i * wb i p + bb p
/-- The hidden rows as the kernel makes them: the mean's product apart, from sums `m` by graph. -/
def khid (m : γ → ι → EReal) (x : ν → ι → EReal) (wa : ι → κ → EReal) (ba : κ → EReal) (n : ν) (k : κ) : EReal :=
  max (∑ j, x n j * wa j k + (∑ j, m (s n) j * Ideal.div 1 (max (cnt s (s n)) 1) * wa j k + ba k)) 0

theorem cnt_fin (g : γ) : Fin' (cnt s g) := Fin'.sum _ _ fun n _ => by split <;> first | exact fin_one | exact fin_zero

/-- The divisor is a real not below one. -/
theorem div_real (g : γ) : ∃ r : ℝ, 0 < r ∧ ∀ a : EReal, Ideal.div a (max (cnt s g) 1) = a * (r : EReal) := by
  obtain ⟨c, hc⟩ := (cnt_fin s g).max fin_one
  have h1 : (1 : ℝ) ≤ c := by
    have : (1 : EReal) ≤ (c : EReal) := hc ▸ le_max_right _ _
    exact_mod_cast this
  have h0 : (c : EReal) ≠ 0 := by
    have : c ≠ 0 := by linarith
    exact_mod_cast this
  refine ⟨c⁻¹, inv_pos.mpr (by linarith), fun a => ?_⟩
  rw [hc]
  unfold Ideal.div
  rw [if_neg h0, EReal.coe_inv]

theorem seg_eq_sum (x : ν → ι → EReal) (g : γ) (j : ι) : seg s x g j = ∑ n ∈ Finset.univ.filter (fun n => s n = g), x n j :=
  (Finset.sum_filter _ _).symm

/-- A row's entry and its graph's mean are both finite or the same infinity. -/
theorem mean_class (x : ν → ι → EReal) (j : ι) (hx : Unif fun n => x n j) (n : ν) :
    (Fin' (x n j) ∧ Fin' (mean s x (s n) j)) ∨ (x n j = ⊤ ∧ mean s x (s n) j = ⊤) ∨ (x n j = ⊥ ∧ mean s x (s n) j = ⊥) := by
  classical
  obtain ⟨r, hr, hdiv⟩ := div_real s (s n)
  have hn : n ∈ Finset.univ.filter (fun n' => s n' = s n) := Finset.mem_filter.mpr ⟨Finset.mem_univ _, rfl⟩
  unfold mean
  rw [hdiv, seg_eq_sum]
  rcases hx with hx | hx | hx
  · exact .inl ⟨hx n, (Fin'.sum _ _ fun n _ => hx n).mul ⟨r, rfl⟩⟩
  · have hx : ∀ n, x n j = ⊤ := hx
    refine .inr (.inl ⟨hx n, ?_⟩)
    have e : ∑ n' ∈ Finset.univ.filter (fun n' => s n' = s n), x n' j = ⊤ := by
      rw [← Finset.insert_erase hn, Finset.sum_insert (Finset.notMem_erase _ _), hx n]
      refine EReal.top_add_of_ne_bot fun hb => ?_
      exact absurd hb (ne_of_gt (lt_of_lt_of_le EReal.bot_lt_zero (Finset.sum_nonneg fun n' _ => by rw [hx n']; exact le_top)))
    rw [e, EReal.top_mul_coe_of_pos hr]
  · have hx : ∀ n, x n j = ⊥ := hx
    refine .inr (.inr ⟨hx n, ?_⟩)
    have e : ∑ n' ∈ Finset.univ.filter (fun n' => s n' = s n), x n' j = ⊥ := by
      rw [← Finset.insert_erase hn, Finset.sum_insert (Finset.notMem_erase _ _), hx n, EReal.bot_add]
    rw [e, EReal.bot_mul_coe_of_pos hr]

/-- The kernel's hidden rows are the reference's. -/
theorem khid_eq (m : γ → ι → EReal) (x : ν → ι → EReal) (wa : ι → κ → EReal) (ba : κ → EReal) (hm : ∀ g j, m g j = seg s x g j)
    (hx : ∀ j, Unif fun n => x n j) (hw : ∀ j k, Fin' (wa j k)) (n : ν) (k : κ) : khid s m x wa ba n k = hid s x wa ba n k := by
  unfold khid hid
  rw [← add_assoc, ← Finset.sum_add_distrib]
  congr 2
  refine Finset.sum_congr rfl fun j _ => ?_
  rw [add_mul_fin (hw j k) (mean_class s x j (hx j) n), hm]
  unfold mean
  obtain ⟨r, _, hdiv⟩ := div_real s (s n)
  rw [hdiv, hdiv, one_mul]

theorem hid_nonneg (x : ν → ι → EReal) (wa : ι → κ → EReal) (ba : κ → EReal) (n : ν) (k : κ) : 0 ≤ hid s x wa ba n k := le_max_right _ _

/-- The hidden columns stay of one kind, … -/
theorem unif_hid (x : ν → ι → EReal) (wa : ι → κ → EReal) (ba : κ → EReal) (hx : ∀ j, Unif fun n => x n j) (hw : ∀ j k, Fin' (wa j k)) (k : κ) :
    Unif fun n => hid s x wa ba n k := by
  unfold hid
  refine Unif.max_zero (Unif.add (Unif.sum _ _ fun j => Unif.mul_fin ?_ (hw j k)) (unif_const _))
  rcases hx j with h | h | h
  · refine .inl fun n => ?_
    rcases mean_class s x j (hx j) n with h' | h' | h'
    · exact h'.1.add h'.2
    · obtain ⟨r, hr⟩ := h n; exact absurd (hr.symm.trans h'.1) (EReal.coe_ne_top r)
    · obtain ⟨r, hr⟩ := h n; exact absurd (hr.symm.trans h'.1) (EReal.coe_ne_bot r)
  · have h : ∀ n, x n j = ⊤ := h
    refine .inr (.inl fun n => ?_)
    rcases mean_class s x j (hx j) n with h' | h' | h'
    · obtain ⟨r, hr⟩ := h'.1; exact absurd (hr.symm.trans (h n)) (EReal.coe_ne_top r)
    · beta_reduce; rw [h'.1, h'.2]; rfl
    · exact absurd ((h n).symm.trans h'.1) (by decide)
  · have h : ∀ n, x n j = ⊥ := h
    refine .inr (.inr fun n => ?_)
    beta_reduce; rw [h n]; exact EReal.bot_add _

/-- … and so do the columns of the second product. -/
theorem unif_lin (h : ν → ι → EReal) (wb : ι → κ → EReal) (bb : κ → EReal) (hh : ∀ i, Unif fun n => h n i) (hw : ∀ i p, Fin' (wb i p)) (p : κ) :
    Unif fun n => lin h wb bb n p := by
  unfold lin
  exact Unif.add (Unif.sum _ _ fun i => Unif.mul_fin (hh i) (hw i p)) (unif_const _)

/-- The sums of the second product's rows, from the sums of the rows before it. -/
theorem seg_lin (h : ν → ι → EReal) (hh : ∀ n i, 0 ≤ h n i) (wb : ι → κ → EReal) (bb : κ → EReal) (g : γ) (p : κ) :
    ∑ i, seg s h g i * wb i p + cnt s g * bb p = seg s (lin h wb bb) g p := by
  classical
  rw [seg_eq_sum]
  unfold lin
  rw [Finset.sum_add_distrib, Finset.sum_comm]
  congr 1
  · refine Finset.sum_congr rfl fun i _ => ?_
    rw [seg_eq_sum, sum_mul_nonneg _ _ fun n => hh n i]
  · unfold cnt
    rw [← Finset.sum_filter, sum_mul_nonneg _ _ fun _ => zero_le_one]
    exact Finset.sum_congr rfl fun n _ => one_mul _

/-- The sums of the rows that a table gives by type, from the numbers of rows by graph and type. -/
theorem seg_table {υ : Type} [Fintype υ] [DecidableEq υ] (u : ν → υ) (e : υ → ι → EReal) (g : γ) (j : ι) :
    ∑ v, (∑ n, if s n = g ∧ u n = v then (1 : EReal) else 0) * e v j = seg s (fun n j => e (u n) j) g j := by
  classical
  unfold seg
  have : ∀ v, (∑ n, if s n = g ∧ u n = v then (1 : EReal) else 0) * e v j = ∑ n, (if s n = g ∧ u n = v then (1 : EReal) else 0) * e v j :=
    fun v => sum_mul_nonneg _ _ (fun n => by split <;> simp) _
  simp only [this]
  rw [Finset.sum_comm]
  refine Finset.sum_congr rfl fun n _ => ?_
  rw [Finset.sum_eq_single (u n)]
  · by_cases h : s n = g
    · rw [if_pos ⟨h, rfl⟩, if_pos h, one_mul]
    · rw [if_neg fun x => h x.1, if_neg h, zero_mul]
  · intro v _ hv
    rw [if_neg fun x => hv x.2.symm, zero_mul]
  · intro h; exact absurd (Finset.mem_univ _) h

/-- The numbers by graph and type sum to the numbers by graph. -/
theorem cnt_table {υ : Type} [Fintype υ] [DecidableEq υ] (u : ν → υ) (g : γ) :
    ∑ v, (∑ n, if s n = g ∧ u n = v then (1 : EReal) else 0) = cnt s g := by
  rw [Finset.sum_comm]
  refine Finset.sum_congr rfl fun n _ => ?_
  rw [Finset.sum_eq_single (u n)]
  · exact if_congr (and_iff_left rfl) rfl rfl
  · intro v _ hv; exact if_neg fun x => hv x.2.symm
  · intro h; exact absurd (Finset.mem_univ _) h

end

end Cert.Proof.Alg

end
-- ==== Proof.Words.lean ====
/-
  What the SparseCore call is given, in terms of the arguments' words, and what the precondition says of them.
-/
module

public import proofs.«01_k».proof.Proof.Run
public import proofs.«01_k».proof.Proof.Gen.Pre_in_range
public import proofs.«01_k».proof.Proof.Gen.Pre_finite
public import proofs.«01_k».proof.Proof.Alg
public import Idealize.ShloMosaic.Lib.ReduceAll

@[expose] public section

set_option maxRecDepth 16384

noncomputable section

namespace Cert.Proof.Words

open Cert.KernelIdeal Cert.KernelIdeal.Gen Cert.Proof.Sc Cert.Proof.Hist Cert.Proof.Run

open Idealize.ShloMosaic Idealize.ShloMosaic.TcCoe Idealize.ShloMosaic.StableHlo

/-- The words the precondition allows: each type below 143, each graph below 512. -/
structure Ok (a b : IVec S100000 32) : Prop where
  ut : ∀ n < 100000, (at1 a n).toNat < 143
  seg : ∀ n < 100000, (at1 b n).toNat < 512

/-! ## The padded words -/

theorem at1_pad_in (x : IVec S100000 32) (v : IVec S_ 32) (h : S100000.Pads (![0] : Fin 1 → ℕ) ![2400] ![0] S102400) (hu : 0 < S_.numel) (k : ℕ) (hk : k < 100000) :
    at1 (pad S102400 ![0] ![2400] ![0] x v h hu) k = at1 x k := by
  have hk' : k < 102400 := by omega
  unfold at1
  rw [dif_pos hk, dif_pos hk']
  unfold pad
  rw [dif_pos fun a => by
    obtain rfl : a = 0 := Subsingleton.elim _ _
    exact ⟨Nat.zero_le _, Nat.mod_one _, by show (k - 0) / 1 < 100000; omega⟩]
  refine congrArg x (funext fun a => Fin.ext ?_)
  obtain rfl : a = 0 := Subsingleton.elim _ _
  show (k - 0) / 1 = k
  omega

theorem at1_pad_out (x : IVec S100000 32) (w : BitVec 32) (h : S100000.Pads (![0] : Fin 1 → ℕ) ![2400] ![0] S102400) (hu : 0 < S_.numel) (k : ℕ) (hk : 100000 ≤ k)
    (hk' : k < 102400) : at1 (pad S102400 ![0] ![2400] ![0] x (constantI S_ 32 w) h hu) k = w := by
  unfold at1
  rw [dif_pos hk']
  unfold pad
  rw [dif_neg fun hin => by
    have := (hin 0).2.2
    have : (k - 0) / 1 < 100000 := this
    omega]
  rfl

/-! ## The call's inputs -/

section
variable {F : FTy → Type} [FloatOps F] (m : (ℓ : Loc nD τ sig) → Buf (Elt F) ℓ) (d : Dev nD)

theorem given_u : (given m d).u = pad S102400 ![0] ![2400] ![0] (m (d, dr main_arg0)) (constantI S_ 32 4294967295#32) pads_S100000_S102400_024000 h_S_ := by
  show V1 m d (dr uR) = _
  unfold_abbrev_sides
  after_results <;> rfl
theorem given_s : (given m d).s = pad S102400 ![0] ![2400] ![0] (m (d, dr main_arg1)) (constantI S_ 32 512#32) pads_S100000_S102400_024000 h_S_ := by
  show V1 m d (dr sR) = _
  unfold_abbrev_sides
  after_results <;> rfl
theorem given_z : (given m d).z = broadcastInDim S73728 ![] bcast_S_S73728 (constant S_ .f32 0x00000000#32) := by
  show V1 m d (dr zR) = _
  unfold_abbrev_sides
  after_results <;> rfl

/-- Every pair of words names a place of the table: a padded pair is 512 and −1, naming the last. -/
theorem inRange (h : Ok (m (d, dr main_arg0)) (m (d, dr main_arg1))) : (given m d).InRange := by
  intro n hn
  rw [given_u, given_s]
  by_cases hk : n < 100000
  · rw [at1_pad_in _ _ _ _ n hk, at1_pad_in _ _ _ _ n hk]
    have h1 := h.ut n hk
    have h2 := h.seg n hk
    rw [BitVec.toNat_add, BitVec.toNat_mul, show (144#32).toNat = 144 from rfl,
      Nat.mod_eq_of_lt (show (at1 (m (d, dr main_arg1)) n).toNat * 144 < 2 ^ 32 by omega), Nat.mod_eq_of_lt (by omega)]
    omega
  · rw [at1_pad_out _ _ _ _ n (by omega) hn, at1_pad_out _ _ _ _ n (by omega) hn]
    decide
end

/-- A row's type, … -/
def ut {a b : IVec S100000 32} (h : Ok a b) (n : Fin 100000) : Fin 143 := ⟨(at1 a n.val).toNat, h.ut n.val n.isLt⟩
/-- … the same among the padded table's rows, … -/
def ut' {a b : IVec S100000 32} (h : Ok a b) (n : Fin 100000) : Fin 144 := ⟨(at1 a n.val).toNat, Nat.lt_succ_of_lt (h.ut n.val n.isLt)⟩
/-- … and its graph. -/
def sg {a b : IVec S100000 32} (h : Ok a b) (n : Fin 100000) : Fin 512 := ⟨(at1 b n.val).toNat, h.seg n.val n.isLt⟩

/-! ## The preconditions -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide
theorem andi_eq_one (p q : BitVec 1) : IntOp.andi p q = 1#1 ↔ p = 1#1 ∧ q = 1#1 := by revert p q; decide

theorem word_range (v w : BitVec 32)
    (e : IntOp.andi (IntOp.andi (IntOp.andi (IntOp.cmpi .sge v 0#32) (IntOp.cmpi .slt v 143#32)) (IntOp.cmpi .sge w 0#32)) (IntOp.cmpi .slt w 512#32) = 1#1) :
    v.toNat < 143 ∧ w.toNat < 512 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem ok_of_all (a b : IVec S100000 32) (all : ∀ j, (a j).toNat < 143 ∧ (b j).toNat < 512) : Ok a b := by
  constructor <;> intro n hn <;> unfold at1 <;> rw [dif_pos hn]
  · exact (all _).1
  · exact (all _).2

section
variable {F : FTy → Type} [FloatOps F] {a b : IVec S100000 32} {e : FVec F S143x128 .f32} {w3 : FVec F S128x128 .f32} {b4 : FVec F S128 .f32}
  {w5 : FVec F S128x256 .f32} {b6 : FVec F S256 .f32} {w7 : FVec F S256x256 .f32} {b8 : FVec F S256 .f32} {w9 : FVec F S256x256 .f32} {b10 : FVec F S256 .f32}
  {w11 : FVec F S256x256 .f32} {b12 : FVec F S256 .f32} {w13 : FVec F S256x256 .f32} {b14 : FVec F S256 .f32}

theorem ok_of_fn (h : Cert.Pre_in_range.fn (F := F) a b e w3 b4 w5 b6 w7 b8 w9 b10 w11 b12 w13 b14 = fun _ => 1#1) : Ok a b := by
  refine ok_of_all a b fun j => ?_
  have e := congrFun h j
  simp only [Cert.Pre_in_range.fn, andi, cmpi, broadcastInDim, constantI] at e
  exact word_range _ _ e

end

/-- The arguments whose entries the layers' algebra needs finite. -/
structure Finite (e : FVec Ideal S143x128 .f32) (w3 : FVec Ideal S128x128 .f32) (w5 : FVec Ideal S128x256 .f32) (w7 w9 w11 : FVec Ideal S256x256 .f32) : Prop where
  e : ∀ i, Alg.Fin' (e i)
  w3 : ∀ i, Alg.Fin' (w3 i)
  w5 : ∀ i, Alg.Fin' (w5 i)
  w7 : ∀ i, Alg.Fin' (w7 i)
  w9 : ∀ i, Alg.Fin' (w9 i)
  w11 : ∀ i, Alg.Fin' (w11 i)

theorem inf_bits : (FloatOps.ofBits .f32 0x7F800000#32 : Ideal .f32) = (⊤ : EReal) := by
  show Ideal.ofBits .f32 0x7F800000#32 = ⊤
  simp [Ideal.ofBits, Ideal.ieee, -EReal.coe_mul]

/-- A value whose magnitude is below infinity is finite. -/
theorem fin_of_olt (x : Ideal .f32) (h : FloatOps.cmpf .olt (FloatOps.hostAbsf x) (FloatOps.ofBits .f32 0x7F800000#32 : Ideal .f32) = 1#1) : Alg.Fin' (x : EReal) := by
  rw [inf_bits] at h
  have h' : Ideal.cmp .olt (max (x : EReal) (-(x : EReal))) ⊤ = 1#1 := h
  rcases Alg.fin_cases' (x : EReal) with hx | hx | hx
  · exact hx
  · rw [hx] at h'
    simp [Ideal.cmp] at h'
  · rw [hx] at h'
    simp [Ideal.cmp] at h'

section
variable {a b : IVec S100000 32} {e : FVec Ideal S143x128 .f32} {w3 : FVec Ideal S128x128 .f32} {b4 : FVec Ideal S128 .f32}
  {w5 : FVec Ideal S128x256 .f32} {b6 : FVec Ideal S256 .f32} {w7 : FVec Ideal S256x256 .f32} {b8 : FVec Ideal S256 .f32} {w9 : FVec Ideal S256x256 .f32} {b10 : FVec Ideal S256 .f32}
  {w11 : FVec Ideal S256x256 .f32} {b12 : FVec Ideal S256 .f32} {w13 : FVec Ideal S256x256 .f32} {b14 : FVec Ideal S256 .f32}

instance : Subsingleton Cert.Pre_finite.S_.Idx := ⟨fun _ _ => funext fun i => i.elim0⟩

theorem finite_of_fn (h : Cert.Pre_finite.fn (F := Ideal) a b e w3 b4 w5 b6 w7 b8 w9 b10 w11 b12 w13 b14 = fun _ => 1#1) :
    Ok a b ∧ Finite e w3 w5 w7 w9 w11 := by
  have h := congrFun h (fun i => i.elim0)
  simp only [Cert.Pre_finite.fn, Cert.Pre_finite.fn_part1, Cert.Pre_finite.fn_part2] at h
  obtain ⟨hr, h⟩ := (andi_eq_one _ _).mp h
  obtain ⟨h, h11⟩ := (andi_eq_one _ _).mp h
  obtain ⟨h, h9⟩ := (andi_eq_one _ _).mp h
  obtain ⟨h, h7⟩ := (andi_eq_one _ _).mp h
  obtain ⟨h, h5⟩ := (andi_eq_one _ _).mp h
  obtain ⟨h2, h3⟩ := (andi_eq_one _ _).mp h
  refine ⟨ok_of_all a b fun j => ?_, fun i => ?_, fun i => ?_, fun i => ?_, fun i => ?_, fun i => ?_, fun i => ?_⟩
  · have e := Host.reduce_andi_all _ _ _ _ _ hr j
    simp only [andi, cmpi, broadcastInDim, constantI] at e
    exact word_range _ _ e
  · exact fin_of_olt _ (Host.reduce_andi_all _ _ _ _ _ h2 i)
  · exact fin_of_olt _ (Host.reduce_andi_all _ _ _ _ _ h3 i)
  · exact fin_of_olt _ (Host.reduce_andi_all _ _ _ _ _ h5 i)
  · exact fin_of_olt _ (Host.reduce_andi_all _ _ _ _ _ h7 i)
  · exact fin_of_olt _ (Host.reduce_andi_all _ _ _ _ _ h9 i)
  · exact fin_of_olt _ (Host.reduce_andi_all _ _ _ _ _ h11 i)

end

end Cert.Proof.Words

end
-- ==== Proof.Count.lean ====
/-
  The SparseCore call's tables and their sum at the ideal instance, as counts.
-/
module

public import proofs.«01_k».proof.Proof.Words

@[expose] public section

set_option maxRecDepth 16384

noncomputable section

namespace Cert.Proof.Count

open Cert.KernelIdeal Cert.KernelIdeal.Gen Cert.Proof.Sc Cert.Proof.Hist Cert.Proof.Words

open Idealize.ShloMosaic hiding ix1 ix2
open Idealize.ShloMosaic.ValueIdx

theorem one_bits : (Scalar.ofBits .f32 0x3F800000#32 : Ideal .f32) = (1 : EReal) := by
  show Ideal.ofBits .f32 0x3F800000#32 = 1
  simp [Ideal.ofBits, Ideal.ieee, -EReal.coe_mul]; norm_num

theorem zero_bits : (Scalar.ofBits .f32 0x00000000#32 : Ideal .f32) = (0 : EReal) := by
  show Ideal.ofBits .f32 0x00000000#32 = 0
  simp [Ideal.ofBits, Ideal.ieee, -EReal.coe_mul]

/-- One where lane `k`'s words name place `j`, else zero. -/
def one (u s : ℕ → BitVec 32) (j k : ℕ) : EReal :=
  if BitVec.slt (s k) 512#32 = true ∧ j = (s k * 144#32 + u k).toNat then 1 else 0

/-- A table over zeros counts the lanes naming its place. -/
theorem hist_count (u s : ℕ → BitVec 32) (z : S73728.Idx → Ideal .f32) (hz : ∀ j, z j = (0 : EReal)) (n : ℕ) (j : S73728.Idx) :
    hist u s z n j = ∑ k ∈ Finset.range n, one u s (j 0).val k := by
  induction n with
  | zero => exact hz j
  | succ n ih =>
    rw [Finset.sum_range_succ, ← ih]
    show bump (s n) (u n) (hist u s z n) j = _
    unfold bump one
    by_cases h1 : BitVec.slt (s n) 512#32 = true
    · rw [if_pos h1]
      show (if (j 0).val = (s n * 144#32 + u n).toNat then FloatOps.idxAddf (hist u s z n j) (Scalar.ofBits .f32 0x3F800000#32) else hist u s z n j) = _
      by_cases h2 : (j 0).val = (s n * 144#32 + u n).toNat
      · rw [if_pos h2, if_pos ⟨h1, h2⟩, Ideal.idxAddf_def, one_bits]
      · rw [if_neg h2, if_neg fun h => h2 h.2, add_zero]
    · rw [if_neg h1, if_neg fun h => h1 h.1, add_zero]

/-- A sum of sums over consecutive stretches is the sum over all. -/
theorem sum_stretches (f : ℕ → EReal) (K T : ℕ) :
    (∑ t ∈ Finset.range T, ∑ k ∈ Finset.range K, f (K * t + k)) = ∑ k ∈ Finset.range (K * T), f k := by
  induction T with
  | zero => simp
  | succ T ih => rw [Finset.sum_range_succ, ih, Nat.mul_succ, Finset.sum_range_add]

/-- Place `j` of the call's output, at the table `w` and the place in it. -/
theorem out_count (G : Given Ideal) (hz : ∀ j, G.z j = (0 : EReal)) (w : ℕ) (hw : w < 32) (x : ℕ) (hx : x < 73728) (p : S2359296.Idx)
    (hp : (p 0).val = 73728 * w + x) : G.out p = ∑ k ∈ Finset.range 3200, one (at1 G.u) (at1 G.s) x (3200 * w + k) := by
  unfold Given.out Given.table
  rw [hist_count _ _ _ hz]
  have e1 : (p 0).val / 73728 = w := by omega
  have e2 : (p 0).val % 73728 = x := by omega
  rw [e1]
  refine Finset.sum_congr rfl fun k _ => ?_
  unfold one
  simp only [e2]

variable (W : Dev nD → Valuation τ sig (Elt Ideal)) (c : Dev nD)

theorem idx1_0 : ∀ t : Fin cfg1.N, (cfg1.win 0).index t 0 = t.val ∧ (cfg1.win 0).index t 1 = 0 := by decide +kernel

open Cert.Proof.Hsum in
theorem blk_apply (t : Fin cfg1.N) (r : Fin 512) (u : Fin 144) (q : Fin 16384) (hq : q.val = 512 * t.val + r.val) :
    blk W c t (ix2 r u) = W c (Proc.devRef .tc main_v8) (ix2 q u) := by
  have h := idx1_0 t
  unfold blk
  blk_ext [h.1, h.2]
  show t.val * 512 + r.val = q.val
  omega

open Cert.Proof.Hsum in
/-- The running sum at a place. -/
theorem acc_apply (r : Fin 512) (u : Fin 144) (f : ℕ → EReal)
    (hf : ∀ t : Fin cfg1.N, (blk W c t (ix2 r u) : EReal) = f t.val) (n : ℕ) (h : n < cfg1.N) :
    (acc W c n h (ix2 r u) : EReal) = ∑ t ∈ Finset.range (n + 1), f t := by
  induction n with
  | zero => rw [Finset.sum_range_one]; exact hf ⟨0, h⟩
  | succ n ih => rw [Finset.sum_range_succ, ← ih (Nat.lt_of_succ_lt h), ← hf ⟨n + 1, h⟩]; rfl

/-- The 32 tables summed, at graph `r` and type `u`: the number of lanes naming that place. -/
theorem tables_sum (G : Given Ideal) (hz : ∀ j, G.z j = (0 : EReal))
    (hW : W c (Proc.devRef .tc main_v8) = shapeCast S16384x144 G.out shapeCasts_S2359296_S16384x144) (r : Fin 512) (u : Fin 144) :
    (Hsum.acc W c 31 (by rw [Hsum.N32]; decide) (ix2 r u) : EReal) = ∑ k ∈ Finset.range 102400, one (at1 G.u) (at1 G.s) (144 * r.val + u.val) k := by
  have hN := Hsum.N32
  have hr := r.isLt
  have hu := u.isLt
  rw [acc_apply W c r u (fun t => ∑ k ∈ Finset.range 3200, one (at1 G.u) (at1 G.s) (144 * r.val + u.val) (3200 * t + k))]
  · exact sum_stretches (one (at1 G.u) (at1 G.s) (144 * r.val + u.val)) 3200 32
  · intro t
    have ht : t.val < 32 := by have := t.isLt; omega
    rw [blk_apply W c t r u ⟨512 * t.val + r.val, by omega⟩ rfl, hW,
      shapeCast_apply _ _ _ (fun x => ⟨73728 * t.val + (144 * r.val + u.val), by rw [Fin.eq_zero x]; show 73728 * t.val + (144 * r.val + u.val) < 2359296; omega⟩ : S2359296.Idx)]
    · exact out_count G hz t.val ht _ (by omega) _ rfl
    · rw [Shape.rowMajor_val_one, Shape.rowMajor_val_two]
      show 73728 * t.val + (144 * r.val + u.val) = (512 * t.val + r.val) * 144 + u.val
      omega

/-- The lanes naming graph `r` and type `u` are the rows with those words. -/
theorem lanes (G : Given Ideal) (a b : IVec S100000 32) (h : Ok a b)
    (hu : G.u = pad S102400 ![0] ![2400] ![0] a (constantI S_ 32 4294967295#32) pads_S100000_S102400_024000 h_S_)
    (hs : G.s = pad S102400 ![0] ![2400] ![0] b (constantI S_ 32 512#32) pads_S100000_S102400_024000 h_S_) (r : Fin 512) (u : Fin 144) :
    (∑ k ∈ Finset.range 102400, one (at1 G.u) (at1 G.s) (144 * r.val + u.val) k)
      = ∑ n : Fin 100000, if (at1 b n.val).toNat = r.val ∧ (at1 a n.val).toNat = u.val then (1 : EReal) else 0 := by
  refine (Finset.sum_range_add _ 100000 2400).trans ?_
  rw [Finset.sum_eq_zero (s := Finset.range 2400), add_zero, Finset.sum_range]
  · refine Finset.sum_congr rfl fun n _ => ?_
    have hn := n.isLt
    have h1 := h.ut n.val hn
    have h2 := h.seg n.val hn
    have hr := r.isLt
    have hu' := u.isLt
    unfold one
    rw [hu, hs, at1_pad_in _ _ _ _ _ hn, at1_pad_in _ _ _ _ _ hn]
    refine if_congr ?_ rfl rfl
    rw [BitVec.toNat_add, BitVec.toNat_mul, show (144#32).toNat = 144 from rfl,
      Nat.mod_eq_of_lt (show (at1 b n.val).toNat * 144 < 2 ^ 32 by omega), Nat.mod_eq_of_lt (by omega)]
    have hslt : BitVec.slt (at1 b n.val) 512#32 = true := by
      rw [BitVec.slt_eq_decide, decide_eq_true_eq, BitVec.toInt_eq_toNat_cond, BitVec.toInt_eq_toNat_cond]
      simp only [BitVec.toNat_ofNat, Nat.reducePow, Nat.reduceMod]
      omega
    constructor
    · rintro ⟨-, e⟩; omega
    · rintro ⟨e1, e2⟩; exact ⟨hslt, by omega⟩
  · intro k hk
    have hk := Finset.mem_range.mp hk
    unfold one
    rw [hs, at1_pad_out _ _ _ _ _ (by omega) (by omega)]
    exact if_neg fun e => absurd e.1 (by decide)

end Cert.Proof.Count

end
-- ==== Proof.Reads.lean ====
/-
  What each kernel is entered with, in terms of the arguments: the references each part of @main writes, the rest kept.
-/
module

public import proofs.«01_k».proof.Proof.Count
public import Idealize.ShloMosaic.Lib.Pipeline.RegionArraysS
public import Idealize.ShloMosaic.Lib.KernelVsHost
public import Idealize.ShloMosaic.Lib.StableHlo.RunRead
public import Idealize.ShloMosaic.Lib.Pointwise

@[expose] public section

set_option maxRecDepth 16384

noncomputable section

namespace Cert.Proof.Reads

open Cert.KernelIdeal Cert.KernelIdeal.Gen Cert.Proof.Sc Cert.Proof.Run Cert.Proof.Hist
open Idealize.ShloMosaic Idealize.ShloMosaic.TcCoe Idealize.ShloMosaic.StableHlo Idealize.SL.Sem

/-! ## What is kept -/

abbrev args : List (Ref sig .tc) :=
  [main_arg0, main_arg1, main_arg2, main_arg3, main_arg4, main_arg5, main_arg6, main_arg7, main_arg8, main_arg9, main_arg10, main_arg11, main_arg12, main_arg13, main_arg14]
abbrev wA : List (Ref sig .tc) := [main_c, main_call0_v0, main_v0, main_c_0, main_call1_v0, main_v1, main_v2, main_v3, main_c_1, main_call2_v0, main_v4, main_v5, main_cst, main_v6]
abbrev wB : List (Ref sig .tc) := [main_v8]
abbrev wC : List (Ref sig .tc) := [main_v10, main_v11, main_v12, main_v13]
abbrev wD : List (Ref sig .tc) := [main_v15, main_v16, main_v17, main_v18, main_v19, main_v20]
abbrev wE : List (Ref sig .tc) := [main_v22, main_v23, main_v24, main_v25, main_v26, main_v27]

section
variable {F : FTy → Type} [FloatOps F] (m : (ℓ : Loc nD τ sig) → Buf (Elt F) ℓ) (c : Dev nD)

theorem keepA (r : Ref sig .tc) (h : r ∉ wA) : V1 m c (dr r) = m (c, dr r) := after_unwritten wA rfl h _
theorem keepB (r : Ref sig .tc) (h : r ≠ main_v7) (h' : r ∉ wB) : V3 m c (dr r) = V1 m c (dr r) :=
  (after_unwritten wB rfl h' _).trans (Function.update_of_ne (fun e => h (Proc.devRef_injective _ e)) _ _)
theorem keepC (r : Ref sig .tc) (h : r ∉ wC) : V5 m c (dr r) = V4 m c (dr r) := after_unwritten wC rfl h _
theorem keepD (r : Ref sig .tc) (h : r ∉ wD) : V7 m c (dr r) = V6 m c (dr r) := after_unwritten wD rfl h _
theorem keepE (r : Ref sig .tc) (h : r ∉ wE) : V9 m c (dr r) = V8 m c (dr r) := after_unwritten wE rfl h _
theorem keep1 (r : Ref sig .tc) (h : ∀ w, Pipeline.arrRef cfg1.spec w = r → (cfg1.win w).isOut = false) : V4 m c (dr r) = V3 m c (dr r) := by
  unfold V4
  exact Pipeline.afterRegion_keeps _ _ (by decide) (fun _ => rfl) r h
theorem keep2 (r : Ref sig .tc) (h : ∀ w, Pipeline.arrRef cfg2.spec w = r → (cfg2.win w).isOut = false) : V6 m c (dr r) = V5 m c (dr r) := by
  unfold V6
  exact Pipeline.afterRegion_keeps _ _ (by decide) (fun _ => rfl) r h
theorem keep3 (r : Ref sig .tc) (h : ∀ w, Pipeline.arrRef cfg3.spec w = r → (cfg3.win w).isOut = false) : V8 m c (dr r) = V7 m c (dr r) := by
  unfold V8
  exact Pipeline.afterRegion_keeps _ _ (by decide) (fun _ => rfl) r h
theorem keep4 (r : Ref sig .tc) (h : ∀ w, Pipeline.arrRef cfg4.spec w = r → (cfg4.win w).isOut = false) : V10 m c (dr r) = V9 m c (dr r) := by
  unfold V10
  exact Pipeline.afterRegion_keeps _ _ (by decide) (fun _ => rfl) r h

/-- The arguments at each stage. -/
theorem arg4 (r : Ref sig .tc) (h : r ∈ args) : V4 m c (dr r) = m (c, dr r) :=
  (keep1 m c r ((by decide : ∀ r ∈ args, ∀ w, Pipeline.arrRef cfg1.spec w = r → (cfg1.win w).isOut = false) r h)).trans
    ((keepB m c r ((by decide : ∀ r ∈ args, r ≠ main_v7) r h) ((by decide : ∀ r ∈ args, r ∉ wB) r h)).trans (keepA m c r ((by decide : ∀ r ∈ args, r ∉ wA) r h)))
theorem arg6 (r : Ref sig .tc) (h : r ∈ args) : V6 m c (dr r) = m (c, dr r) :=
  (keep2 m c r ((by decide : ∀ r ∈ args, ∀ w, Pipeline.arrRef cfg2.spec w = r → (cfg2.win w).isOut = false) r h)).trans
    ((keepC m c r ((by decide : ∀ r ∈ args, r ∉ wC) r h)).trans (arg4 m c r h))
theorem arg8 (r : Ref sig .tc) (h : r ∈ args) : V8 m c (dr r) = m (c, dr r) :=
  (keep3 m c r ((by decide : ∀ r ∈ args, ∀ w, Pipeline.arrRef cfg3.spec w = r → (cfg3.win w).isOut = false) r h)).trans
    ((keepD m c r ((by decide : ∀ r ∈ args, r ∉ wD) r h)).trans (arg6 m c r h))
theorem arg10 (r : Ref sig .tc) (h : r ∈ args) : V10 m c (dr r) = m (c, dr r) :=
  (keep4 m c r ((by decide : ∀ r ∈ args, ∀ w, Pipeline.arrRef cfg4.spec w = r → (cfg4.win w).isOut = false) r h)).trans
    ((keepE m c r ((by decide : ∀ r ∈ args, r ∉ wE) r h)).trans (arg8 m c r h))

/-- Words, types' embeddings and the table of counts, kept while the layers run. -/
theorem v2_5 : V5 m c (dr main_v2) = V1 m c (dr main_v2) :=
  (keepC m c _ (by decide)).trans ((keep1 m c _ (by decide)).trans (keepB m c _ (by decide) (by decide)))
theorem v5_5 : V5 m c (dr main_v5) = V1 m c (dr main_v5) :=
  (keepC m c _ (by decide)).trans ((keep1 m c _ (by decide)).trans (keepB m c _ (by decide) (by decide)))
theorem v3_5 : V5 m c (dr main_v3) = V1 m c (dr main_v3) :=
  (keepC m c _ (by decide)).trans ((keep1 m c _ (by decide)).trans (keepB m c _ (by decide) (by decide)))
theorem v3_7 : V7 m c (dr main_v3) = V5 m c (dr main_v3) := (keepD m c _ (by decide)).trans (keep2 m c _ (by decide))
theorem v3_9 : V9 m c (dr main_v3) = V7 m c (dr main_v3) := (keepE m c _ (by decide)).trans (keep3 m c _ (by decide))
theorem v9_5 : V5 m c (dr main_v9) = V4 m c (dr main_v9) := keepC m c _ (by decide)
theorem v9_7 : V7 m c (dr main_v9) = V5 m c (dr main_v9) := (keepD m c _ (by decide)).trans (keep2 m c _ (by decide))
theorem v9_9 : V9 m c (dr main_v9) = V7 m c (dr main_v9) := (keepE m c _ (by decide)).trans (keep3 m c _ (by decide))

/-! ## What the layers leave -/

theorem v14_0_7 : V7 m c (dr main_v14_0) = (Layer0.dat (V5 m) c).arrAt 8 cfg2.N := by
  refine (keepD m c _ (by decide)).trans ?_
  unfold V6
  exact Pipeline.afterRegion_arr (Layer0.dat (V5 m) c) (V5 m c) (by decide) 8
theorem v14_1_7 : V7 m c (dr main_v14_1) = (Layer0.dat (V5 m) c).arrAt 9 cfg2.N := by
  refine (keepD m c _ (by decide)).trans ?_
  unfold V6
  exact Pipeline.afterRegion_arr (Layer0.dat (V5 m) c) (V5 m c) (by decide) 9
theorem v21_0_9 : V9 m c (dr main_v21_0) = (Layer1.dat (V7 m) c).arrAt 10 cfg3.N := by
  refine (keepE m c _ (by decide)).trans ?_
  unfold V8
  exact Pipeline.afterRegion_arr (Layer1.dat (V7 m) c) (V7 m c) (by decide) 10
theorem v21_1_9 : V9 m c (dr main_v21_1) = (Layer1.dat (V7 m) c).arrAt 11 cfg3.N := by
  refine (keepE m c _ (by decide)).trans ?_
  unfold V8
  exact Pipeline.afterRegion_arr (Layer1.dat (V7 m) c) (V7 m c) (by decide) 11
theorem v28_0_10 : V10 m c (dr main_v28_0) = (Layer2.dat (V9 m) c).arrAt 10 cfg4.N := by
  unfold V10
  exact Pipeline.afterRegion_arr (Layer2.dat (V9 m) c) (V9 m c) (by decide) 10
theorem v28_1_10 : V10 m c (dr main_v28_1) = (Layer2.dat (V9 m) c).arrAt 11 cfg4.N := by
  unfold V10
  exact Pipeline.afterRegion_arr (Layer2.dat (V9 m) c) (V9 m c) (by decide) 11

/-! ## The words, blocked -/

theorem blocked (x : IVec S102400 32) (T : Fin 25) (r : Fin 4096) : shapeCast S25x1x4096 x shapeCasts_S102400_S25x1x4096 (ix3 T 0 r) = at1 x (4096 * T.val + r.val) := by
  have hT := T.isLt
  have hr := r.isLt
  rw [shapeCast_apply _ _ _ (fun a => ⟨4096 * T.val + r.val, by rw [Fin.eq_zero a]; show 4096 * T.val + r.val < 102400; omega⟩ : S102400.Idx)]
  · exact (at1_val x _).symm
  · rw [Shape.rowMajor_val_one, Shape.rowMajor_val_three]
    show 4096 * T.val + r.val = (T.val * 1 + 0) * 4096 + r.val
    omega

theorem types_in (T : Fin 25) (r : Fin 4096) (n : Fin 100000) (hn : n.val = 4096 * T.val + r.val) :
    V5 m c (dr main_v2) (ix3 T 0 r) = at1 (m (c, dr main_arg0)) n.val := by
  rw [v2_5]
  have e : V1 m c (dr main_v2) = shapeCast S25x1x4096 (pad S102400 ![0] ![2400] ![0] (m (c, dr main_arg0)) (constantI S_ 32 4294967295#32) pads_S100000_S102400_024000 h_S_) shapeCasts_S102400_S25x1x4096 := by
    unfold_abbrev_sides
    after_results <;> rfl
  rw [e, blocked, ← hn]
  exact Words.at1_pad_in _ _ _ _ _ n.isLt

theorem graphs_word (T : Fin 25) (r : Fin 4096) : V5 m c (dr main_v3) (ix3 T 0 r)
    = at1 (pad S102400 ![0] ![2400] ![0] (m (c, dr main_arg1)) (constantI S_ 32 512#32) pads_S100000_S102400_024000 h_S_) (4096 * T.val + r.val) := by
  rw [v3_5]
  have e : V1 m c (dr main_v3) = shapeCast S25x1x4096 (pad S102400 ![0] ![2400] ![0] (m (c, dr main_arg1)) (constantI S_ 32 512#32) pads_S100000_S102400_024000 h_S_) shapeCasts_S102400_S25x1x4096 := by
    unfold_abbrev_sides
    after_results <;> rfl
  rw [e, blocked]

/-! ## The table of counts -/

theorem table_eq : V3 m c (dr main_v8) = shapeCast S16384x144 (given m c).out shapeCasts_S2359296_S16384x144 := by
  have e : V2 m c (dr main_v7) = (given m c).out := Function.update_self _ _ _
  rw [← e]
  show StableHlo.after hostB (V2 m c) (dr main_v8) = _
  generalize V2 m c = X
  after_results <;> rfl

theorem result_eq : V4 m c (dr main_v9) = Hsum.acc (V3 m) c 31 (by rw [Hsum.N32]; decide) :=
  (Pipeline.afterRegion_arr (Hsum.dat (V3 m) c) (V3 m c) (by decide) 1).trans (Hsum.final (V3 m) c)

end

/-! ## At exact reals -/

section
variable (m : (ℓ : Loc nD τ sig) → Buf (Elt Idealize.ShloMosaic.Ideal) ℓ) (c : Dev nD)

/-- The types' embeddings: the argument's rows. -/
theorem emb_at (v : Fin 144) (v' : Fin 143) (h : v.val = v'.val) (j : Fin 128) : (V5 m c (dr main_v5) (ix2 v j) : EReal) = m (c, dr main_arg2) (ix2 v' j) := by
  rw [v5_5]
  have e : V1 m c (dr main_v5) = truncf .bf16 (pad S144x128 ![0, 0] ![1, 0] ![0, 0] (m (c, dr main_arg2)) (sitofp .f32 (constantI S_ 32 0#32) : FVec Idealize.ShloMosaic.Ideal S_ .f32) pads_S143x128_S144x128_010_000 h_S_) bitsLt_bf16_f32 := by
    unfold_abbrev_sides
    after_results <;> rfl
  rw [e]
  refine pad_apply_of_inside ![0, 0] ![1, 0] ![0, 0] (m (c, dr main_arg2)) _ pads_S143x128_S144x128_010_000 h_S_ (ix2 v j) (ix2 v' j) (fun a => ?_)
  match a with
  | ⟨0, _⟩ => show v.val = 0 + v'.val * (0 + 1); omega
  | ⟨1, _⟩ => show j.val = 0 + j.val * (0 + 1); omega

/-- A bias as a row. -/
theorem row_128 (x : S128.Idx → Idealize.ShloMosaic.Ideal .f32) (k : Fin 128) : shapeCast S1x128 x shapeCasts_S128_S1x128 (ix2 0 k) = x (ix1 k) := by
  refine shapeCast_apply _ _ _ _ ?_
  rw [Shape.rowMajor_val_one, Shape.rowMajor_val_two]
  show k.val = 0 * 128 + k.val
  omega
theorem row_256 (x : S256.Idx → Idealize.ShloMosaic.Ideal .f32) (k : Fin 256) : shapeCast S1x256 x shapeCasts_S256_S1x256 (ix2 0 k) = x (ix1 k) := by
  refine shapeCast_apply _ _ _ _ ?_
  rw [Shape.rowMajor_val_one, Shape.rowMajor_val_two]
  show k.val = 0 * 256 + k.val
  omega

theorem v10_at (j : Fin 128) (k : Fin 128) : (V5 m c (dr main_v10) (ix2 j k) : EReal) = m (c, dr main_arg3) (ix2 j k) := by
  have e : V5 m c (dr main_v10) = (truncf .bf16 (V4 m c (dr main_arg3) : FVec Idealize.ShloMosaic.Ideal S128x128 .f32) bitsLt_bf16_f32 : FVec Idealize.ShloMosaic.Ideal S128x128 .bf16) := by
    show StableHlo.after hostC (V4 m c) (dr main_v10) = _
    generalize V4 m c = X
    after_results <;> rfl
  rw [e, arg4 m c main_arg3 (by decide)]
  rfl

theorem v11_at (k : Fin 128) : (V5 m c (dr main_v11) (ix2 0 k) : EReal) = m (c, dr main_arg4) (ix1 k) := by
  have e : V5 m c (dr main_v11) = shapeCast S1x128 (V4 m c (dr main_arg4)) shapeCasts_S128_S1x128 := by
    show StableHlo.after hostC (V4 m c) (dr main_v11) = _
    generalize V4 m c = X
    after_results <;> rfl
  rw [e, arg4 m c main_arg4 (by decide)]
  exact row_128 _ k

theorem v12_at (j : Fin 128) (k : Fin 256) : (V5 m c (dr main_v12) (ix2 j k) : EReal) = m (c, dr main_arg5) (ix2 j k) := by
  have e : V5 m c (dr main_v12) = (truncf .bf16 (V4 m c (dr main_arg5) : FVec Idealize.ShloMosaic.Ideal S128x256 .f32) bitsLt_bf16_f32 : FVec Idealize.ShloMosaic.Ideal S128x256 .bf16) := by
    show StableHlo.after hostC (V4 m c) (dr main_v12) = _
    generalize V4 m c = X
    after_results <;> rfl
  rw [e, arg4 m c main_arg5 (by decide)]
  rfl

theorem v13_at (k : Fin 256) : (V5 m c (dr main_v13) (ix2 0 k) : EReal) = m (c, dr main_arg6) (ix1 k) := by
  have e : V5 m c (dr main_v13) = shapeCast S1x256 (V4 m c (dr main_arg6)) shapeCasts_S256_S1x256 := by
    show StableHlo.after hostC (V4 m c) (dr main_v13) = _
    generalize V4 m c = X
    after_results <;> rfl
  rw [e, arg4 m c main_arg6 (by decide)]
  exact row_256 _ k

theorem v15_at (j : Fin 128) (k : Fin 256) : (V7 m c (dr main_v15) (ix2 j k) : EReal) = m (c, dr main_arg5) (ix2 j k) := by
  have e : V7 m c (dr main_v15) = (truncf .bf16 (V6 m c (dr main_arg5) : FVec Idealize.ShloMosaic.Ideal S128x256 .f32) bitsLt_bf16_f32 : FVec Idealize.ShloMosaic.Ideal S128x256 .bf16) := by
    show StableHlo.after hostD (V6 m c) (dr main_v15) = _
    generalize V6 m c = X
    after_results <;> rfl
  rw [e, arg6 m c main_arg5 (by decide)]
  rfl

theorem v16_at (k : Fin 256) : (V7 m c (dr main_v16) (ix2 0 k) : EReal) = m (c, dr main_arg6) (ix1 k) := by
  have e : V7 m c (dr main_v16) = shapeCast S1x256 (V6 m c (dr main_arg6)) shapeCasts_S256_S1x256 := by
    show StableHlo.after hostD (V6 m c) (dr main_v16) = _
    generalize V6 m c = X
    after_results <;> rfl
  rw [e, arg6 m c main_arg6 (by decide)]
  exact row_256 _ k

theorem v17_at (j : Fin 256) (k : Fin 256) : (V7 m c (dr main_v17) (ix2 j k) : EReal) = m (c, dr main_arg7) (ix2 j k) := by
  have e : V7 m c (dr main_v17) = (truncf .bf16 (V6 m c (dr main_arg7) : FVec Idealize.ShloMosaic.Ideal S256x256 .f32) bitsLt_bf16_f32 : FVec Idealize.ShloMosaic.Ideal S256x256 .bf16) := by
    show StableHlo.after hostD (V6 m c) (dr main_v17) = _
    generalize V6 m c = X
    after_results <;> rfl
  rw [e, arg6 m c main_arg7 (by decide)]
  rfl

theorem v18_at (k : Fin 256) : (V7 m c (dr main_v18) (ix2 0 k) : EReal) = m (c, dr main_arg8) (ix1 k) := by
  have e : V7 m c (dr main_v18) = shapeCast S1x256 (V6 m c (dr main_arg8)) shapeCasts_S256_S1x256 := by
    show StableHlo.after hostD (V6 m c) (dr main_v18) = _
    generalize V6 m c = X
    after_results <;> rfl
  rw [e, arg6 m c main_arg8 (by decide)]
  exact row_256 _ k

theorem v19_at (j : Fin 256) (k : Fin 256) : (V7 m c (dr main_v19) (ix2 j k) : EReal) = m (c, dr main_arg9) (ix2 j k) := by
  have e : V7 m c (dr main_v19) = (truncf .bf16 (V6 m c (dr main_arg9) : FVec Idealize.ShloMosaic.Ideal S256x256 .f32) bitsLt_bf16_f32 : FVec Idealize.ShloMosaic.Ideal S256x256 .bf16) := by
    show StableHlo.after hostD (V6 m c) (dr main_v19) = _
    generalize V6 m c = X
    after_results <;> rfl
  rw [e, arg6 m c main_arg9 (by decide)]
  rfl

theorem v20_at (k : Fin 256) : (V7 m c (dr main_v20) (ix2 0 k) : EReal) = m (c, dr main_arg10) (ix1 k) := by
  have e : V7 m c (dr main_v20) = shapeCast S1x256 (V6 m c (dr main_arg10)) shapeCasts_S256_S1x256 := by
    show StableHlo.after hostD (V6 m c) (dr main_v20) = _
    generalize V6 m c = X
    after_results <;> rfl
  rw [e, arg6 m c main_arg10 (by decide)]
  exact row_256 _ k

theorem v24_at (j : Fin 256) (k : Fin 256) : (V9 m c (dr main_v24) (ix2 j k) : EReal) = m (c, dr main_arg11) (ix2 j k) := by
  have e : V9 m c (dr main_v24) = (truncf .bf16 (V8 m c (dr main_arg11) : FVec Idealize.ShloMosaic.Ideal S256x256 .f32) bitsLt_bf16_f32 : FVec Idealize.ShloMosaic.Ideal S256x256 .bf16) := by
    show StableHlo.after hostE (V8 m c) (dr main_v24) = _
    generalize V8 m c = X
    after_results <;> rfl
  rw [e, arg8 m c main_arg11 (by decide)]
  rfl

theorem v25_at (k : Fin 256) : (V9 m c (dr main_v25) (ix2 0 k) : EReal) = m (c, dr main_arg12) (ix1 k) := by
  have e : V9 m c (dr main_v25) = shapeCast S1x256 (V8 m c (dr main_arg12)) shapeCasts_S256_S1x256 := by
    show StableHlo.after hostE (V8 m c) (dr main_v25) = _
    generalize V8 m c = X
    after_results <;> rfl
  rw [e, arg8 m c main_arg12 (by decide)]
  exact row_256 _ k

theorem v26_at (j : Fin 256) (k : Fin 256) : (V9 m c (dr main_v26) (ix2 j k) : EReal) = m (c, dr main_arg13) (ix2 j k) := by
  have e : V9 m c (dr main_v26) = (truncf .bf16 (V8 m c (dr main_arg13) : FVec Idealize.ShloMosaic.Ideal S256x256 .f32) bitsLt_bf16_f32 : FVec Idealize.ShloMosaic.Ideal S256x256 .bf16) := by
    show StableHlo.after hostE (V8 m c) (dr main_v26) = _
    generalize V8 m c = X
    after_results <;> rfl
  rw [e, arg8 m c main_arg13 (by decide)]
  rfl

theorem v27_at (k : Fin 256) : (V9 m c (dr main_v27) (ix2 0 k) : EReal) = m (c, dr main_arg14) (ix1 k) := by
  have e : V9 m c (dr main_v27) = shapeCast S1x256 (V8 m c (dr main_arg14)) shapeCasts_S256_S1x256 := by
    show StableHlo.after hostE (V8 m c) (dr main_v27) = _
    generalize V8 m c = X
    after_results <;> rfl
  rw [e, arg8 m c main_arg14 (by decide)]
  exact row_256 _ k

end

end Cert.Proof.Reads

end
-- ==== Proof.Arr.lean ====
/-
  The three layers' operands, read off the arrays they are cut from, and their first results as whole arrays.
-/
module

public import proofs.«01_k».proof.Proof.Layer0
public import proofs.«01_k».proof.Proof.Layer1
public import proofs.«01_k».proof.Proof.Layer2
public import Idealize.ShloMosaic.Lib.Pointwise

@[expose] public section

set_option maxRecDepth 16384

noncomputable section

namespace Cert.Proof.Layer0

open Cert.KernelIdeal Cert.KernelIdeal.Gen Cert.Proof.Sc
open Idealize.ShloMosaic Idealize.ShloMosaic.TcCoe

variable {F : FTy → Type} [FloatOps F] (W : Dev nD → Valuation τ sig (Elt F)) (c : Dev nD)

theorem index_0 : ∀ t : Fin cfg2.N, (cfg2.win 0).index t 0 = t.val ∧ (cfg2.win 0).index t 1 = 0 ∧ (cfg2.win 0).index t 2 = 0 := by decide +kernel
theorem b0_at (t : Fin cfg2.N) (T : Fin 25) (hT : T.val = t.val) (r : Fin 4096) : b0 W c t (ix3 0 0 r) = W c (Proc.devRef .tc main_v2) (ix3 T 0 r) := by
  have h := index_0 t
  unfold b0 blkAt
  blk_ext [h.1, h.2.1, h.2.2]

theorem index_1 : ∀ t : Fin cfg2.N, (cfg2.win 1).index t 0 = t.val ∧ (cfg2.win 1).index t 1 = 0 ∧ (cfg2.win 1).index t 2 = 0 := by decide +kernel
theorem b1_at (t : Fin cfg2.N) (T : Fin 25) (hT : T.val = t.val) (r : Fin 4096) : b1 W c t (ix3 0 0 r) = W c (Proc.devRef .tc main_v3) (ix3 T 0 r) := by
  have h := index_1 t
  unfold b1 blkAt
  blk_ext [h.1, h.2.1, h.2.2]

theorem index_2 : ∀ t : Fin cfg2.N, (cfg2.win 2).index t 0 = 0 ∧ (cfg2.win 2).index t 1 = 0 := by decide +kernel
theorem b2_eq (t : Fin cfg2.N) : b2 W c t = W c (Proc.devRef .tc main_v9) := by
  have h := index_2 t
  funext j
  unfold b2 blkAt
  blk_ext [h.1, h.2]

theorem index_3 : ∀ t : Fin cfg2.N, (cfg2.win 3).index t 0 = 0 ∧ (cfg2.win 3).index t 1 = 0 := by decide +kernel
theorem b3_eq (t : Fin cfg2.N) : b3 W c t = W c (Proc.devRef .tc main_v5) := by
  have h := index_3 t
  funext j
  unfold b3 blkAt
  blk_ext [h.1, h.2]

theorem index_4 : ∀ t : Fin cfg2.N, (cfg2.win 4).index t 0 = 0 ∧ (cfg2.win 4).index t 1 = 0 := by decide +kernel
theorem b4_eq (t : Fin cfg2.N) : b4 W c t = W c (Proc.devRef .tc main_v10) := by
  have h := index_4 t
  funext j
  unfold b4 blkAt
  blk_ext [h.1, h.2]

theorem index_5 : ∀ t : Fin cfg2.N, (cfg2.win 5).index t 0 = 0 ∧ (cfg2.win 5).index t 1 = 0 := by decide +kernel
theorem b5_eq (t : Fin cfg2.N) : b5 W c t = W c (Proc.devRef .tc main_v11) := by
  have h := index_5 t
  funext j
  unfold b5 blkAt
  blk_ext [h.1, h.2]

theorem index_6 : ∀ t : Fin cfg2.N, (cfg2.win 6).index t 0 = 0 ∧ (cfg2.win 6).index t 1 = 0 := by decide +kernel
theorem b6_eq (t : Fin cfg2.N) : b6 W c t = W c (Proc.devRef .tc main_v12) := by
  have h := index_6 t
  funext j
  unfold b6 blkAt
  blk_ext [h.1, h.2]

theorem index_7 : ∀ t : Fin cfg2.N, (cfg2.win 7).index t 0 = 0 ∧ (cfg2.win 7).index t 1 = 0 := by decide +kernel
theorem b7_eq (t : Fin cfg2.N) : b7 W c t = W c (Proc.devRef .tc main_v13) := by
  have h := index_7 t
  funext j
  unfold b7 blkAt
  blk_ext [h.1, h.2]

theorem index_8 : ∀ t : Fin cfg2.N, (cfg2.win 8).index t 0 = t.val ∧ (cfg2.win 8).index t 1 = 0 := by decide +kernel

/-- The first result: block `t` holds point `t`'s. -/
theorem final_out (G : Vec F S102400x256 .bf16)
    (hG : ∀ (t : Fin cfg2.N) (r : Fin 4096) (q : Fin 102400) (_ : q.val = 4096 * t.val + r.val) (p : Fin 256), out W c t (ix2 r p) = G (ix2 q p)) :
    (dat W c).arrAt 8 cfg2.N = G := by
  refine (dat W c).arrAt_eq_of_covers 8 _ (by decide +kernel) fun t hf y => ?_
  have h := index_8 t
  have h0 : (((((cfg2.win 8).blk t).view.emb y : S102400x256.Idx) 0).val : ℕ) = 4096 * t.val + (y 0).val := by
    refine ((cfg2.win 8).rect_emb_val t y 0).trans ?_
    rw [h.1]
    show t.val * 4096 + (y 0).val = _
    omega
  have h1 : (((((cfg2.win 8).blk t).view.emb y : S102400x256.Idx) 1).val : ℕ) = (y 1).val := by
    refine ((cfg2.win 8).rect_emb_val t y 1).trans ?_
    rw [h.2]
    show 0 * 256 + (y 1).val = _
    omega
  blk_simp
  rw [after_8]
  have key := hG t (((cfg2.win 8).xinj (cfg2.grid.coords t) y : S4096x256.Idx) 0) (((cfg2.win 8).blk t).view.emb y 0) h0 (((cfg2.win 8).blk t).view.emb y 1)
  have e1 := eq_ix2 (((cfg2.win 8).blk t).view.emb y : S102400x256.Idx)
  have e2 : ((cfg2.win 8).xinj (cfg2.grid.coords t) y : S4096x256.Idx) = ix2 (((cfg2.win 8).xinj (cfg2.grid.coords t) y : S4096x256.Idx) 0) (((cfg2.win 8).blk t).view.emb y 1) := by
    funext a
    match a with
    | ⟨0, _⟩ => rfl
    | ⟨1, _⟩ => exact Fin.ext h1.symm
  exact (congrArg (out W c t) e2).trans (key.trans (congrArg G e1.symm))

end Cert.Proof.Layer0

namespace Cert.Proof.Layer1

open Cert.KernelIdeal Cert.KernelIdeal.Gen Cert.Proof.Sc
open Idealize.ShloMosaic Idealize.ShloMosaic.TcCoe

variable {F : FTy → Type} [FloatOps F] (W : Dev nD → Valuation τ sig (Elt F)) (c : Dev nD)

theorem index_1 : ∀ t : Fin cfg3.N, (cfg3.win 1).index t 0 = t.val ∧ (cfg3.win 1).index t 1 = 0 ∧ (cfg3.win 1).index t 2 = 0 := by decide +kernel
theorem b1_at (t : Fin cfg3.N) (T : Fin 25) (hT : T.val = t.val) (r : Fin 4096) : b1 W c t (ix3 0 0 r) = W c (Proc.devRef .tc main_v3) (ix3 T 0 r) := by
  have h := index_1 t
  unfold b1 blkAt
  blk_ext [h.1, h.2.1, h.2.2]

theorem index_0 : ∀ t : Fin cfg3.N, (cfg3.win 0).index t 0 = t.val ∧ (cfg3.win 0).index t 1 = 0 := by decide +kernel
theorem b0_at (t : Fin cfg3.N) (r : Fin 4096) (q : Fin 102400) (hq : q.val = 4096 * t.val + r.val) (j : Fin 256) :
    b0 W c t (ix2 r j) = W c (Proc.devRef .tc main_v14_0) (ix2 q j) := by
  have h := index_0 t
  unfold b0 blkAt
  blk_ext [h.1, h.2]

theorem index_2 : ∀ t : Fin cfg3.N, (cfg3.win 2).index t 0 = 0 ∧ (cfg3.win 2).index t 1 = 0 := by decide +kernel
theorem b2_eq (t : Fin cfg3.N) : b2 W c t = W c (Proc.devRef .tc main_v9) := by
  have h := index_2 t
  funext j
  unfold b2 blkAt
  blk_ext [h.1, h.2]

theorem index_3 : ∀ t : Fin cfg3.N, (cfg3.win 3).index t 0 = 0 ∧ (cfg3.win 3).index t 1 = 0 := by decide +kernel
theorem b3_eq (t : Fin cfg3.N) : b3 W c t = W c (Proc.devRef .tc main_v14_1) := by
  have h := index_3 t
  funext j
  unfold b3 blkAt
  blk_ext [h.1, h.2]

theorem index_4 : ∀ t : Fin cfg3.N, (cfg3.win 4).index t 0 = 0 ∧ (cfg3.win 4).index t 1 = 0 := by decide +kernel
theorem b4_eq (t : Fin cfg3.N) : b4 W c t = W c (Proc.devRef .tc main_v15) := by
  have h := index_4 t
  funext j
  unfold b4 blkAt
  blk_ext [h.1, h.2]

theorem index_5 : ∀ t : Fin cfg3.N, (cfg3.win 5).index t 0 = 0 ∧ (cfg3.win 5).index t 1 = 0 := by decide +kernel
theorem b5_eq (t : Fin cfg3.N) : b5 W c t = W c (Proc.devRef .tc main_v16) := by
  have h := index_5 t
  funext j
  unfold b5 blkAt
  blk_ext [h.1, h.2]

theorem index_6 : ∀ t : Fin cfg3.N, (cfg3.win 6).index t 0 = 0 ∧ (cfg3.win 6).index t 1 = 0 := by decide +kernel
theorem b6_eq (t : Fin cfg3.N) : b6 W c t = W c (Proc.devRef .tc main_v17) := by
  have h := index_6 t
  funext j
  unfold b6 blkAt
  blk_ext [h.1, h.2]

theorem index_7 : ∀ t : Fin cfg3.N, (cfg3.win 7).index t 0 = 0 ∧ (cfg3.win 7).index t 1 = 0 := by decide +kernel
theorem b7_eq (t : Fin cfg3.N) : b7 W c t = W c (Proc.devRef .tc main_v18) := by
  have h := index_7 t
  funext j
  unfold b7 blkAt
  blk_ext [h.1, h.2]

theorem index_8 : ∀ t : Fin cfg3.N, (cfg3.win 8).index t 0 = 0 ∧ (cfg3.win 8).index t 1 = 0 := by decide +kernel
theorem b8_eq (t : Fin cfg3.N) : b8 W c t = W c (Proc.devRef .tc main_v19) := by
  have h := index_8 t
  funext j
  unfold b8 blkAt
  blk_ext [h.1, h.2]

theorem index_9 : ∀ t : Fin cfg3.N, (cfg3.win 9).index t 0 = 0 ∧ (cfg3.win 9).index t 1 = 0 := by decide +kernel
theorem b9_eq (t : Fin cfg3.N) : b9 W c t = W c (Proc.devRef .tc main_v20) := by
  have h := index_9 t
  funext j
  unfold b9 blkAt
  blk_ext [h.1, h.2]

theorem index_10 : ∀ t : Fin cfg3.N, (cfg3.win 10).index t 0 = t.val ∧ (cfg3.win 10).index t 1 = 0 := by decide +kernel

/-- The first result: block `t` holds point `t`'s. -/
theorem final_out (G : Vec F S102400x256 .bf16)
    (hG : ∀ (t : Fin cfg3.N) (r : Fin 4096) (q : Fin 102400) (_ : q.val = 4096 * t.val + r.val) (p : Fin 256), out W c t (ix2 r p) = G (ix2 q p)) :
    (dat W c).arrAt 10 cfg3.N = G := by
  refine (dat W c).arrAt_eq_of_covers 10 _ (by decide +kernel) fun t hf y => ?_
  have h := index_10 t
  have h0 : (((((cfg3.win 10).blk t).view.emb y : S102400x256.Idx) 0).val : ℕ) = 4096 * t.val + (y 0).val := by
    refine ((cfg3.win 10).rect_emb_val t y 0).trans ?_
    rw [h.1]
    show t.val * 4096 + (y 0).val = _
    omega
  have h1 : (((((cfg3.win 10).blk t).view.emb y : S102400x256.Idx) 1).val : ℕ) = (y 1).val := by
    refine ((cfg3.win 10).rect_emb_val t y 1).trans ?_
    rw [h.2]
    show 0 * 256 + (y 1).val = _
    omega
  blk_simp
  rw [after_10]
  have key := hG t (((cfg3.win 10).xinj (cfg3.grid.coords t) y : S4096x256.Idx) 0) (((cfg3.win 10).blk t).view.emb y 0) h0 (((cfg3.win 10).blk t).view.emb y 1)
  have e1 := eq_ix2 (((cfg3.win 10).blk t).view.emb y : S102400x256.Idx)
  have e2 : ((cfg3.win 10).xinj (cfg3.grid.coords t) y : S4096x256.Idx) = ix2 (((cfg3.win 10).xinj (cfg3.grid.coords t) y : S4096x256.Idx) 0) (((cfg3.win 10).blk t).view.emb y 1) := by
    funext a
    match a with
    | ⟨0, _⟩ => rfl
    | ⟨1, _⟩ => exact Fin.ext h1.symm
  exact (congrArg (out W c t) e2).trans (key.trans (congrArg G e1.symm))

end Cert.Proof.Layer1

namespace Cert.Proof.Layer2

open Cert.KernelIdeal Cert.KernelIdeal.Gen Cert.Proof.Sc
open Idealize.ShloMosaic Idealize.ShloMosaic.TcCoe

variable {F : FTy → Type} [FloatOps F] (W : Dev nD → Valuation τ sig (Elt F)) (c : Dev nD)

theorem index_1 : ∀ t : Fin cfg4.N, (cfg4.win 1).index t 0 = t.val ∧ (cfg4.win 1).index t 1 = 0 ∧ (cfg4.win 1).index t 2 = 0 := by decide +kernel
theorem b1_at (t : Fin cfg4.N) (T : Fin 25) (hT : T.val = t.val) (r : Fin 4096) : b1 W c t (ix3 0 0 r) = W c (Proc.devRef .tc main_v3) (ix3 T 0 r) := by
  have h := index_1 t
  unfold b1 blkAt
  blk_ext [h.1, h.2.1, h.2.2]

theorem index_0 : ∀ t : Fin cfg4.N, (cfg4.win 0).index t 0 = t.val ∧ (cfg4.win 0).index t 1 = 0 := by decide +kernel
theorem b0_at (t : Fin cfg4.N) (r : Fin 4096) (q : Fin 102400) (hq : q.val = 4096 * t.val + r.val) (j : Fin 256) :
    b0 W c t (ix2 r j) = W c (Proc.devRef .tc main_v21_0) (ix2 q j) := by
  have h := index_0 t
  unfold b0 blkAt
  blk_ext [h.1, h.2]

theorem index_2 : ∀ t : Fin cfg4.N, (cfg4.win 2).index t 0 = 0 ∧ (cfg4.win 2).index t 1 = 0 := by decide +kernel
theorem b2_eq (t : Fin cfg4.N) : b2 W c t = W c (Proc.devRef .tc main_v9) := by
  have h := index_2 t
  funext j
  unfold b2 blkAt
  blk_ext [h.1, h.2]

theorem index_3 : ∀ t : Fin cfg4.N, (cfg4.win 3).index t 0 = 0 ∧ (cfg4.win 3).index t 1 = 0 := by decide +kernel
theorem b3_eq (t : Fin cfg4.N) : b3 W c t = W c (Proc.devRef .tc main_v21_1) := by
  have h := index_3 t
  funext j
  unfold b3 blkAt
  blk_ext [h.1, h.2]

theorem index_4 : ∀ t : Fin cfg4.N, (cfg4.win 4).index t 0 = 0 ∧ (cfg4.win 4).index t 1 = 0 := by decide +kernel
theorem b4_eq (t : Fin cfg4.N) : b4 W c t = W c (Proc.devRef .tc main_v22) := by
  have h := index_4 t
  funext j
  unfold b4 blkAt
  blk_ext [h.1, h.2]

theorem index_5 : ∀ t : Fin cfg4.N, (cfg4.win 5).index t 0 = 0 ∧ (cfg4.win 5).index t 1 = 0 := by decide +kernel
theorem b5_eq (t : Fin cfg4.N) : b5 W c t = W c (Proc.devRef .tc main_v23) := by
  have h := index_5 t
  funext j
  unfold b5 blkAt
  blk_ext [h.1, h.2]

theorem index_6 : ∀ t : Fin cfg4.N, (cfg4.win 6).index t 0 = 0 ∧ (cfg4.win 6).index t 1 = 0 := by decide +kernel
theorem b6_eq (t : Fin cfg4.N) : b6 W c t = W c (Proc.devRef .tc main_v24) := by
  have h := index_6 t
  funext j
  unfold b6 blkAt
  blk_ext [h.1, h.2]

theorem index_7 : ∀ t : Fin cfg4.N, (cfg4.win 7).index t 0 = 0 ∧ (cfg4.win 7).index t 1 = 0 := by decide +kernel
theorem b7_eq (t : Fin cfg4.N) : b7 W c t = W c (Proc.devRef .tc main_v25) := by
  have h := index_7 t
  funext j
  unfold b7 blkAt
  blk_ext [h.1, h.2]

theorem index_8 : ∀ t : Fin cfg4.N, (cfg4.win 8).index t 0 = 0 ∧ (cfg4.win 8).index t 1 = 0 := by decide +kernel
theorem b8_eq (t : Fin cfg4.N) : b8 W c t = W c (Proc.devRef .tc main_v26) := by
  have h := index_8 t
  funext j
  unfold b8 blkAt
  blk_ext [h.1, h.2]

theorem index_9 : ∀ t : Fin cfg4.N, (cfg4.win 9).index t 0 = 0 ∧ (cfg4.win 9).index t 1 = 0 := by decide +kernel
theorem b9_eq (t : Fin cfg4.N) : b9 W c t = W c (Proc.devRef .tc main_v27) := by
  have h := index_9 t
  funext j
  unfold b9 blkAt
  blk_ext [h.1, h.2]

theorem index_10 : ∀ t : Fin cfg4.N, (cfg4.win 10).index t 0 = t.val ∧ (cfg4.win 10).index t 1 = 0 := by decide +kernel

/-- The first result: block `t` holds point `t`'s. -/
theorem final_out (G : Vec F S100000x256 .f32)
    (hG : ∀ (t : Fin cfg4.N) (r : Fin 4096) (q : Fin 100000) (_ : q.val = 4096 * t.val + r.val) (p : Fin 256), out W c t (ix2 r p) = G (ix2 q p)) :
    (dat W c).arrAt 10 cfg4.N = G := by
  refine (dat W c).arrAt_eq_of_covers 10 _ (by decide +kernel) fun t hf y => ?_
  have h := index_10 t
  have h0 : (((((cfg4.win 10).blk t).view.emb y : S100000x256.Idx) 0).val : ℕ) = 4096 * t.val + (y 0).val := by
    refine ((cfg4.win 10).rect_emb_val t y 0).trans ?_
    rw [h.1]
    show t.val * 4096 + (y 0).val = _
    omega
  have h1 : (((((cfg4.win 10).blk t).view.emb y : S100000x256.Idx) 1).val : ℕ) = (y 1).val := by
    refine ((cfg4.win 10).rect_emb_val t y 1).trans ?_
    rw [h.2]
    show 0 * 256 + (y 1).val = _
    omega
  blk_simp
  rw [after_10]
  have key := hG t (((cfg4.win 10).xinj (cfg4.grid.coords t) y : S4096x256.Idx) 0) (((cfg4.win 10).blk t).view.emb y 0) h0 (((cfg4.win 10).blk t).view.emb y 1)
  have e1 := eq_ix2 (((cfg4.win 10).blk t).view.emb y : S100000x256.Idx)
  have e2 : ((cfg4.win 10).xinj (cfg4.grid.coords t) y : S4096x256.Idx) = ix2 (((cfg4.win 10).xinj (cfg4.grid.coords t) y : S4096x256.Idx) 0) (((cfg4.win 10).blk t).view.emb y 1) := by
    funext a
    match a with
    | ⟨0, _⟩ => rfl
    | ⟨1, _⟩ => exact Fin.ext h1.symm
  exact (congrArg (out W c t) e2).trans (key.trans (congrArg G e1.symm))

end Cert.Proof.Layer2

end
-- ==== Proof.Pay.lean ====
/-
  The kernels' arithmetic at exact reals: each stored value of the three layers, at an index, as sums over the
  operands' elements.
-/
module

public import proofs.«01_k».proof.Proof.Gen.KernelIdeal.Skeleton
public import Idealize.ShloMosaic.Lib.Pointwise

@[expose] public section

set_option maxRecDepth 16384

noncomputable section

namespace Cert.Proof.Pay

open Cert.KernelIdeal Cert.KernelIdeal.Gen
open Idealize.ShloMosaic

local notation "𝕀" => Idealize.ShloMosaic.Ideal

/-- One where a word names the number, zero elsewhere. -/
def oh (w : BitVec 32) (k : ℕ) : EReal := if w = BitVec.ofNat 32 k then 1 else 0

theorem oh_eq (a : BitVec 32) (k : ℕ) :
    (FloatOps.sitofp (F := 𝕀) .f32 (BitVec.setWidth 32 (IntOp.cmpi CmpIPredicate.eq a (BitVec.ofNat 32 k))) : EReal) = oh a k := by
  show ((((BitVec.setWidth 32 (BitVec.ofBool (a == BitVec.ofNat 32 k))).toInt : ℤ) : ℝ) : EReal) = oh a k
  unfold oh
  by_cases h : a = BitVec.ofNat 32 k
  · rw [if_pos h, beq_iff_eq.mpr h]; simp
  · rw [if_neg h, beq_eq_false_iff_ne.mpr h]; simp

theorem oh_eq' (a : BitVec 32) (k : ℕ) :
    (FloatOps.sitofp (F := 𝕀) .f32 (BitVec.setWidth 32 (IntOp.cmpi CmpIPredicate.eq (BitVec.ofNat 32 k) a)) : EReal) = oh a k := by
  rw [← oh_eq]
  congr 2
  unfold IntOp.cmpi
  exact congrArg BitVec.ofBool Bool.beq_comm

theorem oh_zero (w : BitVec 32) (k : ℕ) (h : w ≠ BitVec.ofNat 32 k) : oh w k = 0 := if_neg h
theorem oh_one (w : BitVec 32) (k : ℕ) (h : w = BitVec.ofNat 32 k) : oh w k = 1 := if_pos h

/-! ## The first layer -/

theorem hid0 (u s : Vec 𝕀 S1x1x4096 .i32) (e : Vec 𝕀 S144x128 .bf16) (z : Vec 𝕀 S512x128 .bf16) (r : Fin 4096) (k : Fin 128) :
    (k2_pay7 u s e z (ix2 r k) : EReal) = max (∑ v : Fin 144, oh (u (ix3 0 0 r)) v * e (ix2 v k) + ∑ g : Fin 512, oh (s (ix3 0 0 r)) g * z (ix2 g k)) 0 := by
  pointwise [k2_pay7, k2_pay6]
  simp only [oh_eq]

theorem out0 (u s : Vec 𝕀 S1x1x4096 .i32) (e : Vec 𝕀 S144x128 .bf16) (z : Vec 𝕀 S512x128 .bf16) (wb : Vec 𝕀 S128x256 .bf16) (bb : Vec 𝕀 S1x256 .f32)
    (r : Fin 4096) (p : Fin 256) :
    (k2_pay1 (k2_pay8 u s e z wb bb) (ix2 r p) : EReal) = ∑ k : Fin 128, k2_pay7 u s e z (ix2 r k) * wb (ix2 k p) + bb (ix2 0 p) := by
  pointwise [k2_pay1, k2_pay8]

theorem part0 (s : Vec 𝕀 S1x1x4096 .i32) (h : FVec 𝕀 S4096x128 .bf16) (g : Fin 512) (k : Fin 128) :
    (k2_pay2 (k2_pay6 (F := 𝕀) s) h (ix2 g k) : EReal) = ∑ r : Fin 4096, oh (s (ix3 0 0 r)) g * h (ix2 r k) := by
  pointwise [k2_pay2, k2_pay6]
  simp only [oh_eq']

theorem next0 (s : Vec 𝕀 S1x1x4096 .i32) (h : FVec 𝕀 S4096x128 .bf16) (y : Vec 𝕀 S512x128 .f32) (g : Fin 512) (k : Fin 128) :
    (k2_pay3 (k2_pay6 (F := 𝕀) s) h y (ix2 g k) : EReal) = y (ix2 g k) + ∑ r : Fin 4096, oh (s (ix3 0 0 r)) g * h (ix2 r k) := by
  pointwise [k2_pay3, k2_pay2, k2_pay6]
  simp only [oh_eq']

theorem zt0 (h : Vec 𝕀 S512x144 .f32) (e : Vec 𝕀 S144x128 .bf16) (w : Vec 𝕀 S128x128 .bf16) (b : Vec 𝕀 S1x128 .f32) (g : Fin 512) (k : Fin 128) :
    (k2_pay4 h e w b (ix2 g k) : EReal) = ∑ j : Fin 128, (∑ v : Fin 144, h (ix2 g v) * e (ix2 v j)) * Idealize.ShloMosaic.Ideal.div 1 (max (∑ v : Fin 144, h (ix2 g v)) 1) * w (ix2 j k) + b (ix2 0 k) := by
  pointwise [k2_pay4]

theorem et0 (e : Vec 𝕀 S144x128 .bf16) (w : Vec 𝕀 S128x128 .bf16) (v : Fin 144) (k : Fin 128) :
    (k2_pay5 e w (ix2 v k) : EReal) = ∑ j : Fin 128, e (ix2 v j) * w (ix2 j k) := by
  pointwise [k2_pay5]

/-! ## The second layer -/

theorem out1 (s : Vec 𝕀 S1x1x4096 .i32) (x : Vec 𝕀 S4096x256 .bf16) (wa : Vec 𝕀 S256x256 .bf16) (z : Vec 𝕀 S512x256 .bf16) (wb : Vec 𝕀 S256x256 .bf16)
    (bb : Vec 𝕀 S1x256 .f32) (r : Fin 4096) (p : Fin 256) :
    (k3_pay5 s x wa z wb bb (ix2 r p) : EReal)
      = ∑ k : Fin 256, max (∑ j : Fin 256, x (ix2 r j) * wa (ix2 j k) + ∑ g : Fin 512, oh (s (ix3 0 0 r)) g * z (ix2 g k)) 0 * wb (ix2 k p) + bb (ix2 0 p) := by
  pointwise [k3_pay5, k3_pay4]
  simp only [oh_eq]

theorem part1 (s : Vec 𝕀 S1x1x4096 .i32) (h : FVec 𝕀 S4096x256 .bf16) (g : Fin 512) (k : Fin 256) :
    (k3_pay1 h (k3_pay6 (F := 𝕀) s) k3_pay7 (ix2 g k) : EReal) = ∑ r : Fin 4096, oh (s (ix3 0 0 r)) g * h (ix2 r k) := by
  pointwise [k3_pay1, k3_pay6, k3_pay7, k3_pay4]
  simp only [oh_eq']

theorem next1 (s : Vec 𝕀 S1x1x4096 .i32) (h : FVec 𝕀 S4096x256 .bf16) (y : Vec 𝕀 S512x256 .f32) (g : Fin 512) (k : Fin 256) :
    (k3_pay2 h (k3_pay6 (F := 𝕀) s) k3_pay7 y (ix2 g k) : EReal) = y (ix2 g k) + ∑ r : Fin 4096, oh (s (ix3 0 0 r)) g * h (ix2 r k) := by
  pointwise [k3_pay2, k3_pay1, k3_pay6, k3_pay7, k3_pay4]
  simp only [oh_eq']

theorem zt1 (h : Vec 𝕀 S512x144 .f32) (y : Vec 𝕀 S512x128 .f32) (pw : Vec 𝕀 S128x256 .bf16) (pb : Vec 𝕀 S1x256 .f32) (wa : Vec 𝕀 S256x256 .bf16) (ba : Vec 𝕀 S1x256 .f32)
    (g : Fin 512) (k : Fin 256) :
    (k3_pay3 h y pw pb wa ba (ix2 g k) : EReal)
      = ∑ j : Fin 256, (∑ i : Fin 128, y (ix2 g i) * pw (ix2 i j) + (∑ v : Fin 144, h (ix2 g v)) * pb (ix2 0 j))
          * Idealize.ShloMosaic.Ideal.div 1 (max (∑ v : Fin 144, h (ix2 g v)) 1) * wa (ix2 j k) + ba (ix2 0 k) := by
  pointwise [k3_pay3]

/-! ## The third layer -/

theorem out2 (s : Vec 𝕀 S1x1x4096 .i32) (x : Vec 𝕀 S4096x256 .bf16) (wa : Vec 𝕀 S256x256 .bf16) (z : Vec 𝕀 S512x256 .bf16) (wb : Vec 𝕀 S256x256 .bf16)
    (bb : Vec 𝕀 S1x256 .f32) (r : Fin 4096) (p : Fin 256) :
    (k4_pay5 s x wa z wb bb (ix2 r p) : EReal)
      = ∑ k : Fin 256, max (∑ j : Fin 256, x (ix2 r j) * wa (ix2 j k) + ∑ g : Fin 512, oh (s (ix3 0 0 r)) g * z (ix2 g k)) 0 * wb (ix2 k p) + bb (ix2 0 p) := by
  pointwise [k4_pay5, k4_pay4]
  simp only [oh_eq]

theorem out2' (s : Vec 𝕀 S1x1x4096 .i32) (x : Vec 𝕀 S4096x256 .bf16) (wa : Vec 𝕀 S256x256 .bf16) (z : Vec 𝕀 S512x256 .bf16) (wb : Vec 𝕀 S256x256 .bf16)
    (bb : Vec 𝕀 S1x256 .f32) (r : Fin 4096) (p : Fin 256) :
    (k4_pay6 s x wa z wb bb (ix2 r p) : EReal) = k4_pay5 s x wa z wb bb (ix2 r p) := by
  pointwise [k4_pay6]

theorem part2 (s : Vec 𝕀 S1x1x4096 .i32) (h : FVec 𝕀 S4096x256 .bf16) (g : Fin 512) (k : Fin 256) :
    (k4_pay1 h (k4_pay7 (F := 𝕀) s) k4_pay8 (ix2 g k) : EReal) = ∑ r : Fin 4096, oh (s (ix3 0 0 r)) g * h (ix2 r k) := by
  pointwise [k4_pay1, k4_pay7, k4_pay8, k4_pay4]
  simp only [oh_eq']

theorem next2 (s : Vec 𝕀 S1x1x4096 .i32) (h : FVec 𝕀 S4096x256 .bf16) (y : Vec 𝕀 S512x256 .f32) (g : Fin 512) (k : Fin 256) :
    (k4_pay2 h (k4_pay7 (F := 𝕀) s) k4_pay8 y (ix2 g k) : EReal) = y (ix2 g k) + ∑ r : Fin 4096, oh (s (ix3 0 0 r)) g * h (ix2 r k) := by
  pointwise [k4_pay2, k4_pay1, k4_pay7, k4_pay8, k4_pay4]
  simp only [oh_eq']

theorem zt2 (h : Vec 𝕀 S512x144 .f32) (y : Vec 𝕀 S512x256 .f32) (wa : Vec 𝕀 S256x256 .bf16) (ba : Vec 𝕀 S1x256 .f32) (g : Fin 512) (k : Fin 256) :
    (k4_pay3 h y wa ba (ix2 g k) : EReal)
      = ∑ j : Fin 256, y (ix2 g j) * Idealize.ShloMosaic.Ideal.div 1 (max (∑ v : Fin 144, h (ix2 g v)) 1) * wa (ix2 j k) + ba (ix2 0 k) := by
  pointwise [k4_pay3]

end Cert.Proof.Pay

end
-- ==== Proof.Vals.lean ====
/-
  The three layers' results at exact reals, in the plain terms of a layer's mathematics: the one-hot products collapsed,
  the blocks' sums joined into one over the rows.
-/
module

public import proofs.«01_k».proof.Proof.Arr
public import proofs.«01_k».proof.Proof.Pay
public import proofs.«01_k».proof.Proof.Alg
public import proofs.«01_k».proof.Proof.Count

@[expose] public section

set_option maxRecDepth 16384

noncomputable section

namespace Cert.Proof.Vals

open Cert.KernelIdeal Cert.KernelIdeal.Gen Cert.Proof.Sc
open Idealize.ShloMosaic Idealize.ShloMosaic.TcCoe
open Cert.Proof.Pay (oh oh_zero oh_one)

local notation "𝕀" => Idealize.ShloMosaic.Ideal

/-! ## One-hot rows -/

theorem word_of (w : BitVec 32) (k : ℕ) (h : w.toNat = k) : w = BitVec.ofNat 32 k :=
  BitVec.eq_of_toNat_eq (by rw [BitVec.toNat_ofNat, ← h]; exact (Nat.mod_eq_of_lt w.isLt).symm)
theorem word_ne (w : BitVec 32) (k : ℕ) (hk : k < 2 ^ 32) (h : w.toNat ≠ k) : w ≠ BitVec.ofNat 32 k := fun e =>
  h (by rw [e, BitVec.toNat_ofNat]; exact Nat.mod_eq_of_lt hk)

/-- A one-hot row against a column picks the entry its word names. -/
theorem oh_sum {N : ℕ} (hN : N < 2 ^ 32) (w : BitVec 32) (v : Fin N) (hw : w.toNat = v.val) (f : Fin N → EReal) :
    ∑ k : Fin N, oh w k.val * f k = f v := by
  rw [Finset.sum_eq_single v]
  · rw [oh_one _ _ (word_of w v.val hw), one_mul]
  · intro k _ hk
    rw [oh_zero _ _ (word_ne w k.val (by omega) fun e => hk (Fin.ext (by omega))), zero_mul]
  · exact fun h => absurd (Finset.mem_univ _) h

/-- What row `q` of the padded rows adds to a graph's sum. -/
def flat (s : Fin 100000 → Fin 512) (x : Fin 100000 → EReal) (g : Fin 512) (q : ℕ) : EReal :=
  if hq : q < 100000 then (if s ⟨q, hq⟩ = g then x ⟨q, hq⟩ else 0) else 0

theorem flat_oh (s : Fin 100000 → Fin 512) (x : Fin 100000 → EReal) (g : Fin 512) (q : ℕ) (w : BitVec 32) (X : EReal)
    (hin : ∀ n : Fin 100000, n.val = q → w.toNat = (s n).val ∧ X = x n) (hout : 100000 ≤ q → w = 512#32) : oh w g.val * X = flat s x g q := by
  have hg := g.isLt
  unfold flat
  by_cases hq : q < 100000
  · obtain ⟨h1, h2⟩ := hin ⟨q, hq⟩ rfl
    rw [dif_pos hq]
    by_cases e : s ⟨q, hq⟩ = g
    · rw [if_pos e, oh_one _ _ (word_of w g.val (by rw [h1, e])), one_mul, h2]
    · rw [if_neg e, oh_zero _ _ (word_ne w g.val (by omega) fun e' => e (Fin.ext (by omega))), zero_mul]
  · rw [dif_neg hq, hout (by omega), oh_zero _ _ (word_ne _ g.val (by omega) (by rw [BitVec.toNat_ofNat]; omega)), zero_mul]

/-- The blocks' sums together are the sum over the rows. -/
theorem flat_sum (s : Fin 100000 → Fin 512) (x : Fin 100000 → EReal) (g : Fin 512) :
    ∑ t ∈ Finset.range 25, ∑ r : Fin 4096, flat s x g (4096 * t + r.val) = ∑ n : Fin 100000, if s n = g then x n else 0 := by
  rw [Finset.sum_congr rfl fun t _ => (Finset.sum_range fun r => flat s x g (4096 * t + r)).symm]
  rw [Count.sum_stretches (flat s x g) 4096 25]
  refine (Finset.sum_range_add _ 100000 2400).trans ?_
  rw [Finset.sum_eq_zero (s := Finset.range 2400), add_zero, Finset.sum_range]
  · exact Finset.sum_congr rfl fun n _ => dif_pos n.isLt
  · exact fun k _ => dif_neg (by omega)

/-! ## The arrays all three layers read -/

variable (W : Dev nD → Valuation τ sig (Elt 𝕀)) (c : Dev nD) (s : Fin 100000 → Fin 512) (u : Fin 100000 → Fin 144)

/-- The padded graph words, and the table counting each graph's rows by type. -/
structure Graphs : Prop where
  s_in : ∀ (T : Fin 25) (r : Fin 4096) (n : Fin 100000), n.val = 4096 * T.val + r.val → (W c (Proc.devRef .tc main_v3) (ix3 T 0 r) : BitVec 32).toNat = (s n).val
  s_out : ∀ (T : Fin 25) (r : Fin 4096), 100000 ≤ 4096 * T.val + r.val → (W c (Proc.devRef .tc main_v3) (ix3 T 0 r) : BitVec 32) = 512#32
  table : ∀ (g : Fin 512) (v : Fin 144), (W c (Proc.devRef .tc main_v9) (ix2 g v) : EReal) = ∑ n, if s n = g ∧ u n = v then (1 : EReal) else 0

variable {W c s u}

theorem Graphs.count (G : Graphs W c s u) (g : Fin 512) : Finset.sum (M := EReal) Finset.univ (fun v : Fin 144 => W c (Proc.devRef .tc main_v9) (ix2 g v)) = Alg.cnt s g :=
  (Finset.sum_congr (M := EReal) rfl fun v _ => G.table g v).trans (Alg.cnt_table s u g)

/-! ## Layer 0 -/

section

variable (s) (u)

/-- What layer 0 is entered with: the types, the table of embeddings, the weights. -/
structure In0 (W : Dev nD → Valuation τ sig (Elt 𝕀)) (c : Dev nD) (e : Fin 144 → Fin 128 → EReal) (wa : Fin 128 → Fin 128 → EReal) (ba : Fin 128 → EReal)
    (wb : Fin 128 → Fin 256 → EReal) (bb : Fin 256 → EReal) : Prop where
  graphs : Graphs W c s u
  types : ∀ (T : Fin 25) (r : Fin 4096) (n : Fin 100000), n.val = 4096 * T.val + r.val → (W c (Proc.devRef .tc main_v2) (ix3 T 0 r) : BitVec 32).toNat = (u n).val
  hE : ∀ v j, (W c (Proc.devRef .tc main_v5) (ix2 v j) : EReal) = e v j
  hWa : ∀ j k, (W c (Proc.devRef .tc main_v10) (ix2 j k) : EReal) = wa j k
  hBa : ∀ k, (W c (Proc.devRef .tc main_v11) (ix2 0 k) : EReal) = ba k
  hWb : ∀ j k, (W c (Proc.devRef .tc main_v12) (ix2 j k) : EReal) = wb j k
  hBb : ∀ k, (W c (Proc.devRef .tc main_v13) (ix2 0 k) : EReal) = bb k

variable {s} {u} {e : Fin 144 → Fin 128 → EReal} {wa : Fin 128 → Fin 128 → EReal} {ba : Fin 128 → EReal} {wb : Fin 128 → Fin 256 → EReal} {bb : Fin 256 → EReal}
  (I : In0 s u W c e wa ba wb bb)
include I

/-- The graphs' table: each graph's mean through the first matrix, and the bias. -/
theorem In0.zt_at (g : Fin 512) (k : Fin 128) : (Layer0.zt W c (ix2 g k) : EReal)
    = ∑ j : Fin 128, Alg.seg s (fun n j => e (u n) j) g j * Idealize.ShloMosaic.Ideal.div 1 (max (Alg.cnt s g) 1) * wa j k + ba k := by
  unfold Layer0.zt
  rw [Pay.zt0, Layer0.b2_eq, Layer0.b3_eq, Layer0.b4_eq, Layer0.b5_eq, I.graphs.count, I.hBa]
  refine congrArg (· + ba k : EReal → EReal) (Finset.sum_congr rfl fun j _ => ?_)
  rw [I.hWa, Finset.sum_congr rfl fun v _ => congrArg₂ (· * · : EReal → EReal → EReal) (I.graphs.table g v) (I.hE v j), Alg.seg_table s u e g j]

/-- The types' table: each type's embedding through the first matrix. -/
theorem In0.et_at (v : Fin 144) (k : Fin 128) : (Layer0.et W c (ix2 v k) : EReal) = ∑ j : Fin 128, e v j * wa j k := by
  unfold Layer0.et
  rw [Pay.et0, Layer0.b3_eq, Layer0.b4_eq]
  exact Finset.sum_congr rfl fun j _ => congrArg₂ (· * · : EReal → EReal → EReal) (I.hE v j) (I.hWa j k)

/-- A row of the hidden rows. -/
theorem In0.hid_at (hx : ∀ j, Alg.Unif fun n => e (u n) j) (hw : ∀ j k, Alg.Fin' (wa j k)) (t : Fin cfg2.N) (r : Fin 4096) (n : Fin 100000)
    (hn : n.val = 4096 * t.val + r.val) (k : Fin 128) :
    (k2_pay7 (Layer0.b0 W c t) (Layer0.b1 W c t) (Layer0.et W c) (Layer0.zt W c) (ix2 r k) : EReal) = Alg.hid s (fun n j => e (u n) j) wa ba n k := by
  have hN := Layer0.N25
  have hT : t.val < 25 := by have := t.isLt; omega
  rw [Pay.hid0, Layer0.b0_at W c t ⟨t.val, hT⟩ rfl, Layer0.b1_at W c t ⟨t.val, hT⟩ rfl,
    oh_sum (by norm_num) _ (u n) (I.types ⟨t.val, hT⟩ r n hn), oh_sum (by norm_num) _ (s n) (I.graphs.s_in ⟨t.val, hT⟩ r n hn), I.et_at, I.zt_at]
  exact Alg.khid_eq s (Alg.seg s fun n j => e (u n) j) (fun n j => e (u n) j) wa ba (fun _ _ => rfl) hx hw n k

/-- A row of the result. -/
theorem In0.out_at (hx : ∀ j, Alg.Unif fun n => e (u n) j) (hw : ∀ j k, Alg.Fin' (wa j k)) (t : Fin cfg2.N) (r : Fin 4096) (n : Fin 100000)
    (hn : n.val = 4096 * t.val + r.val) (p : Fin 256) :
    (Layer0.out W c t (ix2 r p) : EReal) = Alg.lin (Alg.hid s (fun n j => e (u n) j) wa ba) wb bb n p := by
  unfold Layer0.out
  rw [Pay.out0, Layer0.b6_eq, Layer0.b7_eq, I.hBb]
  exact congrArg (· + bb p : EReal → EReal) (Finset.sum_congr rfl fun k _ => congrArg₂ (· * · : EReal → EReal → EReal) (I.hid_at hx hw t r n hn k) (I.hWb k p))

/-- The running sums. -/
theorem In0.acc_at (hx : ∀ j, Alg.Unif fun n => e (u n) j) (hw : ∀ j k, Alg.Fin' (wa j k)) (g : Fin 512) (k : Fin 128) (n : ℕ) (h : n < cfg2.N) :
    (Layer0.acc W c n h (ix2 g k) : EReal) = ∑ t ∈ Finset.range (n + 1), ∑ r : Fin 4096, flat s (fun n => Alg.hid s (fun n j => e (u n) j) wa ba n k) g (4096 * t + r.val) := by
  have key : ∀ (t : Fin cfg2.N) (r : Fin 4096), oh (Layer0.b1 W c t (ix3 0 0 r)) g.val * (k2_pay7 (Layer0.b0 W c t) (Layer0.b1 W c t) (Layer0.et W c) (Layer0.zt W c) (ix2 r k) : EReal)
      = flat s (fun n => Alg.hid s (fun n j => e (u n) j) wa ba n k) g (4096 * t.val + r.val) := by
    intro t r
    have hN := Layer0.N25
    have hT : t.val < 25 := by have := t.isLt; omega
    rw [Layer0.b1_at W c t ⟨t.val, hT⟩ rfl]
    exact flat_oh s (fun n => Alg.hid s (fun n j => e (u n) j) wa ba n k) g _ _ _
      (fun n hn => ⟨I.graphs.s_in ⟨t.val, hT⟩ r n hn, I.hid_at hx hw t r n hn k⟩) (I.graphs.s_out ⟨t.val, hT⟩ r)
  induction n with
  | zero =>
    rw [Finset.sum_range_one]
    unfold Layer0.acc
    rw [Pay.part0]
    exact Finset.sum_congr rfl fun r _ => key ⟨0, h⟩ r
  | succ n ih =>
    rw [Finset.sum_range_succ, ← ih (Nat.lt_of_succ_lt h)]
    conv_lhs => unfold Layer0.acc
    rw [Pay.next0]
    exact congrArg (_ + · : EReal → EReal) (Finset.sum_congr rfl fun r _ => key ⟨n + 1, h⟩ r)

/-- The sums by graph at the end. -/
theorem In0.sums_at (hx : ∀ j, Alg.Unif fun n => e (u n) j) (hw : ∀ j k, Alg.Fin' (wa j k)) (g : Fin 512) (k : Fin 128) :
    ((Layer0.dat W c).arrAt 9 cfg2.N (ix2 g k) : EReal) = Alg.seg s (Alg.hid s (fun n j => e (u n) j) wa ba) g k := by
  rw [Layer0.final_acc]
  exact (I.acc_at hx hw g k 24 _).trans (flat_sum s (fun n => Alg.hid s (fun n j => e (u n) j) wa ba n k) g)

/-- The rows at the end. -/
theorem In0.rows_at (hx : ∀ j, Alg.Unif fun n => e (u n) j) (hw : ∀ j k, Alg.Fin' (wa j k)) (q : Fin 102400) (n : Fin 100000) (hq : q.val = n.val) (p : Fin 256) :
    ((Layer0.dat W c).arrAt 8 cfg2.N (ix2 q p) : EReal) = Alg.lin (Alg.hid s (fun n j => e (u n) j) wa ba) wb bb n p := by
  have hN := Layer0.N25
  have hn := n.isLt
  rw [Layer0.final_out W c (fun i => Layer0.out W c ⟨(i 0).val / 4096, by rw [hN]; have : (i 0).val < 102400 := (i 0).isLt; omega⟩
    (ix2 ⟨(i 0).val % 4096, Nat.mod_lt _ (by norm_num)⟩ (i 1 : Fin 256))) ?_]
  · exact I.out_at hx hw ⟨q.val / 4096, by rw [hN]; omega⟩ ⟨q.val % 4096, Nat.mod_lt _ (by norm_num)⟩ n (by show n.val = 4096 * (q.val / 4096) + q.val % 4096; omega) p
  · intro t r q hq p
    have hr := r.isLt
    have e1 : q.val / 4096 = t.val := by omega
    have e2 : q.val % 4096 = r.val := by omega
    show _ = Layer0.out W c ⟨q.val / 4096, _⟩ (ix2 ⟨q.val % 4096, _⟩ p)
    simp only [e1, e2]

end

/-! ## Layer 1 -/

section

variable (s) (u)

/-- What layer 1 is entered with: the last rows and their sums by graph, the weights. -/
structure In1 (W : Dev nD → Valuation τ sig (Elt 𝕀)) (c : Dev nD) (y : Fin 512 → Fin 128 → EReal) (pw : Fin 128 → Fin 256 → EReal) (pb : Fin 256 → EReal) (x : Fin 100000 → Fin 256 → EReal) (wa : Fin 256 → Fin 256 → EReal) (ba : Fin 256 → EReal)
    (wb : Fin 256 → Fin 256 → EReal) (bb : Fin 256 → EReal) : Prop where
  graphs : Graphs W c s u
  hX : ∀ (q : Fin 102400) (n : Fin 100000), q.val = n.val → ∀ j, (W c (Proc.devRef .tc main_v14_0) (ix2 q j) : EReal) = x n j
  hY : ∀ g i, (W c (Proc.devRef .tc main_v14_1) (ix2 g i) : EReal) = y g i
  hPw : ∀ i j, (W c (Proc.devRef .tc main_v15) (ix2 i j) : EReal) = pw i j
  hPb : ∀ j, (W c (Proc.devRef .tc main_v16) (ix2 0 j) : EReal) = pb j
  sums : ∀ g j, ∑ i : Fin 128, y g i * pw i j + Alg.cnt s g * pb j = Alg.seg s x g j
  hWa : ∀ j k, (W c (Proc.devRef .tc main_v17) (ix2 j k) : EReal) = wa j k
  hBa : ∀ k, (W c (Proc.devRef .tc main_v18) (ix2 0 k) : EReal) = ba k
  hWb : ∀ j k, (W c (Proc.devRef .tc main_v19) (ix2 j k) : EReal) = wb j k
  hBb : ∀ k, (W c (Proc.devRef .tc main_v20) (ix2 0 k) : EReal) = bb k

variable {s} {u} {x : Fin 100000 → Fin 256 → EReal} {wa : Fin 256 → Fin 256 → EReal} {ba : Fin 256 → EReal} {wb : Fin 256 → Fin 256 → EReal} {bb : Fin 256 → EReal}
  {y : Fin 512 → Fin 128 → EReal} {pw : Fin 128 → Fin 256 → EReal} {pb : Fin 256 → EReal} (I : In1 s u W c y pw pb x wa ba wb bb)
include I

/-- The graphs' table: each graph's mean through the first matrix, and the bias. -/
theorem In1.zt_at (g : Fin 512) (k : Fin 256) : (Layer1.zt W c (ix2 g k) : EReal)
    = ∑ j : Fin 256, Alg.seg s x g j * Idealize.ShloMosaic.Ideal.div 1 (max (Alg.cnt s g) 1) * wa j k + ba k := by
  unfold Layer1.zt
  rw [Pay.zt1, Layer1.b2_eq, Layer1.b3_eq, Layer1.b4_eq, Layer1.b5_eq, Layer1.b6_eq, Layer1.b7_eq, I.graphs.count, I.hBa]
  refine congrArg (· + ba k : EReal → EReal) (Finset.sum_congr rfl fun j _ => ?_)
  rw [I.hWa, I.hPb, Finset.sum_congr rfl fun i _ => congrArg₂ (· * · : EReal → EReal → EReal) (I.hY g i) (I.hPw i j), I.sums]

/-- A row of the result. -/
theorem In1.out_at (hx : ∀ j, Alg.Unif fun n => x n j) (hw : ∀ j k, Alg.Fin' (wa j k)) (t : Fin cfg3.N) (r : Fin 4096) (n : Fin 100000)
    (hn : n.val = 4096 * t.val + r.val) (p : Fin 256) :
    (Layer1.out W c t (ix2 r p) : EReal) = Alg.lin (Alg.hid s x wa ba) wb bb n p := by
  have hN := Layer1.N25
  have hT : t.val < 25 := by have := t.isLt; omega
  unfold Layer1.out
  rw [Pay.out1, Layer1.b6_eq, Layer1.b8_eq, Layer1.b9_eq, I.hBb]
  refine congrArg (· + bb p : EReal → EReal) (Finset.sum_congr rfl fun k _ => congrArg₂ (· * · : EReal → EReal → EReal) ?_ (I.hWb k p))
  rw [Layer1.b1_at W c t ⟨t.val, hT⟩ rfl, oh_sum (by norm_num) _ (s n) (I.graphs.s_in ⟨t.val, hT⟩ r n hn), I.zt_at,
    Finset.sum_congr rfl fun j _ => congrArg₂ (· * · : EReal → EReal → EReal)
      ((Layer1.b0_at W c t r ⟨4096 * t.val + r.val, by omega⟩ rfl j).trans (I.hX ⟨4096 * t.val + r.val, by omega⟩ n hn.symm j)) (I.hWa j k)]
  exact Alg.khid_eq s (Alg.seg s x) x wa ba (fun _ _ => rfl) hx hw n k

/-- The running sums. -/
theorem In1.acc_at (hx : ∀ j, Alg.Unif fun n => x n j) (hw : ∀ j k, Alg.Fin' (wa j k)) (g : Fin 512) (k : Fin 256) (n : ℕ) (h : n < cfg3.N) :
    (Layer1.acc W c n h (ix2 g k) : EReal) = ∑ t ∈ Finset.range (n + 1), ∑ r : Fin 4096, flat s (fun n => Alg.lin (Alg.hid s x wa ba) wb bb n k) g (4096 * t + r.val) := by
  have key : ∀ (t : Fin cfg3.N) (r : Fin 4096), oh (Layer1.b1 W c t (ix3 0 0 r)) g.val * (Layer1.out W c t (ix2 r k) : EReal)
      = flat s (fun n => Alg.lin (Alg.hid s x wa ba) wb bb n k) g (4096 * t.val + r.val) := by
    intro t r
    have hN := Layer1.N25
    have hT : t.val < 25 := by have := t.isLt; omega
    rw [Layer1.b1_at W c t ⟨t.val, hT⟩ rfl]
    exact flat_oh s (fun n => Alg.lin (Alg.hid s x wa ba) wb bb n k) g _ _ _
      (fun n hn => ⟨I.graphs.s_in ⟨t.val, hT⟩ r n hn, I.out_at hx hw t r n hn k⟩) (I.graphs.s_out ⟨t.val, hT⟩ r)
  induction n with
  | zero =>
    rw [Finset.sum_range_one]
    unfold Layer1.acc
    rw [Pay.part1]
    exact Finset.sum_congr rfl fun r _ => key ⟨0, h⟩ r
  | succ n ih =>
    rw [Finset.sum_range_succ, ← ih (Nat.lt_of_succ_lt h)]
    conv_lhs => unfold Layer1.acc
    rw [Pay.next1]
    exact congrArg (_ + · : EReal → EReal) (Finset.sum_congr rfl fun r _ => key ⟨n + 1, h⟩ r)

/-- The sums by graph at the end. -/
theorem In1.sums_at (hx : ∀ j, Alg.Unif fun n => x n j) (hw : ∀ j k, Alg.Fin' (wa j k)) (g : Fin 512) (k : Fin 256) :
    ((Layer1.dat W c).arrAt 11 cfg3.N (ix2 g k) : EReal) = Alg.seg s (Alg.lin (Alg.hid s x wa ba) wb bb) g k := by
  rw [Layer1.final_acc]
  exact (I.acc_at hx hw g k 24 _).trans (flat_sum s (fun n => Alg.lin (Alg.hid s x wa ba) wb bb n k) g)

/-- The rows at the end. -/
theorem In1.rows_at (hx : ∀ j, Alg.Unif fun n => x n j) (hw : ∀ j k, Alg.Fin' (wa j k)) (q : Fin 102400) (n : Fin 100000) (hq : q.val = n.val) (p : Fin 256) :
    ((Layer1.dat W c).arrAt 10 cfg3.N (ix2 q p) : EReal) = Alg.lin (Alg.hid s x wa ba) wb bb n p := by
  have hN := Layer1.N25
  have hn := n.isLt
  rw [Layer1.final_out W c (fun i => Layer1.out W c ⟨(i 0).val / 4096, by rw [hN]; have : (i 0).val < 102400 := (i 0).isLt; omega⟩
    (ix2 ⟨(i 0).val % 4096, Nat.mod_lt _ (by norm_num)⟩ (i 1 : Fin 256))) ?_]
  · exact I.out_at hx hw ⟨q.val / 4096, by rw [hN]; omega⟩ ⟨q.val % 4096, Nat.mod_lt _ (by norm_num)⟩ n (by show n.val = 4096 * (q.val / 4096) + q.val % 4096; omega) p
  · intro t r q hq p
    have hr := r.isLt
    have e1 : q.val / 4096 = t.val := by omega
    have e2 : q.val % 4096 = r.val := by omega
    show _ = Layer1.out W c ⟨q.val / 4096, _⟩ (ix2 ⟨q.val % 4096, _⟩ p)
    simp only [e1, e2]

end

/-! ## Layer 2 -/

section

variable (s) (u)

/-- What layer 2 is entered with: the last rows and their sums by graph, the weights. -/
structure In2 (W : Dev nD → Valuation τ sig (Elt 𝕀)) (c : Dev nD) (x : Fin 100000 → Fin 256 → EReal) (wa : Fin 256 → Fin 256 → EReal) (ba : Fin 256 → EReal)
    (wb : Fin 256 → Fin 256 → EReal) (bb : Fin 256 → EReal) : Prop where
  graphs : Graphs W c s u
  hX : ∀ (q : Fin 102400) (n : Fin 100000), q.val = n.val → ∀ j, (W c (Proc.devRef .tc main_v21_0) (ix2 q j) : EReal) = x n j
  sums : ∀ g j, (W c (Proc.devRef .tc main_v21_1) (ix2 g j) : EReal) = Alg.seg s x g j
  hWa : ∀ j k, (W c (Proc.devRef .tc main_v24) (ix2 j k) : EReal) = wa j k
  hBa : ∀ k, (W c (Proc.devRef .tc main_v25) (ix2 0 k) : EReal) = ba k
  hWb : ∀ j k, (W c (Proc.devRef .tc main_v26) (ix2 j k) : EReal) = wb j k
  hBb : ∀ k, (W c (Proc.devRef .tc main_v27) (ix2 0 k) : EReal) = bb k

variable {s} {u} {x : Fin 100000 → Fin 256 → EReal} {wa : Fin 256 → Fin 256 → EReal} {ba : Fin 256 → EReal} {wb : Fin 256 → Fin 256 → EReal} {bb : Fin 256 → EReal}
  (I : In2 s u W c x wa ba wb bb)
include I

/-- The graphs' table: each graph's mean through the first matrix, and the bias. -/
theorem In2.zt_at (g : Fin 512) (k : Fin 256) : (Layer2.zt W c (ix2 g k) : EReal)
    = ∑ j : Fin 256, Alg.seg s x g j * Idealize.ShloMosaic.Ideal.div 1 (max (Alg.cnt s g) 1) * wa j k + ba k := by
  unfold Layer2.zt
  rw [Pay.zt2, Layer2.b2_eq, Layer2.b3_eq, Layer2.b6_eq, Layer2.b7_eq, I.graphs.count, I.hBa]
  refine congrArg (· + ba k : EReal → EReal) (Finset.sum_congr rfl fun j _ => ?_)
  rw [I.hWa, I.sums]

/-- A row of the result. -/
theorem In2.out_at (hx : ∀ j, Alg.Unif fun n => x n j) (hw : ∀ j k, Alg.Fin' (wa j k)) (t : Fin cfg4.N) (r : Fin 4096) (n : Fin 100000)
    (hn : n.val = 4096 * t.val + r.val) (p : Fin 256) :
    (Layer2.out W c t (ix2 r p) : EReal) = Alg.lin (Alg.hid s x wa ba) wb bb n p := by
  have hN := Layer2.N25
  have hT : t.val < 25 := by have := t.isLt; omega
  unfold Layer2.out
  rw [Pay.out2, Layer2.b6_eq, Layer2.b8_eq, Layer2.b9_eq, I.hBb]
  refine congrArg (· + bb p : EReal → EReal) (Finset.sum_congr rfl fun k _ => congrArg₂ (· * · : EReal → EReal → EReal) ?_ (I.hWb k p))
  rw [Layer2.b1_at W c t ⟨t.val, hT⟩ rfl, oh_sum (by norm_num) _ (s n) (I.graphs.s_in ⟨t.val, hT⟩ r n hn), I.zt_at,
    Finset.sum_congr rfl fun j _ => congrArg₂ (· * · : EReal → EReal → EReal)
      ((Layer2.b0_at W c t r ⟨4096 * t.val + r.val, by omega⟩ rfl j).trans (I.hX ⟨4096 * t.val + r.val, by omega⟩ n hn.symm j)) (I.hWa j k)]
  exact Alg.khid_eq s (Alg.seg s x) x wa ba (fun _ _ => rfl) hx hw n k

/-- The running sums. -/
theorem In2.acc_at (hx : ∀ j, Alg.Unif fun n => x n j) (hw : ∀ j k, Alg.Fin' (wa j k)) (g : Fin 512) (k : Fin 256) (n : ℕ) (h : n < cfg4.N) :
    (Layer2.acc W c n h (ix2 g k) : EReal) = ∑ t ∈ Finset.range (n + 1), ∑ r : Fin 4096, flat s (fun n => Alg.lin (Alg.hid s x wa ba) wb bb n k) g (4096 * t + r.val) := by
  have key : ∀ (t : Fin cfg4.N) (r : Fin 4096), oh (Layer2.b1 W c t (ix3 0 0 r)) g.val * (Layer2.out W c t (ix2 r k) : EReal)
      = flat s (fun n => Alg.lin (Alg.hid s x wa ba) wb bb n k) g (4096 * t.val + r.val) := by
    intro t r
    have hN := Layer2.N25
    have hT : t.val < 25 := by have := t.isLt; omega
    rw [Layer2.b1_at W c t ⟨t.val, hT⟩ rfl]
    exact flat_oh s (fun n => Alg.lin (Alg.hid s x wa ba) wb bb n k) g _ _ _
      (fun n hn => ⟨I.graphs.s_in ⟨t.val, hT⟩ r n hn, I.out_at hx hw t r n hn k⟩) (I.graphs.s_out ⟨t.val, hT⟩ r)
  induction n with
  | zero =>
    rw [Finset.sum_range_one]
    unfold Layer2.acc
    rw [Pay.part2]
    exact Finset.sum_congr rfl fun r _ => (congrArg (_ * · : EReal → EReal) (Pay.out2' _ _ _ _ _ _ r k)).trans (key ⟨0, h⟩ r)
  | succ n ih =>
    rw [Finset.sum_range_succ, ← ih (Nat.lt_of_succ_lt h)]
    conv_lhs => unfold Layer2.acc
    rw [Pay.next2]
    exact congrArg (_ + · : EReal → EReal) (Finset.sum_congr rfl fun r _ => (congrArg (_ * · : EReal → EReal) (Pay.out2' _ _ _ _ _ _ r k)).trans (key ⟨n + 1, h⟩ r))

/-- The sums by graph at the end. -/
theorem In2.sums_at (hx : ∀ j, Alg.Unif fun n => x n j) (hw : ∀ j k, Alg.Fin' (wa j k)) (g : Fin 512) (k : Fin 256) :
    ((Layer2.dat W c).arrAt 11 cfg4.N (ix2 g k) : EReal) = Alg.seg s (Alg.lin (Alg.hid s x wa ba) wb bb) g k := by
  rw [Layer2.final_acc]
  exact (I.acc_at hx hw g k 24 _).trans (flat_sum s (fun n => Alg.lin (Alg.hid s x wa ba) wb bb n k) g)

/-- The rows at the end. -/
theorem In2.rows_at (hx : ∀ j, Alg.Unif fun n => x n j) (hw : ∀ j k, Alg.Fin' (wa j k)) (q : Fin 100000) (n : Fin 100000) (hq : q.val = n.val) (p : Fin 256) :
    ((Layer2.dat W c).arrAt 10 cfg4.N (ix2 q p) : EReal) = Alg.lin (Alg.hid s x wa ba) wb bb n p := by
  have hN := Layer2.N25
  have hn := n.isLt
  rw [Layer2.final_out W c (fun i => Layer2.out W c ⟨(i 0).val / 4096, by rw [hN]; have : (i 0).val < 100000 := (i 0).isLt; omega⟩
    (ix2 ⟨(i 0).val % 4096, Nat.mod_lt _ (by norm_num)⟩ (i 1 : Fin 256))) ?_]
  · exact I.out_at hx hw ⟨q.val / 4096, by rw [hN]; omega⟩ ⟨q.val % 4096, Nat.mod_lt _ (by norm_num)⟩ n (by show n.val = 4096 * (q.val / 4096) + q.val % 4096; omega) p
  · intro t r q hq p
    have hr := r.isLt
    have e1 : q.val / 4096 = t.val := by omega
    have e2 : q.val % 4096 = r.val := by omega
    show _ = Layer2.out W c ⟨q.val / 4096, _⟩ (ix2 ⟨q.val % 4096, _⟩ p)
    simp only [e1, e2]

end

end Cert.Proof.Vals

end
-- ==== Proof.Segsum.lean ====
/-
  A sum of rows by segment at the ideal instance: the scatter with an `add` body whose update `n` is a whole row, added to
  the row its one index word names.
-/
module

public import Idealize.ShloMosaic.Lib.Routing.OpsOne
public import Idealize.ShloMosaic.PureOps.Ideal

@[expose] public section

noncomputable section

namespace Cert.Proof.Segsum

open Idealize.ShloMosaic Idealize.ShloMosaic.ValueIdx Idealize.ShloMosaic.Routing

variable {R C N : Nat}

/-- The dimension numbers of a scatter by rows. -/
abbrev rows (h : ScatterDims.WF (shape2 R C) (shape2 N 1) (shape2 N C) [1] [0] [0] 1) : ScatterDims (shape2 R C) (shape2 N 1) (shape2 N C) :=
  { updateWindowDims := [1], insertedWindowDims := [0], scatterDimsToOperandDims := [0], indexVectorDim := 1, wf := h }

/-- Place `(n, c')` of the updates lands at `(r, c)` exactly when word `n`, read signed, is `r` and the columns agree. -/
theorem lands_row (h : ScatterDims.WF (shape2 R C) (shape2 N 1) (shape2 N C) [1] [0] [0] 1) (idx : IVec (shape2 N 1) 32) (n : Fin N) (c' : Fin C)
    (r : Fin R) (c : Fin C) : (rows h).resultIdx? (ix2 n c') idx = some (ix2 r c) ↔ (idx (ix2 n (0 : Fin 1))).toInt = (r.val : Int) ∧ c' = c := by
  have hwin0 : (rows h).window (ix2 n c') 0 = 0 := rfl
  have hwin1 : (rows h).window (ix2 n c') 1 = c'.val := rfl
  have hstart1 : (rows h).start (ix2 n c') idx 1 = 0 := rfl
  have hstart0 : (rows h).start (ix2 n c') idx 0 = (idx (ix2 n (0 : Fin 1))).toInt := by
    unfold ScatterDims.start
    rw [dif_pos (List.mem_singleton.2 rfl)]
    congr 2
    funext b
    match b with
    | ⟨0, _⟩ => rfl
    | ⟨1, _⟩ => exact Subsingleton.elim (α := Fin 1) _ _
  rw [Fin.ext_iff, resultIdx?_ix2, hstart0, hwin0, hstart1, hwin1]
  omega

/-- The scatter's result at a place: the operand's element plus the updates' elements of that column whose words name the row. -/
theorem scatterAdd_rows (h : ScatterDims.WF (shape2 R C) (shape2 N 1) (shape2 N C) [1] [0] [0] 1) (x : FVec Ideal (shape2 R C) .f32)
    (idx : IVec (shape2 N 1) 32) (u : FVec Ideal (shape2 N C) .f32) (r : Fin R) (c : Fin C) :
    Host.scatterAdd (rows h) x idx u (ix2 r c)
      = (x (ix2 r c) : EReal) + ∑ n : Fin N, if (idx (ix2 n (0 : Fin 1))).toInt = (r.val : Int) then (u (ix2 n c) : EReal) else 0 := by
  show (x (ix2 r c) : EReal) + ∑ j ∈ Finset.univ.filter (fun j => (rows h).resultIdx? j idx = some (ix2 r c)), (u j : EReal) = _
  congr 1
  rw [← Finset.sum_filter]
  refine (Finset.sum_bij (fun n _ => ix2 n c) ?_ ?_ ?_ ?_).symm
  · intro n hn
    rw [Finset.mem_filter] at hn ⊢
    exact ⟨Finset.mem_univ _, (lands_row h idx n c r c).mpr ⟨hn.2, rfl⟩⟩
  · intro a _ b _ e
    exact congrFun e 0
  · intro j hj
    rw [Finset.mem_filter, eq_ix2 j] at hj
    have hl := (lands_row h idx (j 0) (j 1) r c).mp hj.2
    refine ⟨j 0, Finset.mem_filter.mpr ⟨Finset.mem_univ _, hl.1⟩, ?_⟩
    rw [eq_ix2 j]; exact congrArg (ix2 (j 0)) hl.2.symm
  · intro n _; rfl

end Cert.Proof.Segsum

end
-- ==== Proof.Ref.lean ====
/-
  The reference's values, layer by layer, in the plain terms of a layer's mathematics.
-/
module

public import proofs.«01_k».proof.Proof.Gen.ReferenceIdeal.Run
public import proofs.«01_k».proof.Proof.Gen.ReferenceIdeal.Read
public import proofs.«01_k».proof.Proof.Segsum
public import proofs.«01_k».proof.Proof.Words
public import proofs.«01_k».proof.Proof.Alg

@[expose] public section

noncomputable section

namespace Cert.Proof.Ref

open Cert.ReferenceIdeal Cert.ReferenceIdeal.Gen Cert.ReferenceIdeal.Read Cert.Proof.Hist
open Idealize.ShloMosaic hiding ix1 ix2 eq_ix2
open Idealize.ShloMosaic.ValueIdx Idealize.ShloMosaic.Routing
open Cert.Proof.Words (Ok ut sg)

theorem one_bits : (FloatOps.ofBits .f32 0x3F800000#32 : Ideal .f32) = (1 : EReal) := by
  show Ideal.ofBits .f32 0x3F800000#32 = 1
  simp [Ideal.ofBits, Ideal.ieee, -EReal.coe_mul]; norm_num

theorem zero_bits : (FloatOps.ofBits .f32 0x00000000#32 : Ideal .f32) = (0 : EReal) := by
  show Ideal.ofBits .f32 0x00000000#32 = 0
  simp [Ideal.ofBits, Ideal.ieee, -EReal.coe_mul]

theorem at1_ix {N : ℕ} (f : (⟨1, ![N]⟩ : Shape).Idx → BitVec 32) (n : Fin N) (i : (⟨1, ![N]⟩ : Shape).Idx) (h : (i 0).val = n.val) : f i = at1 f n.val := by
  rw [← at1_val f i, h]

/-- An index word that is not negative stays as it is. -/
theorem word_kept (w w' : BitVec 32) (h : w.toNat < 2 ^ 31) : Scalar.select (IntOp.cmpi .slt w 0#32) w' w = w := by
  have e : IntOp.cmpi .slt w 0#32 = 0#1 := by
    simp only [IntOp.cmpi, BitVec.slt_eq_decide, BitVec.toInt_eq_toNat_cond, BitVec.toNat_ofNat]
    rw [if_pos (by omega)]
    have : ¬ ((w.toNat : ℤ) < 0) := by omega
    simp [this]
  rw [e]; rfl

theorem word_eq (w : BitVec 32) (k : ℕ) (h : w.toNat = k) : w = BitVec.ofNat 32 k :=
  BitVec.eq_of_toNat_eq (by rw [BitVec.toNat_ofNat, ← h]; exact (Nat.mod_eq_of_lt w.isLt).symm)

variable {a b : IVec S100000 32}

/-- A segment sum's condition on a row's word, in terms of the row's graph. -/
theorem seg_iff (h : Ok a b) (n : Fin 100000) (g : Fin 512) (w : BitVec 32) (hw : w = at1 b n.val) : w.toInt = (g.val : ℤ) ↔ sg h n = g := by
  have h2 := h.seg n.val n.isLt
  rw [hw, BitVec.toInt_eq_toNat_cond, Fin.ext_iff]
  show _ ↔ (at1 b n.val).toNat = g.val
  omega

/-- A matrix as a function of its two indices, and a vector of its one. -/
abbrev mat {A B : ℕ} (w : FVec Ideal (⟨2, ![A, B]⟩ : Shape) .f32) : Fin A → Fin B → EReal := fun i j => w (ix2 i j)
abbrev vec {A : ℕ} (w : FVec Ideal (⟨1, ![A]⟩ : Shape) .f32) : Fin A → EReal := fun i => w (ix1 i)

/-- The reference's result, by its layers: the rows' embeddings, … -/
def X0 (h : Ok a b) (e : FVec Ideal S143x128 .f32) : Fin 100000 → Fin 128 → EReal := fun n j => e (ix2 (ut h n) j)
/-- … and each layer's hidden rows and rows. -/
def H0 (h : Ok a b) (e : FVec Ideal S143x128 .f32) (w3 : FVec Ideal S128x128 .f32) (b4 : FVec Ideal S128 .f32) : Fin 100000 → Fin 128 → EReal :=
  Alg.hid (sg h) (X0 h e) (mat w3) (vec b4)

def X1 (h : Ok a b) (e : FVec Ideal S143x128 .f32) (w3 : FVec Ideal S128x128 .f32) (b4 : FVec Ideal S128 .f32) (w5 : FVec Ideal S128x256 .f32) (b6 : FVec Ideal S256 .f32) : Fin 100000 → Fin 256 → EReal :=
  Alg.lin (H0 h e w3 b4) (mat w5) (vec b6)
def H1 (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) : Fin 100000 → Fin 256 → EReal :=
  Alg.hid (sg h) (X1 h e w3 b4 w5 b6) (mat w7) (vec b8)
def X2 (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) : Fin 100000 → Fin 256 → EReal :=
  Alg.lin (H1 h e w3 b4 w5 b6 w7 b8) (mat w9) (vec b10)
def H2 (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (w11 : FVec Ideal S256x256 .f32) (b12 : FVec Ideal S256 .f32) : Fin 100000 → Fin 256 → EReal :=
  Alg.hid (sg h) (X2 h e w3 b4 w5 b6 w7 b8 w9 b10) (mat w11) (vec b12)
def X3 (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (w11 : FVec Ideal S256x256 .f32) (b12 : FVec Ideal S256 .f32) (w13 : FVec Ideal S256x256 .f32) (b14 : FVec Ideal S256 .f32) : Fin 100000 → Fin 256 → EReal :=
  Alg.lin (H2 h e w3 b4 w5 b6 w7 b8 w9 b10 w11 b12) (mat w13) (vec b14)

/-! ## The layers' values -/

theorem type_word (h : Ok a b) (n : Fin 100000) : val_main_v5 (F := Ideal) a (ix2 n (0 : Fin 1)) = BitVec.ofNat 32 (ut h n).val := by
  rw [val_main_v5_apply, val_main_v4_apply, val_main_v1_apply, val_main_v0_apply, val_main_c_apply, at1_ix a n _ rfl]
  have h1 := h.ut n.val n.isLt
  rw [word_kept _ _ (by omega)]
  exact word_eq _ _ rfl

theorem x0_at (h : Ok a b) (e : FVec Ideal S143x128 .f32) (n : Fin 100000) (j : Fin 128) :
    (val_main_v6 (F := Ideal) a e (ix2 n j) : EReal) = X0 h e n j :=
  Routing.gather_row gather_S143x128_S100000x1_S100000x128_1_0_n_n_0_1_1128 rfl rfl rfl rfl rfl e _ n j (ut h n) (type_word h n) (by norm_num)

theorem seg0_at (h : Ok a b) (e : FVec Ideal S143x128 .f32) (g : Fin 512) (j : Fin 128) :
    (val_main_v9 (F := Ideal) a b e (ix2 g j) : EReal) = Alg.seg (sg h) (X0 h e) g j := by
  refine (Segsum.scatterAdd_rows scatter_S512x128_S100000x1_S100000x128_1_0_0_1.wf _ _ _ g j).trans ?_
  have e0 : (val_main_v7 (F := Ideal) (ix2 g j) : EReal) = 0 := by
    rw [val_main_v7_apply]; exact zero_bits
  rw [show (val_main_v7 (F := Ideal) (ix2 g j) : EReal) = 0 from e0, zero_add]
  refine Finset.sum_congr rfl fun n _ => ?_
  exact if_congr (seg_iff h n g _ (by rw [val_main_v8_apply]; exact at1_ix b n _ rfl)) (x0_at h e n j) rfl

theorem cnt0_at (h : Ok a b) (g : Fin 512) : (val_main_v13 (F := Ideal) b (ix2 g (0 : Fin 1)) : EReal) = Alg.cnt (sg h) g := by
  refine (Segsum.scatterAdd_rows scatter_S512x1_S100000x1_S100000x1_1_0_0_1.wf _ _ _ g (0 : Fin 1)).trans ?_
  have e0 : (val_main_v11 (F := Ideal) (ix2 g (0 : Fin 1)) : EReal) = 0 := by
    rw [val_main_v11_apply]; exact zero_bits
  rw [show (val_main_v11 (F := Ideal) (ix2 g (0 : Fin 1)) : EReal) = 0 from e0, zero_add]
  refine Finset.sum_congr rfl fun n _ => ?_
  exact if_congr (seg_iff h n g _ (by rw [val_main_v12_apply]; exact at1_ix b n _ rfl)) (by rw [val_main_v10_apply]; exact one_bits) rfl

theorem mean0_at (h : Ok a b) (e : FVec Ideal S143x128 .f32) (g : Fin 512) (j : Fin 128) :
    (val_main_v17 (F := Ideal) a b e (ix2 g j) : EReal) = Alg.mean (sg h) (X0 h e) g j := by
  rw [val_main_v17_apply, val_main_v16_apply, val_main_v15_apply]
  have e1 : (val_main_v14 (F := Ideal) (idx_main_v16 (ix2 g j)) : EReal) = 1 := by
    rw [val_main_v14_apply]; exact one_bits
  have ei : idx_main_v16 (ix2 g j) = ix2 g (0 : Fin 1) := funext fun a => match a with
    | ⟨0, _⟩ => rfl
    | ⟨1, _⟩ => rfl
  show Ideal.div (val_main_v9 (F := Ideal) a b e (ix2 g j) : EReal) (max (val_main_v13 (F := Ideal) b (idx_main_v16 (ix2 g j)) : EReal) (val_main_v14 (F := Ideal) (idx_main_v16 (ix2 g j)) : EReal)) = _
  rw [e1, ei, seg0_at h, cnt0_at h]
  rfl

theorem graph_word0 (h : Ok a b) (n : Fin 100000) : val_main_v23 (F := Ideal) b (ix2 n (0 : Fin 1)) = BitVec.ofNat 32 (sg h n).val := by
  rw [val_main_v23_apply, val_main_v22_apply, val_main_v19_apply, val_main_v18_apply, val_main_c_4_apply, at1_ix b n _ rfl]
  have h1 := h.seg n.val n.isLt
  rw [word_kept _ _ (by omega)]
  exact word_eq _ _ rfl

theorem row0_at (h : Ok a b) (e : FVec Ideal S143x128 .f32) (n : Fin 100000) (j : Fin 128) :
    (val_main_v27 (F := Ideal) a b e (ix2 n j) : EReal) = X0 h e n j + Alg.mean (sg h) (X0 h e) (sg h n) j := by
  rw [val_main_v27_apply, val_main_v26_apply]
  have e1 : (val_main_v25 (F := Ideal) (ix2 n j) : EReal) = 1 := by
    rw [val_main_v25_apply]; exact one_bits
  have eg : (val_main_v24 (F := Ideal) a b e (ix2 n j) : EReal) = val_main_v17 (F := Ideal) a b e (ix2 (sg h n) j) :=
    Routing.gather_row gather_S512x128_S100000x1_S100000x128_1_0_n_n_0_1_1128 rfl rfl rfl rfl rfl _ _ n j (sg h n) (graph_word0 h n) (by norm_num)
  show (val_main_v25 (F := Ideal) (ix2 n j) : EReal) * (val_main_v6 (F := Ideal) a e (ix2 n j) : EReal) + (val_main_v24 (F := Ideal) a b e (ix2 n j) : EReal) = _
  rw [e1, eg, mean0_at h, one_mul, x0_at h]

theorem h0_at (h : Ok a b) (e : FVec Ideal S143x128 .f32) (w3 : FVec Ideal S128x128 .f32) (b4 : FVec Ideal S128 .f32) (n : Fin 100000) (k : Fin 128) :
    (val_main_v33 (F := Ideal) a b e w3 b4 (ix2 n k) : EReal) = H0 h e w3 b4 n k := by
  rw [val_main_v33_apply, val_main_v31_apply, val_main_v28_apply, val_main_v30_apply, val_main_v29_apply]
  refine congrArg₂ (max : EReal → EReal → EReal) (congrArg₂ (· + · : EReal → EReal → EReal) (Finset.sum_congr rfl fun j _ => congrArg₂ (· * · : EReal → EReal → EReal) ?_ (congrArg w3 ?_)) (congrArg b4 ?_)) ?_
  · have hl : lidx_main_v28 (ix2 n k) j = ix2 n j := funext fun a => match a with
      | ⟨0, _⟩ => rfl
      | ⟨1, _⟩ => rfl
    rw [hl]
    exact row0_at h e n j
  · exact funext fun a => match a with
      | ⟨0, _⟩ => rfl
      | ⟨1, _⟩ => rfl
  · exact funext fun a => match a with
      | ⟨0, _⟩ => rfl
  · rw [val_main_v32_apply]; exact zero_bits

theorem x1_at (h : Ok a b) (e : FVec Ideal S143x128 .f32) (w3 : FVec Ideal S128x128 .f32) (b4 : FVec Ideal S128 .f32) (w5 : FVec Ideal S128x256 .f32) (b6 : FVec Ideal S256 .f32) (n : Fin 100000) (k : Fin 256) :
    (val_main_v37 (F := Ideal) a b e w3 b4 w5 b6 (ix2 n k) : EReal) = X1 h e w3 b4 w5 b6 n k := by
  rw [val_main_v37_apply, val_main_v34_apply, val_main_v36_apply, val_main_v35_apply]
  refine congrArg₂ (· + · : EReal → EReal → EReal) (Finset.sum_congr rfl fun j _ => congrArg₂ (· * · : EReal → EReal → EReal) ?_ (congrArg w5 ?_)) (congrArg b6 ?_)
  · have hl : lidx_main_v34 (ix2 n k) j = ix2 n j := funext fun a => match a with
      | ⟨0, _⟩ => rfl
      | ⟨1, _⟩ => rfl
    rw [hl]
    exact h0_at h e w3 b4 n j
  · exact funext fun a => match a with
      | ⟨0, _⟩ => rfl
      | ⟨1, _⟩ => rfl
  · exact funext fun a => match a with
      | ⟨0, _⟩ => rfl

theorem seg1_at (h : Ok a b) (e : FVec Ideal S143x128 .f32) (w3 : FVec Ideal S128x128 .f32) (b4 : FVec Ideal S128 .f32) (w5 : FVec Ideal S128x256 .f32) (b6 : FVec Ideal S256 .f32) (g : Fin 512) (j : Fin 256) :
    (val_main_v40 (F := Ideal) a b e w3 b4 w5 b6 (ix2 g j) : EReal) = Alg.seg (sg h) (X1 h e w3 b4 w5 b6) g j := by
  refine (Segsum.scatterAdd_rows scatter_S512x256_S100000x1_S100000x256_1_0_0_1.wf _ _ _ g j).trans ?_
  have e0 : (val_main_v38 (F := Ideal) (ix2 g j) : EReal) = 0 := by
    rw [val_main_v38_apply]; exact zero_bits
  rw [show (val_main_v38 (F := Ideal) (ix2 g j) : EReal) = 0 from e0, zero_add]
  refine Finset.sum_congr rfl fun n _ => ?_
  exact if_congr (seg_iff h n g _ (by rw [val_main_v39_apply]; exact at1_ix b n _ rfl)) (x1_at h e w3 b4 w5 b6 n j) rfl

theorem cnt1_at (h : Ok a b) (g : Fin 512) : (val_main_v44 (F := Ideal) b (ix2 g (0 : Fin 1)) : EReal) = Alg.cnt (sg h) g := by
  refine (Segsum.scatterAdd_rows scatter_S512x1_S100000x1_S100000x1_1_0_0_1.wf _ _ _ g (0 : Fin 1)).trans ?_
  have e0 : (val_main_v42 (F := Ideal) (ix2 g (0 : Fin 1)) : EReal) = 0 := by
    rw [val_main_v42_apply]; exact zero_bits
  rw [show (val_main_v42 (F := Ideal) (ix2 g (0 : Fin 1)) : EReal) = 0 from e0, zero_add]
  refine Finset.sum_congr rfl fun n _ => ?_
  exact if_congr (seg_iff h n g _ (by rw [val_main_v43_apply]; exact at1_ix b n _ rfl)) (by rw [val_main_v41_apply]; exact one_bits) rfl

theorem mean1_at (h : Ok a b) (e : FVec Ideal S143x128 .f32) (w3 : FVec Ideal S128x128 .f32) (b4 : FVec Ideal S128 .f32) (w5 : FVec Ideal S128x256 .f32) (b6 : FVec Ideal S256 .f32) (g : Fin 512) (j : Fin 256) :
    (val_main_v48 (F := Ideal) a b e w3 b4 w5 b6 (ix2 g j) : EReal) = Alg.mean (sg h) (X1 h e w3 b4 w5 b6) g j := by
  rw [val_main_v48_apply, val_main_v47_apply, val_main_v46_apply]
  have e1 : (val_main_v45 (F := Ideal) (idx_main_v47 (ix2 g j)) : EReal) = 1 := by
    rw [val_main_v45_apply]; exact one_bits
  have ei : idx_main_v47 (ix2 g j) = ix2 g (0 : Fin 1) := funext fun a => match a with
    | ⟨0, _⟩ => rfl
    | ⟨1, _⟩ => rfl
  show Ideal.div (val_main_v40 (F := Ideal) a b e w3 b4 w5 b6 (ix2 g j) : EReal) (max (val_main_v44 (F := Ideal) b (idx_main_v47 (ix2 g j)) : EReal) (val_main_v45 (F := Ideal) (idx_main_v47 (ix2 g j)) : EReal)) = _
  rw [e1, ei, seg1_at h, cnt1_at h]
  rfl

theorem graph_word1 (h : Ok a b) (n : Fin 100000) : val_main_v54 (F := Ideal) b (ix2 n (0 : Fin 1)) = BitVec.ofNat 32 (sg h n).val := by
  rw [val_main_v54_apply, val_main_v53_apply, val_main_v50_apply, val_main_v49_apply, val_main_c_12_apply, at1_ix b n _ rfl]
  have h1 := h.seg n.val n.isLt
  rw [word_kept _ _ (by omega)]
  exact word_eq _ _ rfl

theorem row1_at (h : Ok a b) (e : FVec Ideal S143x128 .f32) (w3 : FVec Ideal S128x128 .f32) (b4 : FVec Ideal S128 .f32) (w5 : FVec Ideal S128x256 .f32) (b6 : FVec Ideal S256 .f32) (n : Fin 100000) (j : Fin 256) :
    (val_main_v58 (F := Ideal) a b e w3 b4 w5 b6 (ix2 n j) : EReal) = X1 h e w3 b4 w5 b6 n j + Alg.mean (sg h) (X1 h e w3 b4 w5 b6) (sg h n) j := by
  rw [val_main_v58_apply, val_main_v57_apply]
  have e1 : (val_main_v56 (F := Ideal) (ix2 n j) : EReal) = 1 := by
    rw [val_main_v56_apply]; exact one_bits
  have eg : (val_main_v55 (F := Ideal) a b e w3 b4 w5 b6 (ix2 n j) : EReal) = val_main_v48 (F := Ideal) a b e w3 b4 w5 b6 (ix2 (sg h n) j) :=
    Routing.gather_row gather_S512x256_S100000x1_S100000x256_1_0_n_n_0_1_1256 rfl rfl rfl rfl rfl _ _ n j (sg h n) (graph_word1 h n) (by norm_num)
  show (val_main_v56 (F := Ideal) (ix2 n j) : EReal) * (val_main_v37 (F := Ideal) a b e w3 b4 w5 b6 (ix2 n j) : EReal) + (val_main_v55 (F := Ideal) a b e w3 b4 w5 b6 (ix2 n j) : EReal) = _
  rw [e1, eg, mean1_at h, one_mul, x1_at h]

theorem h1_at (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (n : Fin 100000) (k : Fin 256) :
    (val_main_v64 (F := Ideal) a b e w3 b4 w5 b6 w7 b8 (ix2 n k) : EReal) = H1 h e w3 b4 w5 b6 w7 b8 n k := by
  rw [val_main_v64_apply, val_main_v62_apply, val_main_v59_apply, val_main_v61_apply, val_main_v60_apply]
  refine congrArg₂ (max : EReal → EReal → EReal) (congrArg₂ (· + · : EReal → EReal → EReal) (Finset.sum_congr rfl fun j _ => congrArg₂ (· * · : EReal → EReal → EReal) ?_ (congrArg w7 ?_)) (congrArg b8 ?_)) ?_
  · have hl : lidx_main_v59 (ix2 n k) j = ix2 n j := funext fun a => match a with
      | ⟨0, _⟩ => rfl
      | ⟨1, _⟩ => rfl
    rw [hl]
    exact row1_at h e w3 b4 w5 b6 n j
  · exact funext fun a => match a with
      | ⟨0, _⟩ => rfl
      | ⟨1, _⟩ => rfl
  · exact funext fun a => match a with
      | ⟨0, _⟩ => rfl
  · rw [val_main_v63_apply]; exact zero_bits

theorem x2_at (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (n : Fin 100000) (k : Fin 256) :
    (val_main_v68 (F := Ideal) a b e w3 b4 w5 b6 w7 b8 w9 b10 (ix2 n k) : EReal) = X2 h e w3 b4 w5 b6 w7 b8 w9 b10 n k := by
  rw [val_main_v68_apply, val_main_v65_apply, val_main_v67_apply, val_main_v66_apply]
  refine congrArg₂ (· + · : EReal → EReal → EReal) (Finset.sum_congr rfl fun j _ => congrArg₂ (· * · : EReal → EReal → EReal) ?_ (congrArg w9 ?_)) (congrArg b10 ?_)
  · have hl : lidx_main_v65 (ix2 n k) j = ix2 n j := funext fun a => match a with
      | ⟨0, _⟩ => rfl
      | ⟨1, _⟩ => rfl
    rw [hl]
    exact h1_at h e w3 b4 w5 b6 w7 b8 n j
  · exact funext fun a => match a with
      | ⟨0, _⟩ => rfl
      | ⟨1, _⟩ => rfl
  · exact funext fun a => match a with
      | ⟨0, _⟩ => rfl

theorem seg2_at (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (g : Fin 512) (j : Fin 256) :
    (val_main_v71 (F := Ideal) a b e w3 b4 w5 b6 w7 b8 w9 b10 (ix2 g j) : EReal) = Alg.seg (sg h) (X2 h e w3 b4 w5 b6 w7 b8 w9 b10) g j := by
  refine (Segsum.scatterAdd_rows scatter_S512x256_S100000x1_S100000x256_1_0_0_1.wf _ _ _ g j).trans ?_
  have e0 : (val_main_v69 (F := Ideal) (ix2 g j) : EReal) = 0 := by
    rw [val_main_v69_apply]; exact zero_bits
  rw [show (val_main_v69 (F := Ideal) (ix2 g j) : EReal) = 0 from e0, zero_add]
  refine Finset.sum_congr rfl fun n _ => ?_
  exact if_congr (seg_iff h n g _ (by rw [val_main_v70_apply]; exact at1_ix b n _ rfl)) (x2_at h e w3 b4 w5 b6 w7 b8 w9 b10 n j) rfl

theorem cnt2_at (h : Ok a b) (g : Fin 512) : (val_main_v75 (F := Ideal) b (ix2 g (0 : Fin 1)) : EReal) = Alg.cnt (sg h) g := by
  refine (Segsum.scatterAdd_rows scatter_S512x1_S100000x1_S100000x1_1_0_0_1.wf _ _ _ g (0 : Fin 1)).trans ?_
  have e0 : (val_main_v73 (F := Ideal) (ix2 g (0 : Fin 1)) : EReal) = 0 := by
    rw [val_main_v73_apply]; exact zero_bits
  rw [show (val_main_v73 (F := Ideal) (ix2 g (0 : Fin 1)) : EReal) = 0 from e0, zero_add]
  refine Finset.sum_congr rfl fun n _ => ?_
  exact if_congr (seg_iff h n g _ (by rw [val_main_v74_apply]; exact at1_ix b n _ rfl)) (by rw [val_main_v72_apply]; exact one_bits) rfl

theorem mean2_at (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (g : Fin 512) (j : Fin 256) :
    (val_main_v79 (F := Ideal) a b e w3 b4 w5 b6 w7 b8 w9 b10 (ix2 g j) : EReal) = Alg.mean (sg h) (X2 h e w3 b4 w5 b6 w7 b8 w9 b10) g j := by
  rw [val_main_v79_apply, val_main_v78_apply, val_main_v77_apply]
  have e1 : (val_main_v76 (F := Ideal) (idx_main_v78 (ix2 g j)) : EReal) = 1 := by
    rw [val_main_v76_apply]; exact one_bits
  have ei : idx_main_v78 (ix2 g j) = ix2 g (0 : Fin 1) := funext fun a => match a with
    | ⟨0, _⟩ => rfl
    | ⟨1, _⟩ => rfl
  show Ideal.div (val_main_v71 (F := Ideal) a b e w3 b4 w5 b6 w7 b8 w9 b10 (ix2 g j) : EReal) (max (val_main_v75 (F := Ideal) b (idx_main_v78 (ix2 g j)) : EReal) (val_main_v76 (F := Ideal) (idx_main_v78 (ix2 g j)) : EReal)) = _
  rw [e1, ei, seg2_at h, cnt2_at h]
  rfl

theorem graph_word2 (h : Ok a b) (n : Fin 100000) : val_main_v85 (F := Ideal) b (ix2 n (0 : Fin 1)) = BitVec.ofNat 32 (sg h n).val := by
  rw [val_main_v85_apply, val_main_v84_apply, val_main_v81_apply, val_main_v80_apply, val_main_c_20_apply, at1_ix b n _ rfl]
  have h1 := h.seg n.val n.isLt
  rw [word_kept _ _ (by omega)]
  exact word_eq _ _ rfl

theorem row2_at (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (n : Fin 100000) (j : Fin 256) :
    (val_main_v89 (F := Ideal) a b e w3 b4 w5 b6 w7 b8 w9 b10 (ix2 n j) : EReal) = X2 h e w3 b4 w5 b6 w7 b8 w9 b10 n j + Alg.mean (sg h) (X2 h e w3 b4 w5 b6 w7 b8 w9 b10) (sg h n) j := by
  rw [val_main_v89_apply, val_main_v88_apply]
  have e1 : (val_main_v87 (F := Ideal) (ix2 n j) : EReal) = 1 := by
    rw [val_main_v87_apply]; exact one_bits
  have eg : (val_main_v86 (F := Ideal) a b e w3 b4 w5 b6 w7 b8 w9 b10 (ix2 n j) : EReal) = val_main_v79 (F := Ideal) a b e w3 b4 w5 b6 w7 b8 w9 b10 (ix2 (sg h n) j) :=
    Routing.gather_row gather_S512x256_S100000x1_S100000x256_1_0_n_n_0_1_1256 rfl rfl rfl rfl rfl _ _ n j (sg h n) (graph_word2 h n) (by norm_num)
  show (val_main_v87 (F := Ideal) (ix2 n j) : EReal) * (val_main_v68 (F := Ideal) a b e w3 b4 w5 b6 w7 b8 w9 b10 (ix2 n j) : EReal) + (val_main_v86 (F := Ideal) a b e w3 b4 w5 b6 w7 b8 w9 b10 (ix2 n j) : EReal) = _
  rw [e1, eg, mean2_at h, one_mul, x2_at h]

theorem h2_at (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (w11 : FVec Ideal S256x256 .f32) (b12 : FVec Ideal S256 .f32) (n : Fin 100000) (k : Fin 256) :
    (val_main_v95 (F := Ideal) a b e w3 b4 w5 b6 w7 b8 w9 b10 w11 b12 (ix2 n k) : EReal) = H2 h e w3 b4 w5 b6 w7 b8 w9 b10 w11 b12 n k := by
  rw [val_main_v95_apply, val_main_v93_apply, val_main_v90_apply, val_main_v92_apply, val_main_v91_apply]
  refine congrArg₂ (max : EReal → EReal → EReal) (congrArg₂ (· + · : EReal → EReal → EReal) (Finset.sum_congr rfl fun j _ => congrArg₂ (· * · : EReal → EReal → EReal) ?_ (congrArg w11 ?_)) (congrArg b12 ?_)) ?_
  · have hl : lidx_main_v90 (ix2 n k) j = ix2 n j := funext fun a => match a with
      | ⟨0, _⟩ => rfl
      | ⟨1, _⟩ => rfl
    rw [hl]
    exact row2_at h e w3 b4 w5 b6 w7 b8 w9 b10 n j
  · exact funext fun a => match a with
      | ⟨0, _⟩ => rfl
      | ⟨1, _⟩ => rfl
  · exact funext fun a => match a with
      | ⟨0, _⟩ => rfl
  · rw [val_main_v94_apply]; exact zero_bits

theorem x3_at (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (w11 : FVec Ideal S256x256 .f32) (b12 : FVec Ideal S256 .f32) (w13 : FVec Ideal S256x256 .f32) (b14 : FVec Ideal S256 .f32) (n : Fin 100000) (k : Fin 256) :
    (val_main_v99 (F := Ideal) a b e w3 b4 w5 b6 w7 b8 w9 b10 w11 b12 w13 b14 (ix2 n k) : EReal) = X3 h e w3 b4 w5 b6 w7 b8 w9 b10 w11 b12 w13 b14 n k := by
  rw [val_main_v99_apply, val_main_v96_apply, val_main_v98_apply, val_main_v97_apply]
  refine congrArg₂ (· + · : EReal → EReal → EReal) (Finset.sum_congr rfl fun j _ => congrArg₂ (· * · : EReal → EReal → EReal) ?_ (congrArg w13 ?_)) (congrArg b14 ?_)
  · have hl : lidx_main_v96 (ix2 n k) j = ix2 n j := funext fun a => match a with
      | ⟨0, _⟩ => rfl
      | ⟨1, _⟩ => rfl
    rw [hl]
    exact h2_at h e w3 b4 w5 b6 w7 b8 w9 b10 w11 b12 n j
  · exact funext fun a => match a with
      | ⟨0, _⟩ => rfl
      | ⟨1, _⟩ => rfl
  · exact funext fun a => match a with
      | ⟨0, _⟩ => rfl

/-- The graphs' features: the last rows, summed by graph. -/
theorem graph_at (h : Ok a b) (e : FVec Ideal S143x128 .f32) (w3 : FVec Ideal S128x128 .f32) (b4 : FVec Ideal S128 .f32) (w5 : FVec Ideal S128x256 .f32) (b6 : FVec Ideal S256 .f32) (w7 : FVec Ideal S256x256 .f32) (b8 : FVec Ideal S256 .f32) (w9 : FVec Ideal S256x256 .f32) (b10 : FVec Ideal S256 .f32) (w11 : FVec Ideal S256x256 .f32) (b12 : FVec Ideal S256 .f32) (w13 : FVec Ideal S256x256 .f32) (b14 : FVec Ideal S256 .f32) (g : Fin 512) (j : Fin 256) :
    (val_main_v102 (F := Ideal) a b e w3 b4 w5 b6 w7 b8 w9 b10 w11 b12 w13 b14 (ix2 g j) : EReal) = Alg.seg (sg h) (X3 h e w3 b4 w5 b6 w7 b8 w9 b10 w11 b12 w13 b14) g j := by
  refine (Segsum.scatterAdd_rows scatter_S512x256_S100000x1_S100000x256_1_0_0_1.wf _ _ _ g j).trans ?_
  have e0 : (val_main_v100 (F := Ideal) (ix2 g j) : EReal) = 0 := by
    rw [val_main_v100_apply]; exact zero_bits
  rw [show (val_main_v100 (F := Ideal) (ix2 g j) : EReal) = 0 from e0, zero_add]
  refine Finset.sum_congr rfl fun n _ => ?_
  exact if_congr (seg_iff h n g _ (by rw [val_main_v101_apply]; exact at1_ix b n _ rfl)) (x3_at h e w3 b4 w5 b6 w7 b8 w9 b10 w11 b12 w13 b14 n j) rfl

end Cert.Proof.Ref

end
-- ==== Proof.Final.lean ====
/-
  Layer by layer, what the kernel leaves is the reference's.
-/
module

public import proofs.«01_k».proof.Proof.Reads
public import proofs.«01_k».proof.Proof.Vals
public import proofs.«01_k».proof.Proof.Ref

@[expose] public section

set_option maxRecDepth 16384

noncomputable section

namespace Cert.Proof.Final

open Cert.KernelIdeal Cert.KernelIdeal.Gen Cert.Proof.Sc Cert.Proof.Run Cert.Proof.Words Cert.Proof.Reads Cert.Proof.Ref
open Idealize.ShloMosaic Idealize.ShloMosaic.TcCoe Idealize.ShloMosaic.StableHlo Idealize.SL.Sem

local notation "𝕀" => Idealize.ShloMosaic.Ideal

theorem ix2_eq {s0 s1 : Nat} (a : Fin s0) (b : Fin s1) : (ix2 a b : (⟨2, ![s0, s1]⟩ : Shape).Idx) = ValueIdx.ix2 a b := rfl

variable (m : (ℓ : Loc nD τ sig) → Buf (Elt 𝕀) ℓ) (c : Dev nD)

/-! ## The arguments -/

abbrev E : FVec 𝕀 S143x128 .f32 := m (c, dr main_arg2)
abbrev A3 : FVec 𝕀 S128x128 .f32 := m (c, dr main_arg3)
abbrev A4 : FVec 𝕀 S128 .f32 := m (c, dr main_arg4)
abbrev A5 : FVec 𝕀 S128x256 .f32 := m (c, dr main_arg5)
abbrev A6 : FVec 𝕀 S256 .f32 := m (c, dr main_arg6)
abbrev A7 : FVec 𝕀 S256x256 .f32 := m (c, dr main_arg7)
abbrev A8 : FVec 𝕀 S256 .f32 := m (c, dr main_arg8)
abbrev A9 : FVec 𝕀 S256x256 .f32 := m (c, dr main_arg9)
abbrev A10 : FVec 𝕀 S256 .f32 := m (c, dr main_arg10)
abbrev A11 : FVec 𝕀 S256x256 .f32 := m (c, dr main_arg11)
abbrev A12 : FVec 𝕀 S256 .f32 := m (c, dr main_arg12)
abbrev A13 : FVec 𝕀 S256x256 .f32 := m (c, dr main_arg13)
abbrev A14 : FVec 𝕀 S256 .f32 := m (c, dr main_arg14)

variable {m} {c} (h : Ok (m (c, dr main_arg0)) (m (c, dr main_arg1)))

/-! ## The words and the table -/

/-- The table of counts: at graph `r` and type `u`, the number of rows of that graph and type. -/
theorem result_count (r : Fin 512) (u : Fin 144) :
    (V4 m c (dr main_v9) (ix2 r u) : EReal) = ∑ n : Fin 100000, if sg h n = r ∧ ut' h n = u then (1 : EReal) else 0 := by
  rw [result_eq, ix2_eq, Count.tables_sum (V3 m) c (given m c) (fun j => by rw [Words.given_z]; exact Count.zero_bits) (table_eq m c) r u]
  refine (Count.lanes (given m c) _ _ h (Words.given_u m c) (Words.given_s m c) r u).trans (Finset.sum_congr rfl fun n _ => ?_)
  simp only [Fin.ext_iff]
  rfl

/-- What every layer is entered with. -/
theorem graphs5 : Vals.Graphs (V5 m) c (sg h) (ut' h) where
  s_in T r n hn := by
    rw [graphs_word, ← hn]
    exact (congrArg BitVec.toNat (at1_pad_in _ _ _ _ _ n.isLt)).trans rfl
  s_out T r hn := by
    rw [graphs_word]
    exact at1_pad_out _ _ _ _ _ hn (by have := T.isLt; have := r.isLt; omega)
  table g v := by rw [v9_5]; exact result_count h g v

theorem graphs7 : Vals.Graphs (V7 m) c (sg h) (ut' h) where
  s_in T r n hn := by rw [v3_7]; exact (graphs5 h).s_in T r n hn
  s_out T r hn := by rw [v3_7]; exact (graphs5 h).s_out T r hn
  table g v := by rw [v9_7]; exact (graphs5 h).table g v

theorem graphs9 : Vals.Graphs (V9 m) c (sg h) (ut' h) where
  s_in T r n hn := by rw [v3_9]; exact (graphs7 h).s_in T r n hn
  s_out T r hn := by rw [v3_9]; exact (graphs7 h).s_out T r hn
  table g v := by rw [v9_9]; exact (graphs7 h).table g v

/-! ## Layer 0 -/

abbrev e144 (m : (ℓ : Loc nD τ sig) → Buf (Elt 𝕀) ℓ) (c : Dev nD) (v : Fin 144) (j : Fin 128) : EReal := V5 m c (dr main_v5) (ix2 v j)

theorem e144_eq : (fun n j => e144 m c (ut' h n) j) = X0 h (E m c) := by
  funext n j
  exact emb_at m c (ut' h n) (ut h n) rfl j

theorem in0 : Vals.In0 (sg h) (ut' h) (V5 m) c (e144 m c) (mat (A3 m c)) (vec (A4 m c)) (mat (A5 m c)) (vec (A6 m c)) where
  graphs := graphs5 h
  types T r n hn := by rw [types_in m c T r n hn]; rfl
  hE _ _ := rfl
  hWa j k := v10_at m c j k
  hBa k := v11_at m c k
  hWb j k := v12_at m c j k
  hBb k := v13_at m c k

variable (f : Finite (E m c) (A3 m c) (A5 m c) (A7 m c) (A9 m c) (A11 m c))
include f

theorem unif0 (j : Fin 128) : Alg.Unif fun n => e144 m c (ut' h n) j := by
  have e : (fun n => e144 m c (ut' h n) j) = fun n => X0 h (E m c) n j := funext fun n => congrFun (congrFun (e144_eq h) n) j
  rw [e]
  exact .inl fun n => f.e _

theorem rows0 (q : Fin 102400) (n : Fin 100000) (hq : q.val = n.val) (p : Fin 256) :
    (V7 m c (dr main_v14_0) (ix2 q p) : EReal) = X1 h (E m c) (A3 m c) (A4 m c) (A5 m c) (A6 m c) n p := by
  rw [v14_0_7]
  refine ((in0 h).rows_at (unif0 h f) (fun j k => f.w3 _) q n hq p).trans ?_
  rw [e144_eq]
  rfl

theorem sums0 (g : Fin 512) (k : Fin 128) : (V7 m c (dr main_v14_1) (ix2 g k) : EReal) = Alg.seg (sg h) (H0 h (E m c) (A3 m c) (A4 m c)) g k := by
  rw [v14_1_7]
  refine ((in0 h).sums_at (unif0 h f) (fun j k => f.w3 _) g k).trans ?_
  rw [e144_eq]
  rfl

/-! ## Layer 1 -/

theorem unif1 (p : Fin 256) : Alg.Unif fun n => X1 h (E m c) (A3 m c) (A4 m c) (A5 m c) (A6 m c) n p :=
  Alg.unif_lin _ _ _ (fun i => Alg.unif_hid (sg h) _ _ _ (fun j => .inl fun n => f.e _) (fun j k => f.w3 _) i) (fun i p => f.w5 _) p

theorem in1 : Vals.In1 (sg h) (ut' h) (V7 m) c (Alg.seg (sg h) (H0 h (E m c) (A3 m c) (A4 m c))) (mat (A5 m c)) (vec (A6 m c))
    (X1 h (E m c) (A3 m c) (A4 m c) (A5 m c) (A6 m c)) (mat (A7 m c)) (vec (A8 m c)) (mat (A9 m c)) (vec (A10 m c)) where
  graphs := graphs7 h
  hX q n hq j := rows0 h f q n hq j
  hY g i := sums0 h f g i
  hPw i j := v15_at m c i j
  hPb j := v16_at m c j
  sums g j := Alg.seg_lin (sg h) _ (fun n i => Alg.hid_nonneg (sg h) _ _ _ n i) _ _ g j
  hWa j k := v17_at m c j k
  hBa k := v18_at m c k
  hWb j k := v19_at m c j k
  hBb k := v20_at m c k

theorem rows1 (q : Fin 102400) (n : Fin 100000) (hq : q.val = n.val) (p : Fin 256) :
    (V9 m c (dr main_v21_0) (ix2 q p) : EReal) = X2 h (E m c) (A3 m c) (A4 m c) (A5 m c) (A6 m c) (A7 m c) (A8 m c) (A9 m c) (A10 m c) n p := by
  rw [v21_0_9]
  exact (in1 h f).rows_at (unif1 h f) (fun j k => f.w7 _) q n hq p

theorem sums1 (g : Fin 512) (k : Fin 256) : (V9 m c (dr main_v21_1) (ix2 g k) : EReal)
    = Alg.seg (sg h) (X2 h (E m c) (A3 m c) (A4 m c) (A5 m c) (A6 m c) (A7 m c) (A8 m c) (A9 m c) (A10 m c)) g k := by
  rw [v21_1_9]
  exact (in1 h f).sums_at (unif1 h f) (fun j k => f.w7 _) g k

/-! ## Layer 2 -/

theorem unif2 (p : Fin 256) : Alg.Unif fun n => X2 h (E m c) (A3 m c) (A4 m c) (A5 m c) (A6 m c) (A7 m c) (A8 m c) (A9 m c) (A10 m c) n p :=
  Alg.unif_lin _ _ _ (fun i => Alg.unif_hid (sg h) _ _ _ (unif1 h f) (fun j k => f.w7 _) i) (fun i p => f.w9 _) p

theorem in2 : Vals.In2 (sg h) (ut' h) (V9 m) c (X2 h (E m c) (A3 m c) (A4 m c) (A5 m c) (A6 m c) (A7 m c) (A8 m c) (A9 m c) (A10 m c))
    (mat (A11 m c)) (vec (A12 m c)) (mat (A13 m c)) (vec (A14 m c)) where
  graphs := graphs9 h
  hX q n hq j := rows1 h f q n hq j
  sums g j := sums1 h f g j
  hWa j k := v24_at m c j k
  hBa k := v25_at m c k
  hWb j k := v26_at m c j k
  hBb k := v27_at m c k

/-! ## The two results -/

include h

/-- The rows the kernel leaves are the reference's. -/
theorem nodes : V10 m c (dr main_v28_0) = Cert.ReferenceIdeal.Read.val_main_v99 (F := 𝕀) (m (c, dr main_arg0)) (m (c, dr main_arg1)) (E m c) (A3 m c) (A4 m c)
    (A5 m c) (A6 m c) (A7 m c) (A8 m c) (A9 m c) (A10 m c) (A11 m c) (A12 m c) (A13 m c) (A14 m c) := by
  rw [v28_0_10]
  funext j
  rw [eq_ix2 j]
  exact ((in2 h f).rows_at (unif2 h f) (fun j k => f.w11 _) (j 0) (j 0) rfl (j 1)).trans
    (x3_at h (E m c) (A3 m c) (A4 m c) (A5 m c) (A6 m c) (A7 m c) (A8 m c) (A9 m c) (A10 m c) (A11 m c) (A12 m c) (A13 m c) (A14 m c) (j 0) (j 1)).symm

/-- The sums by graph the kernel leaves are the reference's. -/
theorem sums : V10 m c (dr main_v28_1) = Cert.ReferenceIdeal.Read.val_main_v102 (F := 𝕀) (m (c, dr main_arg0)) (m (c, dr main_arg1)) (E m c) (A3 m c) (A4 m c)
    (A5 m c) (A6 m c) (A7 m c) (A8 m c) (A9 m c) (A10 m c) (A11 m c) (A12 m c) (A13 m c) (A14 m c) := by
  rw [v28_1_10]
  funext j
  rw [eq_ix2 j]
  exact ((in2 h f).sums_at (unif2 h f) (fun j k => f.w11 _) (j 0) (j 1)).trans
    (graph_at h (E m c) (A3 m c) (A4 m c) (A5 m c) (A6 m c) (A7 m c) (A8 m c) (A9 m c) (A10 m c) (A11 m c) (A12 m c) (A13 m c) (A14 m c) (j 0) (j 1)).symm

end Cert.Proof.Final

end
-- ==== Proof.Same.lean ====
/-
  The kernel as printed and its idealization are one text: their threads and definitions are equal.
-/
module

public import proofs.«01_k».proof.Proof.Gen.Kernel
public import proofs.«01_k».proof.Proof.Gen.KernelIdeal
public import Idealize.ShloMosaic.Lib.Tactic

@[expose] public section

set_option maxRecDepth 65536
set_option maxHeartbeats 0
noncomputable section

namespace Cert.Proof.Same
open Idealize.ShloMosaic
variable {F : FTy → Type} [FloatOps F]

theorem defs_eq : Cert.Kernel.defs (F := F) = Cert.KernelIdeal.defs (F := F) := by sl_kernel_rfl
theorem threads_eq : Cert.Kernel.threads (F := F) = Cert.KernelIdeal.threads (F := F) := by sl_kernel_rfl
end Cert.Proof.Same
end
-- ==== Proof.lean ====
/-
  The proof of `Cert.Claim` (proofs.«01_k».proof.Defs).
-/
module

public import proofs.«01_k».proof.Defs
public import proofs.«01_k».proof.Proof.Gen.Kernel
public import proofs.«01_k».proof.Proof.Final
public import proofs.«01_k».proof.Proof.Same
public import Idealize.ShloMosaic.Lib.Quiescent

@[expose] public section

set_option maxRecDepth 16384

noncomputable section

namespace Cert.Proof

open Idealize.ShloMosaic Idealize.ShloMosaic.TcCoe Idealize.SL.Sem

/-- What a run that ended says of the arguments: each is what it was. -/
theorem kept {F : FTy → Type} [FloatOps F] (m : (ℓ : Loc Cert.KernelIdeal.nD Cert.KernelIdeal.τ Cert.KernelIdeal.sig) → Buf (Elt F) ℓ) {r} (h : Run.QC (F := F) m r)
    (c : Dev Cert.KernelIdeal.nD) (b : Ref Cert.KernelIdeal.sig .tc) (hb : b ∈ Reads.args) : r.2.mem (c, Run.dr b) = m (c, Run.dr b) :=
  (h.1 c (Run.dr b) ((by decide : ∀ b ∈ Reads.args, Run.dr b ∈ Sc.ucRefs) b hb)).trans (Reads.arg10 m c b hb)

set_option maxHeartbeats 0 in
/-- The kernel's run as printed; its text is the idealized program's. -/
theorem frame_kernel : Cert.quiescent_Kernel := fun m ρ hpre => by
  rw [Same.defs_eq, Same.threads_eq]
  exact (θ_run Cert.KernelIdeal.defs _ _).mono
    (fun r (h : Run.QC (F := Bits) m r) => ⟨fun c => ⟨kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide)⟩, h.2⟩)
    (Run.run_main (F := Bits) m ρ fun d => Words.inRange m d (Words.ok_of_fn (hpre d)))

theorem frame_kernelIdeal : Cert.quiescent_KernelIdeal := fun m ρ hpre =>
  (θ_run Cert.KernelIdeal.defs _ _).mono
    (fun r (h : Run.QC (F := Ideal) m r) => ⟨fun c => ⟨kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide)⟩, h.2⟩)
    (Run.run_main (F := Ideal) m ρ fun d => Words.inRange m d (Words.ok_of_fn (hpre d)))

theorem frame_kernelIdeal_finite : Cert.quiescent_KernelIdeal_pre_finite := fun m ρ hpre =>
  (θ_run Cert.KernelIdeal.defs _ _).mono
    (fun r (h : Run.QC (F := Ideal) m r) => ⟨fun c => ⟨kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide)⟩, h.2⟩)
    (Run.run_main (F := Ideal) m ρ fun d => Words.inRange m d (Words.finite_of_fn (hpre d)).1)

theorem frame_reference : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

theorem algebraic : Cert.algebraic_KernelIdeal_ReferenceIdeal_pre_finite := fun m ρ m' ρ' hpre hm =>
  ⟨fun c => Run.V10 m c (Run.dr Cert.KernelIdeal.main_v28_1), fun c => Run.V10 m c (Run.dr Cert.KernelIdeal.main_v28_0),
    (θ_run Cert.KernelIdeal.defs _ _).mono
      (fun r (h : Run.QC (F := Ideal) m r) c => ⟨h.1 c (Run.dr Cert.KernelIdeal.main_v28_1) (by decide), h.1 c (Run.dr Cert.KernelIdeal.main_v28_0) (by decide),
        kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide), kept m h c _ (by decide)⟩)
      (Run.run_main (F := Ideal) m ρ fun d => Words.inRange m d (Words.finite_of_fn (hpre d)).1),
    (θ_run Cert.ReferenceIdeal.defs _ _).mono
      (fun _ h c => ⟨(h c).1.trans ((Cert.ReferenceIdeal.Read.val_main_v102_eq _ _).trans (by
          obtain ⟨h0, h1, h2, h3, h4, h5, h6, h7, h8, h9, h10, h11, h12, h13, h14⟩ := hm c
          rw [h0, h1, h2, h3, h4, h5, h6, h7, h8, h9, h10, h11, h12, h13, h14]
          exact (Final.sums (Words.finite_of_fn (hpre c)).1 (Words.finite_of_fn (hpre c)).2).symm)),
        (h c).2.1.trans ((Cert.ReferenceIdeal.Read.val_main_v99_eq _ _).trans (by
          obtain ⟨h0, h1, h2, h3, h4, h5, h6, h7, h8, h9, h10, h11, h12, h13, h14⟩ := hm c
          rw [h0, h1, h2, h3, h4, h5, h6, h7, h8, h9, h10, h11, h12, h13, h14]
          exact (Final.nodes (Words.finite_of_fn (hpre c)).1 (Words.finite_of_fn (hpre c)).2).symm)), (h c).2.2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_in_range.Gen.facts, Cert.Pre_finite.Gen.facts,
  frame_kernel, frame_kernelIdeal, frame_kernelIdeal_finite, frame_reference, fun m ρ _ => frame_reference m ρ trivial, trivial, algebraic⟩

end Cert.Proof

end
